-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v51_0)) (v1 : (c : Dev Cert.Kernel2Ideal.nD) → Buf (Elt Ideal) ((c.tc : Thread Cert.Kernel2Ideal.nD Cert.Kernel2Ideal.τ).loc Cert.Kernel2Ideal.main_v51_1)) (v2 : (c : Dev Cert.Kernel2Ideal.nD) → Buf (Elt Ideal) ((c.tc : Thread Cert.Kernel2Ideal.nD Cert.Kernel2Ideal.τ).loc Cert.Kernel2Ideal.main_v51_2)) (v3 : (c : Dev Cert.Kernel2Ideal.nD) → Buf (Elt Ideal) ((c.tc : Thread Cert.Kernel2Ideal.nD Cert.Kernel2Ideal.τ).loc Cert.Kernel2Ideal.main_v51_3)) (v4 : (c : Dev Cert.Kernel2Ideal.nD) → Buf (Elt Ideal) ((c.tc : Thread Cert.Kernel2Ideal.nD Cert.Kernel2Ideal.τ).loc Cert.Kernel2Ideal.main_v51_4)) (v5 : (c : Dev Cert.Kernel2Ideal.nD) → Buf (Elt Ideal) ((c.tc : Thread Cert.Kernel2Ideal.nD Cert.Kernel2Ideal.τ).loc Cert.Kernel2Ideal.main_v51_5)) (v6 : (c : Dev Cert.Kernel2Ideal.nD) → Buf (Elt Ideal) ((c.tc : Thread Cert.Kernel2Ideal.nD Cert.Kernel2Ideal.τ).loc Cert.Kernel2Ideal.main_v51_6)) (v7 : (c : Dev Cert.Kernel2Ideal.nD) → Buf (Elt Ideal) ((c.tc : Thread Cert.Kernel2Ideal.nD Cert.Kernel2Ideal.τ).loc Cert.Kernel2Ideal.main_v51_7)) (v8 : (c : Dev Cert.Kernel2Ideal.nD) → Buf (Elt Ideal) ((c.tc : Thread Cert.Kernel2Ideal.nD Cert.Kernel2Ideal.τ).loc Cert.Kernel2Ideal.main_v51_8)) (v9 : (c : Dev Cert.Kernel2Ideal.nD) → Buf (Elt Ideal) ((c.tc : Thread Cert.Kernel2Ideal.nD Cert.Kernel2Ideal.τ).loc Cert.Kernel2Ideal.main_v51_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v51_0) = v0 c
          ∧ r.2.mem ((c.tc : Thread Cert.Kernel2Ideal.nD Cert.Kernel2Ideal.τ).loc Cert.Kernel2Ideal.main_v51_1) = v1 c
          ∧ r.2.mem ((c.tc : Thread Cert.Kernel2Ideal.nD Cert.Kernel2Ideal.τ).loc Cert.Kernel2Ideal.main_v51_2) = v2 c
          ∧ r.2.mem ((c.tc : Thread Cert.Kernel2Ideal.nD Cert.Kernel2Ideal.τ).loc Cert.Kernel2Ideal.main_v51_3) = v3 c
          ∧ r.2.mem ((c.tc : Thread Cert.Kernel2Ideal.nD Cert.Kernel2Ideal.τ).loc Cert.Kernel2Ideal.main_v51_4) = v4 c
          ∧ r.2.mem ((c.tc : Thread Cert.Kernel2Ideal.nD Cert.Kernel2Ideal.τ).loc Cert.Kernel2Ideal.main_v51_5) = v5 c
          ∧ r.2.mem ((c.tc : Thread Cert.Kernel2Ideal.nD Cert.Kernel2Ideal.τ).loc Cert.Kernel2Ideal.main_v51_6) = v6 c
          ∧ r.2.mem ((c.tc : Thread Cert.Kernel2Ideal.nD Cert.Kernel2Ideal.τ).loc Cert.Kernel2Ideal.main_v51_7) = v7 c
          ∧ r.2.mem ((c.tc : Thread Cert.Kernel2Ideal.nD Cert.Kernel2Ideal.τ).loc Cert.Kernel2Ideal.main_v51_8) = v8 c
          ∧ r.2.mem ((c.tc : Thread Cert.Kernel2Ideal.nD Cert.Kernel2Ideal.τ).loc Cert.Kernel2Ideal.main_v51_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v212) = v0 c
          ∧ r.2.mem ((c.tc : Thread Cert.Reference2Ideal.nD Cert.Reference2Ideal.τ).loc Cert.Reference2Ideal.main_v213) = v1 c
          ∧ r.2.mem ((c.tc : Thread Cert.Reference2Ideal.nD Cert.Reference2Ideal.τ).loc Cert.Reference2Ideal.main_v214) = v2 c
          ∧ r.2.mem ((c.tc : Thread Cert.Reference2Ideal.nD Cert.Reference2Ideal.τ).loc Cert.Reference2Ideal.main_v215) = v3 c
          ∧ r.2.mem ((c.tc : Thread Cert.Reference2Ideal.nD Cert.Reference2Ideal.τ).loc Cert.Reference2Ideal.main_v216) = v4 c
          ∧ r.2.mem ((c.tc : Thread Cert.Reference2Ideal.nD Cert.Reference2Ideal.τ).loc Cert.Reference2Ideal.main_v218) = v5 c
          ∧ r.2.mem ((c.tc : Thread Cert.Reference2Ideal.nD Cert.Reference2Ideal.τ).loc Cert.Reference2Ideal.main_v220) = v6 c
          ∧ r.2.mem ((c.tc : Thread Cert.Reference2Ideal.nD Cert.Reference2Ideal.τ).loc Cert.Reference2Ideal.main_v221) = v7 c
          ∧ r.2.mem ((c.tc : Thread Cert.Reference2Ideal.nD Cert.Reference2Ideal.τ).loc Cert.Reference2Ideal.main_v211) = v8 c
          ∧ r.2.mem ((c.tc : Thread Cert.Reference2Ideal.nD Cert.Reference2Ideal.τ).loc Cert.Reference2Ideal.main_v228) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32x2048x512 : Shape := ⟨3, ![32, 2048, 512]⟩
abbrev S32x4x8x128x256 : Shape := ⟨5, ![32, 4, 8, 128, 256]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x4x8x128x256 : S_.BroadcastsInDim S32x4x8x128x256 (![] : Fin 0 → Fin S32x4x8x128x256.rank)
  reducesTo_S32x4x8x128x256_S_d0_1_2_3_4 : S32x4x8x128x256.ReducesTo [0, 1, 2, 3, 4] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v31 : IVec S_ 1) (main_v34 : IVec S1x64 1) : IVec S_ 1 :=
  let main_c_11 : IVec S_ 1 := constantI S_ 1 1#1
  let main_v35 : IVec S_ 1 := (fun x v => Host.reduce IntOp.andi x v reducesTo_S1x64_S_d0_1 h_S_) main_v34 main_c_11
  let main_v36 : IVec S_ 1 := andi main_v31 main_v35
  main_v36

def fn_part1 {F : FTy → Type} [FloatOps F] (main_arg4 : FVec F S1x64 .f32) (main_arg5 : FVec F S1x64 .f32) (main_arg6 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  let main_v32 : FVec F S1x64 .f32 := Host.absf main_arg6
  let main_cst_10 : FVec F S_ .f32 := constant S_ .f32 0x7F800000#32
  let main_v33 : FVec F S1x64 .f32 := broadcastInDim S1x64 ![] bcast_S_S1x64 main_cst_10
  let main_v34 : IVec S1x64 1 := cmpf .olt main_v32 main_v33
  fn_part2 (F := F) main_v31 main_v34

def fn {F : FTy → Type} [FloatOps F] (main_arg0 : FVec F S32x2048x512 .bf16) (main_arg1 : FVec F S32x2048x512 .bf16) (main_arg2 : FVec F S32x4x8x128x256 .bf16) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := (extf .f32 · bitsLt_bf16_f32) main_arg1
  let main_v6 : FVec F S32x2048x512 .f32 := Host.absf main_v5
  let main_cst_0 : FVec F S_ .f32 := constant S_ .f32 0x7F800000#32
  let main_v7 : FVec F S32x2048x512 .f32 := broadcastInDim S32x2048x512 ![] bcast_S_S32x2048x512 main_cst_0
  let main_v8 : IVec S32x2048x512 1 := cmpf .olt main_v6 main_v7
  let main_c_1 : IVec S_ 1 := constantI S_ 1 1#1
  let main_v9 : IVec S_ 1 := (fun x v => Host.reduce IntOp.andi x v reducesTo_S32x2048x512_S_d0_1_2 h_S_) main_v8 main_c_1
  let main_v10 : IVec S_ 1 := andi main_v4 main_v9
  let main_v11 : FVec F S32x4x8x128x256 .f32 := (extf .f32 · bitsLt_bf16_f32) main_arg2
  let main_v12 : FVec F S32x4x8x128x256 .f32 := Host.absf main_v11
  let main_cst_2 : FVec F S_ .f32 := constant S_ .f32 0x7F800000#32
  let main_v13 : FVec F S32x4x8x128x256 .f32 := broadcastInDim S32x4x8x128x256 ![] bcast_S_S32x4x8x128x256 main_cst_2
  let main_v14 : IVec S32x4x8x128x256 1 := cmpf .olt main_v12 main_v13
  let main_c_3 : IVec S_ 1 := constantI S_ 1 1#1
  let main_v15 : IVec S_ 1 := (fun x v => Host.reduce IntOp.andi x v reducesTo_S32x4x8x128x256_S_d0_1_2_3_4 h_S_) main_v14 main_c_3
  let main_v16 : IVec S_ 1 := andi main_v10 main_v15
  let main_v17 : FVec F S1x64 .f32 := Host.absf main_arg3
  fn_part1 (F := F) main_arg4 main_arg5 main_arg6 main_v16 main_v17
-- ==== Pre_finite2.lean ====
abbrev S32x2048x1024 : Shape := ⟨3, ![32, 2048, 1024]⟩
abbrev S32x1024 : Shape := ⟨2, ![32, 1024]⟩
abbrev S1x1024 : Shape := ⟨2, ![1, 1024]⟩
abbrev S32x2048 : Shape := ⟨2, ![32, 2048]⟩
abbrev S1x1024x4808 : Shape := ⟨3, ![1, 1024, 4808]⟩
abbrev S1x64 : Shape := ⟨2, ![1, 64]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4808 : S_.BroadcastsInDim S1x1024x4808 (![] : Fin 0 → Fin S1x1024x4808.rank)
  reducesTo_S1x1024x4808_S_d0_1_2 : S1x1024x4808.ReducesTo [0, 1, 2] S_

variable [Facts]

def fn_part1 {F : FTy → Type} [FloatOps F] (main_arg5 : FVec F S1x1024x4808 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x4808 .f32 := Host.absf main_arg5
  let main_cst_6 : FVec F S_ .f32 := constant S_ .f32 0x7F800000#32
  let main_v20 : FVec F S1x1024x4808 .f32 := broadcastInDim S1x1024x4808 ![] bcast_S_S1x1024x4808 main_cst_6
  let main_v21 : IVec S1x1024x4808 1 := cmpf .olt main_v19 main_v20
  let main_c_7 : IVec S_ 1 := constantI S_ 1 1#1
  let main_v22 : IVec S_ 1 := (fun x v => Host.reduce IntOp.andi x v reducesTo_S1x1024x4808_S_d0_1_2 h_S_) main_v21 main_c_7
  let main_v23 : IVec S_ 1 := andi main_v18 main_v22
  main_v23

def fn {F : FTy → Type} [FloatOps F] (main_arg0 : FVec F S32x2048x1024 .f32) (main_arg1 : FVec F S32x1024 .f32) (main_arg2 : FVec F S32x1024 .f32) (main_arg3 : FVec F S1x1024 .f32) (main_arg4 : IVec S32x2048 32) (main_arg5 : FVec F S1x1024x4808 .f32) (main_arg6 : FVec F S1x64 .f32) (main_arg7 : FVec F S1x64 .f32) (main_arg8 : FVec F S1x64 .f32) (main_arg9 : FVec F S1x64 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_v13 main_v16
-- ==== Kernel.lean ====
abbrev S32x2048x512 : Shape := ⟨3, ![32, 2048, 512]⟩
abbrev S32x4x8x128x256 : Shape := ⟨5, ![32, 4, 8, 128, 256]⟩
abbrev S1x64 : Shape := ⟨2, ![1, 64]⟩
abbrev S1x128 : Shape := ⟨2, ![1, 128]⟩
abbrev S64 : Shape := ⟨1, ![64]⟩
abbrev S128 : Shape := ⟨1, ![128]⟩
abbrev S32x8x256x512 : Shape := ⟨4, ![32, 8, 256, 512]⟩
abbrev S128x1 : Shape := ⟨2, ![128, 1]⟩
abbrev S128x256 : Shape := ⟨2, ![128, 256]⟩
abbrev S1x256x512 : Shape := ⟨3, ![1, 256, 512]⟩
abbrev S1x8x256x512 : Shape := ⟨4, ![1, 8, 256, 512]⟩
abbrev S1x4x8x128x256 : Shape := ⟨5, ![1, 4, 8, 128, 256]⟩
abbrev S256x128 : Shape := ⟨2, ![256, 128]⟩
abbrev S1x256x128 : Shape := ⟨3, ![1, 256, 128]⟩
abbrev S512x128 : Shape := ⟨2, ![512, 128]⟩
abbrev S1x512 : Shape := ⟨2, ![1, 512]⟩
abbrev S128x512 : Shape := ⟨2, ![128, 512]⟩
abbrev S1x1x256x128 : Shape := ⟨4, ![1, 1, 256, 128]⟩
abbrev S256x512 : Shape := ⟨2, ![256, 512]⟩
abbrev S512 : Shape := ⟨1, ![512]⟩
abbrev S1x1x1x128x256 : Shape := ⟨5, ![1, 1, 1, 128, 256]⟩
abbrev S1 : Shape := ⟨1, ![1]⟩
abbrev S1x1 : Shape := ⟨2, ![1, 1]⟩
abbrev S256 : Shape := ⟨1, ![256]⟩
abbrev S1x256 : Shape := ⟨2, ![1, 256]⟩

abbrev nBuf : Space → Nat
  | .hbm => 21
  | .vmem => 13
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x4x8x128x256, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S128, .f32⟩
  | .hbm, ⟨17, _⟩ => ⟨S32x8x256x512, .bf16⟩
  | .hbm, ⟨18, _⟩ => ⟨S128x1, .f32⟩
  | .hbm, ⟨19, _⟩ => ⟨S128x256, .f32⟩
  | .hbm, ⟨20, _⟩ => ⟨S32x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8x256x512, .bf16⟩
  | .local _ .vmem, ⟨3, _⟩ => ⟨S1x8x256x512, .bf16⟩
  | .local _ .vmem, ⟨4, _⟩ => ⟨S1x4x8x128x256, .bf16⟩
  | .local _ .vmem, ⟨5, _⟩ => ⟨S1x4x8x128x256, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x256, .f32⟩
  | .local _ .vmem, ⟨11, _⟩ => ⟨S1x256x512, .bf16⟩
  | .local _ .vmem, ⟨12, _⟩ => ⟨S1x256x512, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop (i : grid0.Coords) : Scf.Loop 32 :=
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_30 : BitVec 32 := 1#32
  ⟨c0_i32, v57, c1_i32_30⟩
def k0_off1 (i : grid0.Coords) (k0_t1 : Fin (k0_t1_loop i).trips) : Fin 4 → Nat :=
  let c0_191 : Index := 0#32
  let c0_i32 : BitVec 32 := 0#32
  let c1_i32_30 : BitVec 32 := 1#32
  let arg11 : BitVec 32 := Scf.iv c0_i32 c1_i32_30 k0_t1
  let v523 : Index := Scalar.indexCast arg11
  let c0_192 : Index := 0#32
  let c0_193 : Index := 0#32
  ![0, v523.toNat, 0, 0]
def k0_off2 (i : grid0.Coords) (k0_t1 : Fin (k0_t1_loop i).trips) : Fin 5 → Nat :=
  let c0_197 : Index := 0#32
  let c0_198 : Index := 0#32
  let c0_i32 : BitVec 32 := 0#32
  let c1_i32_30 : BitVec 32 := 1#32
  let arg11 : BitVec 32 := Scf.iv c0_i32 c1_i32_30 k0_t1
  let v541 : Index := Scalar.indexCast arg11
  let c0_199 : Index := 0#32
  let c0_200 : Index := 0#32
  ![0, 0, v541.toNat, 0, 0]
def k0_off3 (i : grid0.Coords) (k0_t1 : Fin (k0_t1_loop i).trips) : Fin 4 → Nat :=
  let c0_202 : Index := 0#32
  let c0_i32 : BitVec 32 := 0#32
  let c1_i32_30 : BitVec 32 := 1#32
  let arg11 : BitVec 32 := Scf.iv c0_i32 c1_i32_30 k0_t1
  let v547 : Index := Scalar.indexCast arg11
  let c0_203 : Index := 0#32
  let c128_204 : Index := 128#32
  ![0, v547.toNat, 0, 128]
def k0_off4 (i : grid0.Coords) (k0_t1 : Fin (k0_t1_loop i).trips) : Fin 5 → Nat :=
  let c0_208 : Index := 0#32
  let c1_209 : Index := 1#32
  let c0_i32 : BitVec 32 := 0#32
  let c1_i32_30 : BitVec 32 := 1#32
  let arg11 : BitVec 32 := Scf.iv c0_i32 c1_i32_30 k0_t1
  let v565 : Index := Scalar.indexCast arg11
  let c0_210 : Index := 0#32
  let c0_211 : Index := 0#32
  ![0, 1, v565.toNat, 0, 0]
def k0_off5 (i : grid0.Coords) (k0_t1 : Fin (k0_t1_loop i).trips) : Fin 4 → Nat :=
  let c0_213 : Index := 0#32
  let c0_i32 : BitVec 32 := 0#32
  let c1_i32_30 : BitVec 32 := 1#32
  let arg11 : BitVec 32 := Scf.iv c0_i32 c1_i32_30 k0_t1
  let v571 : Index := Scalar.indexCast arg11
  let c0_214 : Index := 0#32
  let c256_215 : Index := 256#32
  ![0, v571.toNat, 0, 256]
def k0_off6 (i : grid0.Coords) (k0_t1 : Fin (k0_t1_loop i).trips) : Fin 5 → Nat :=
  let c0_219 : Index := 0#32
  let c2_220 : Index := 2#32
  let c0_i32 : BitVec 32 := 0#32
  let c1_i32_30 : BitVec 32 := 1#32
  let arg11 : BitVec 32 := Scf.iv c0_i32 c1_i32_30 k0_t1
  let v589 : Index := Scalar.indexCast arg11
  let c0_221 : Index := 0#32
  let c0_222 : Index := 0#32
  ![0, 2, v589.toNat, 0, 0]
def k0_off7 (i : grid0.Coords) (k0_t1 : Fin (k0_t1_loop i).trips) : Fin 4 → Nat :=
  let c0_224 : Index := 0#32
  let c0_i32 : BitVec 32 := 0#32
  let c1_i32_30 : BitVec 32 := 1#32
  let arg11 : BitVec 32 := Scf.iv c0_i32 c1_i32_30 k0_t1
  let v595 : Index := Scalar.indexCast arg11
  let c0_225 : Index := 0#32
  let c384_226 : Index := 384#32
  ![0, v595.toNat, 0, 384]
def k0_off8 (i : grid0.Coords) (k0_t1 : Fin (k0_t1_loop i).trips) : Fin 5 → Nat :=
  let c0_230 : Index := 0#32
  let c3_231 : Index := 3#32
  let c0_i32 : BitVec 32 := 0#32
  let c1_i32_30 : BitVec 32 := 1#32
  let arg11 : BitVec 32 := Scf.iv c0_i32 c1_i32_30 k0_t1
  let v613 : Index := Scalar.indexCast arg11
  let c0_232 : Index := 0#32
  let c0_233 : Index := 0#32
  ![0, 3, v613.toNat, 0, 0]
@[reducible] def k0_t2_loop (i : grid0.Coords) : Scf.Loop 32 :=
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let v54 : BitVec 32 := Scalar.addi c0_i32 v53
  let c1_i32_31 : BitVec 32 := 1#32
  ⟨v57, v54, c1_i32_31⟩
def k0_off9 (i : grid0.Coords) (k0_t2 : Fin (k0_t2_loop i).trips) : Fin 4 → Nat :=
  let c0_191 : Index := 0#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v523 : Index := Scalar.indexCast arg11
  let c0_192 : Index := 0#32
  let c0_193 : Index := 0#32
  ![0, v523.toNat, 0, 0]
def k0_off10 (i : grid0.Coords) (k0_t2 : Fin (k0_t2_loop i).trips) : Fin 5 → Nat :=
  let c0_197 : Index := 0#32
  let c0_198 : Index := 0#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v541 : Index := Scalar.indexCast arg11
  let c0_199 : Index := 0#32
  let c0_200 : Index := 0#32
  ![0, 0, v541.toNat, 0, 0]
def k0_off11 (i : grid0.Coords) (k0_t2 : Fin (k0_t2_loop i).trips) : Fin 4 → Nat :=
  let c0_202 : Index := 0#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v547 : Index := Scalar.indexCast arg11
  let c0_203 : Index := 0#32
  let c128_204 : Index := 128#32
  ![0, v547.toNat, 0, 128]
def k0_off12 (i : grid0.Coords) (k0_t2 : Fin (k0_t2_loop i).trips) : Fin 5 → Nat :=
  let c0_208 : Index := 0#32
  let c1_209 : Index := 1#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v565 : Index := Scalar.indexCast arg11
  let c0_210 : Index := 0#32
  let c0_211 : Index := 0#32
  ![0, 1, v565.toNat, 0, 0]
def k0_off13 (i : grid0.Coords) (k0_t2 : Fin (k0_t2_loop i).trips) : Fin 4 → Nat :=
  let c0_213 : Index := 0#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v571 : Index := Scalar.indexCast arg11
  let c0_214 : Index := 0#32
  let c256_215 : Index := 256#32
  ![0, v571.toNat, 0, 256]
def k0_off14 (i : grid0.Coords) (k0_t2 : Fin (k0_t2_loop i).trips) : Fin 5 → Nat :=
  let c0_219 : Index := 0#32
  let c2_220 : Index := 2#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v589 : Index := Scalar.indexCast arg11
  let c0_221 : Index := 0#32
  let c0_222 : Index := 0#32
  ![0, 2, v589.toNat, 0, 0]
def k0_off15 (i : grid0.Coords) (k0_t2 : Fin (k0_t2_loop i).trips) : Fin 4 → Nat :=
  let c0_224 : Index := 0#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v595 : Index := Scalar.indexCast arg11
  let c0_225 : Index := 0#32
  let c384_226 : Index := 384#32
  ![0, v595.toNat, 0, 384]
def k0_off16 (i : grid0.Coords) (k0_t2 : Fin (k0_t2_loop i).trips) : Fin 5 → Nat :=
  let c0_230 : Index := 0#32
  let c3_231 : Index := 3#32
  let c0_i32 : BitVec 32 := 0#32
  let arg1 : BitVec 32 := BitVec.ofNat 32 (i 1).val
  let v53 : BitVec 32 := Scalar.subi arg1 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_31 : BitVec 32 := 1#32
  let arg11 : BitVec 32 := Scf.iv v57 c1_i32_31 k0_t2
  let v613 : Index := Scalar.indexCast arg11
  let c0_232 : Index := 0#32
  let c0_233 : Index := 0#32
  ![0, 3, v613.toNat, 0, 0]
def k0_off17 (i : grid0.Coords) : Fin 4 → Nat :=
  let c0_32 : Index := 0#32
  let arg1 : BitVec 32 := BitVec.ofNat 32 (i 1).val
  let v60 : Index := Scalar.indexCast arg1
  let c0_33 : Index := 0#32
  let c0_34 : Index := 0#32
  ![0, v60.toNat, 0, 0]
def k0_off18 (i : grid0.Coords) : Fin 5 → Nat :=
  let c0_54 : Index := 0#32
  let c0_55 : Index := 0#32
  let arg1 : BitVec 32 := BitVec.ofNat 32 (i 1).val
  let v136 : Index := Scalar.indexCast arg1
  let c0_56 : Index := 0#32
  let c0_57 : Index := 0#32
  ![0, 0, v136.toNat, 0, 0]
def k0_off19 (i : grid0.Coords) : Fin 4 → Nat :=
  let c0_59 : Index := 0#32
  let arg1 : BitVec 32 := BitVec.ofNat 32 (i 1).val
  let v142 : Index := Scalar.indexCast arg1
  let c0_60 : Index := 0#32
  let c128_61 : Index := 128#32
  ![0, v142.toNat, 0, 128]
def k0_off20 (i : grid0.Coords) : Fin 5 → Nat :=
  let c0_82 : Index := 0#32
  let c1 : Index := 1#32
  let arg1 : BitVec 32 := BitVec.ofNat 32 (i 1).val
  let v218 : Index := Scalar.indexCast arg1
  let c0_83 : Index := 0#32
  let c0_84 : Index := 0#32
  ![0, 1, v218.toNat, 0, 0]
def k0_off21 (i : grid0.Coords) : Fin 4 → Nat :=
  let c0_86 : Index := 0#32
  let arg1 : BitVec 32 := BitVec.ofNat 32 (i 1).val
  let v224 : Index := Scalar.indexCast arg1
  let c0_87 : Index := 0#32
  let c256_88 : Index := 256#32
  ![0, v224.toNat, 0, 256]
def k0_off22 (i : grid0.Coords) : Fin 5 → Nat :=
  let c0_109 : Index := 0#32
  let c2 : Index := 2#32
  let arg1 : BitVec 32 := BitVec.ofNat 32 (i 1).val
  let v300 : Index := Scalar.indexCast arg1
  let c0_110 : Index := 0#32
  let c0_111 : Index := 0#32
  ![0, 2, v300.toNat, 0, 0]
def k0_off23 (i : grid0.Coords) : Fin 4 → Nat :=
  let c0_113 : Index := 0#32
  let arg1 : BitVec 32 := BitVec.ofNat 32 (i 1).val
  let v306 : Index := Scalar.indexCast arg1
  let c0_114 : Index := 0#32
  let c384_115 : Index := 384#32
  ![0, v306.toNat, 0, 384]
def k0_off24 (i : grid0.Coords) : Fin 5 → Nat :=
  let c0_136 : Index := 0#32
  let c3 : Index := 3#32
  let arg1 : BitVec 32 := BitVec.ofNat 32 (i 1).val
  let v382 : Index := Scalar.indexCast arg1
  let c0_137 : Index := 0#32
  let c0_138 : Index := 0#32
  ![0, 3, v382.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x512 : Shape := ⟨3, ![32, 2048, 512]⟩
abbrev S32x4x8x128x256 : Shape := ⟨5, ![32, 4, 8, 128, 256]⟩
abbrev S1x64 : Shape := ⟨2, ![1, 64]⟩
abbrev S1x128 : Shape := ⟨2, ![1, 128]⟩
abbrev S32x2048x4x2x64 : Shape := ⟨5, ![32, 2048, 4, 2, 64]⟩
abbrev S32x8x256x4x128 : Shape := ⟨5, ![32, 8, 256, 4, 128]⟩
abbrev S32x2048x4x128 : Shape := ⟨4, ![32, 2048, 4, 128]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x4x2x2048x2048 : Shape := ⟨5, ![32, 4, 2, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S128 : Shape := ⟨1, ![128]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x4x8x128x256, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32x2048x512, .f32⟩
  | .hbm, ⟨9, _⟩ => ⟨S32x2048x4x2x64, .f32⟩
  | .hbm, ⟨10, _⟩ => ⟨S32x2048x512, .f32⟩
  | .hbm, ⟨11, _⟩ => ⟨S32x2048x4x2x64, .f32⟩
  | .hbm, ⟨12, _⟩ => ⟨S32x4x8x128x256, .f32⟩
  | .hbm, ⟨13, _⟩ => ⟨S32x8x256x4x128, .f32⟩
  | .hbm, ⟨14, _⟩ => ⟨S32x2048x4x128, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S1x2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S32x4x2x2048x2048, .f32⟩
  | .hbm, ⟨55, _⟩ => ⟨S_, .f32⟩
  | .hbm, ⟨56, _⟩ => ⟨S_, .f32⟩
  | .hbm, ⟨57, _⟩ => ⟨S32x4x2x2048x2048, .i1⟩
  | .hbm, ⟨58, _⟩ => ⟨S32x4x2x2048x2048, .f32⟩
  | .hbm, ⟨59, _⟩ => ⟨S32x4x2x2048x2048, .f32⟩
  | .hbm, ⟨60, _⟩ => ⟨S_, .f32⟩
  | .hbm, ⟨61, _⟩ => ⟨S32x4x2x2048, .f32⟩
  | .hbm, ⟨62, _⟩ => ⟨S_, .f32⟩
  | .hbm, ⟨63, _⟩ => ⟨S32x4x2x2048, .f32⟩
  | .hbm, ⟨64, _⟩ => ⟨S32x4x2x2048, .f32⟩
  | .hbm, ⟨65, _⟩ => ⟨S32x4x2x2048x1, .f32⟩
  | .hbm, ⟨66, _⟩ => ⟨S32x4x2x2048x2048, .f32⟩
  | .hbm, ⟨67, _⟩ => ⟨S32x4x2x2048x2048, .f32⟩
  | .hbm, ⟨68, _⟩ => ⟨S32x4x2x2048x2048, .f32⟩
  | .hbm, ⟨69, _⟩ => ⟨S_, .f32⟩
  | .hbm, ⟨70, _⟩ => ⟨S32x4x2x2048, .f32⟩
  | .hbm, ⟨71, _⟩ => ⟨S32x4x2x2048x1, .f32⟩
  | .hbm, ⟨72, _⟩ => ⟨S32x4x2x2048x2048, .f32⟩
  | .hbm, ⟨73, _⟩ => ⟨S32x4x2x2048x2048, .f32⟩
  | .hbm, ⟨74, _⟩ => ⟨S32x4x1x2048x2048, .f32⟩
  | .hbm, ⟨75, _⟩ => ⟨S32x4x2048x2048, .f32⟩
  | .hbm, ⟨76, _⟩ => ⟨S32x4x1x2048x2048, .f32⟩
  | .hbm, ⟨77, _⟩ => ⟨S32x4x2048x2048, .f32⟩
  | .hbm, ⟨78, _⟩ => ⟨S32x4x2048x2048, .f32⟩
  | .hbm, ⟨79, _⟩ => ⟨S32x4x2048x2048, .f32⟩
  | .hbm, ⟨80, _⟩ => ⟨S32x4x2048x2048, .f32⟩
  | .hbm, ⟨81, _⟩ => ⟨S32x4x128x2048, .f32⟩
  | .hbm, ⟨82, _⟩ => ⟨S32x2048x4x128, .f32⟩
  | .hbm, ⟨83, _⟩ => ⟨S32x2048x4x128, .f32⟩
  | .hbm, ⟨84, _⟩ => ⟨S_, .f32⟩
  | .hbm, ⟨85, _⟩ => ⟨S32x2048x4, .f32⟩
  | .hbm, ⟨86, _⟩ => ⟨S32x2048x4x1, .f32⟩
  | .hbm, ⟨87, _⟩ => ⟨S_, .f32⟩
  | .hbm, ⟨88, _⟩ => ⟨S32x2048x4x1, .f32⟩
  | .hbm, ⟨89, _⟩ => ⟨S32x2048x4x1, .f32⟩
  | .hbm, ⟨90, _⟩ => ⟨S_, .f32⟩
  | .hbm, ⟨91, _⟩ => ⟨S32x2048x4x1, .f32⟩
  | .hbm, ⟨92, _⟩ => ⟨S32x2048x4x1, .f32⟩
  | .hbm, ⟨93, _⟩ => ⟨S32x2048x4x1, .f32⟩
  | .hbm, ⟨94, _⟩ => ⟨S32x2048x4x128, .f32⟩
  | .hbm, ⟨95, _⟩ => ⟨S32x2048x4x128, .f32⟩
  | .hbm, ⟨96, _⟩ => ⟨S128, .f32⟩
  | .hbm, ⟨97, _⟩ => ⟨S1x1x1x128, .f32⟩
  | .hbm, ⟨98, _⟩ => ⟨S32x2048x4x128, .f32⟩
  | .hbm, ⟨99, _⟩ => ⟨S32x2048x4x128, .f32⟩
  | .hbm, ⟨100, _⟩ => ⟨S_, .f32⟩
  | .hbm, ⟨101, _⟩ => ⟨S32x2048x4x128, .f32⟩
  | .hbm, ⟨102, _⟩ => ⟨S32x2048x4x128, .f32⟩
  | .hbm, ⟨103, _⟩ => ⟨S32x2048x512, .f32⟩
  | .hbm, ⟨104, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_cst_7 : Ref sig .tc := ⟨.hbm, 87, rfl⟩
abbrev main_v51 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_9 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x1024 : Shape := ⟨2, ![32, 1024]⟩
abbrev S1x1024 : Shape := ⟨2, ![1, 1024]⟩
abbrev S32x2048 : Shape := ⟨2, ![32, 2048]⟩
abbrev S1x1024x4808 : Shape := ⟨3, ![1, 1024, 4808]⟩
abbrev S1x64 : Shape := ⟨2, ![1, 64]⟩
abbrev S128x128 : Shape := ⟨2, ![128, 128]⟩
abbrev S1x128 : Shape := ⟨2, ![1, 128]⟩
abbrev S32x1x1024 : Shape := ⟨3, ![32, 1, 1024]⟩
abbrev S64 : Shape := ⟨1, ![64]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S1024x4808 : Shape := ⟨2, ![1024, 4808]⟩
abbrev S1024x512 : Shape := ⟨2, ![1024, 512]⟩
abbrev S1024x64 : Shape := ⟨2, ![1024, 64]⟩
abbrev S1024x8 : Shape := ⟨2, ![1024, 8]⟩
abbrev S1024x2048 : Shape := ⟨2, ![1024, 2048]⟩
abbrev S1024x120 : Shape := ⟨2, ![1024, 120]⟩
abbrev S1024x5120 : Shape := ⟨2, ![1024, 5120]⟩
abbrev S32x2048x1 : Shape := ⟨3, ![32, 2048, 1]⟩
abbrev S32x2048x512 : Shape := ⟨3, ![32, 2048, 512]⟩
abbrev S32x4x8x128x256 : Shape := ⟨5, ![32, 4, 8, 128, 256]⟩
abbrev S32x2048x128 : Shape := ⟨3, ![32, 2048, 128]⟩
abbrev S32x8x64x256 : Shape := ⟨4, ![32, 8, 64, 256]⟩
abbrev S32x2048x2048 : Shape := ⟨3, ![32, 2048, 2048]⟩
abbrev S1x512x1024 : Shape := ⟨3, ![1, 512, 1024]⟩
abbrev S1x1x1024 : Shape := ⟨3, ![1, 1, 1024]⟩
abbrev S1x512x1 : Shape := ⟨3, ![1, 512, 1]⟩
abbrev S1x512x512 : Shape := ⟨3, ![1, 512, 512]⟩
abbrev S1x4x2x128x256 : Shape := ⟨5, ![1, 4, 2, 128, 256]⟩
abbrev S1x512x128 : Shape := ⟨3, ![1, 512, 128]⟩
abbrev S1x2x64x256 : Shape := ⟨4, ![1, 2, 64, 256]⟩
abbrev S1x512x2048 : Shape := ⟨3, ![1, 512, 2048]⟩
abbrev S512x1024 : Shape := ⟨2, ![512, 1024]⟩
abbrev S512x1 : Shape := ⟨2, ![512, 1]⟩
abbrev S512x128 : Shape := ⟨2, ![512, 128]⟩
abbrev S1024x128 : Shape := ⟨2, ![1024, 128]⟩
abbrev S512x512 : Shape := ⟨2, ![512, 512]⟩
abbrev S256x128 : Shape := ⟨2, ![256, 128]⟩
abbrev S128x256 : Shape := ⟨2, ![128, 256]⟩
abbrev S1x1x1x128x256 : Shape := ⟨5, ![1, 1, 1, 128, 256]⟩
abbrev S64x256 : Shape := ⟨2, ![64, 256]⟩
abbrev S1x1x64x256 : Shape := ⟨4, ![1, 1, 64, 256]⟩

abbrev nBuf : Space → Nat
  | .hbm => 78
  | .vmem => 37
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S32x2048, .i32⟩
  | .hbm, ⟨5, _⟩ => ⟨S1x1024x4808, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S128x128, .bf16⟩
  | .hbm, ⟨11, _⟩ => ⟨S1x128, .f32⟩
  | .hbm, ⟨12, _⟩ => ⟨S32x1x1024, .f32⟩
  | .hbm, ⟨13, _⟩ => ⟨S32x1x1024, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S1x32, .f32⟩
  | .hbm, ⟨33, _⟩ => ⟨S4x32, .f32⟩
  | .hbm, ⟨34, _⟩ => ⟨S128, .f32⟩
  | .hbm, ⟨35, _⟩ => ⟨S1x128, .f32⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S1x512, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1x128, .f32⟩
  | .hbm, ⟨52, _⟩ => ⟨S1024x4808, .f32⟩
  | .hbm, ⟨53, _⟩ => ⟨S1024x512, .f32⟩
  | .hbm, ⟨54, _⟩ => ⟨S1024x512, .f32⟩
  | .hbm, ⟨55, _⟩ => ⟨S1024x512, .f32⟩
  | .hbm, ⟨56, _⟩ => ⟨S1024x512, .f32⟩
  | .hbm, ⟨57, _⟩ => ⟨S1024x64, .f32⟩
  | .hbm, ⟨58, _⟩ => ⟨S1024x64, .f32⟩
  | .hbm, ⟨59, _⟩ => ⟨S1024x512, .f32⟩
  | .hbm, ⟨60, _⟩ => ⟨S1024x64, .f32⟩
  | .hbm, ⟨61, _⟩ => ⟨S1024x8, .f32⟩
  | .hbm, ⟨62, _⟩ => ⟨S1024x2048, .f32⟩
  | .hbm, ⟨63, _⟩ => ⟨S_, .f32⟩
  | .hbm, ⟨64, _⟩ => ⟨S1024x120, .f32⟩
  | .hbm, ⟨65, _⟩ => ⟨S1024x5120, .f32⟩
  | .hbm, ⟨66, _⟩ => ⟨S1024x5120, .bf16⟩
  | .hbm, ⟨67, _⟩ => ⟨S32x2048x1, .i32⟩
  | .hbm, ⟨68, _⟩ => ⟨S32x2048x512, .bf16⟩
  | .hbm, ⟨69, _⟩ => ⟨S32x2048x512, .bf16⟩
  | .hbm, ⟨70, _⟩ => ⟨S32x4x8x128x256, .bf16⟩
  | .hbm, ⟨71, _⟩ => ⟨S32x2048x512, .bf16⟩
  | .hbm, ⟨72, _⟩ => ⟨S32x2048x512, .bf16⟩
  | .hbm, ⟨73, _⟩ => ⟨S32x2048x128, .bf16⟩
  | .hbm, ⟨74, _⟩ => ⟨S32x2048x128, .bf16⟩
  | .hbm, ⟨75, _⟩ => ⟨S32x8x64x256, .bf16⟩
  | .hbm, ⟨76, _⟩ => ⟨S32x2048x128, .f32⟩
  | .hbm, ⟨77, _⟩ => ⟨S32x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x1, .i32⟩
  | .local _ .vmem, ⟨8, _⟩ => ⟨S1x512x1, .i32⟩
  | .local _ .vmem, ⟨9, _⟩ => ⟨S1x128, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S128x128, .bf16⟩
  | .local _ .vmem, ⟨16, _⟩ => ⟨S1024x5120, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x4x2x128x256, .bf16⟩
  | .local _ .vmem, ⟨22, _⟩ => ⟨S1x4x2x128x256, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .bf16⟩
  | .local _ .vmem, ⟨31, _⟩ => ⟨S1x2x64x256, .bf16⟩
  | .local _ .vmem, ⟨32, _⟩ => ⟨S1x2x64x256, .bf16⟩
  | .local _ .vmem, ⟨33, _⟩ => ⟨S1x512x128, .f32⟩
  | .local _ .vmem, ⟨34, _⟩ => ⟨S1x512x128, .f32⟩
  | .local _ .vmem, ⟨35, _⟩ => ⟨S1x512x2048, .bf16⟩
  | .local _ .vmem, ⟨36, _⟩ => ⟨S1x512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev main_v51_4 : Ref sig .tc := ⟨.hbm, 72, rfl⟩
abbrev main_v51_5 : Ref sig .tc := ⟨.hbm, 73, rfl⟩
abbrev main_v51_6 : Ref sig .tc := ⟨.hbm, 74, rfl⟩
abbrev main_v51_7 : Ref sig .tc := ⟨.hbm, 75, rfl⟩
abbrev main_v51_8 : Ref sig .tc := ⟨.hbm, 76, rfl⟩
abbrev main_v51_9 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x64x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference2Ideal.lean ====
abbrev S32x2048x1024 : Shape := ⟨3, ![32, 2048, 1024]⟩
abbrev S32x1024 : Shape := ⟨2, ![32, 1024]⟩
abbrev S1x1024 : Shape := ⟨2, ![1, 1024]⟩
abbrev S32x2048 : Shape := ⟨2, ![32, 2048]⟩
abbrev S1x1024x4808 : Shape := ⟨3, ![1, 1024, 4808]⟩
abbrev S1x64 : Shape := ⟨2, ![1, 64]⟩
abbrev S32 : Shape := ⟨1, ![32]⟩
abbrev S_ : Shape := ⟨0, ![]⟩
abbrev S32x2048x1 : Shape := ⟨3, ![32, 2048, 1]⟩
abbrev S1x1x32 : Shape := ⟨3, ![1, 1, 32]⟩
abbrev S32x2048x32 : Shape := ⟨3, ![32, 2048, 32]⟩
abbrev S1024 : Shape := ⟨1, ![1024]⟩
abbrev S1x1x1024 : Shape := ⟨3, ![1, 1, 1024]⟩
abbrev S32x1x1024 : Shape := ⟨3, ![32, 1, 1024]⟩
abbrev S1024x4808 : Shape := ⟨2, ![1024, 4808]⟩
abbrev S32x2048x4808 : Shape := ⟨3, ![32, 2048, 4808]⟩
abbrev S32x2048x512 : Shape := ⟨3, ![32, 2048, 512]⟩
abbrev S32x2048x64 : Shape := ⟨3, ![32, 2048, 64]⟩
abbrev S32x2048x8 : Shape := ⟨3, ![32, 2048, 8]⟩
abbrev S32x2048x2048 : Shape := ⟨3, ![32, 2048, 2048]⟩
abbrev S32x2048x8x64 : Shape := ⟨4, ![32, 2048, 8, 64]⟩
abbrev S64 : Shape := ⟨1, ![64]⟩
abbrev S32x2048x8x1 : Shape := ⟨4, ![32, 2048, 8, 1]⟩
abbrev S1x1x1x64 : Shape := ⟨4, ![1, 1, 1, 64]⟩
abbrev S32x2048x8x32 : Shape := ⟨4, ![32, 2048, 8, 32]⟩
abbrev S32x2048x1x32 : Shape := ⟨4, ![32, 2048, 1, 32]⟩
abbrev S32x2048x1x64 : Shape := ⟨4, ![32, 2048, 1, 64]⟩
abbrev S32x2048x1x1 : Shape := ⟨4, ![32, 2048, 1, 1]⟩
abbrev S32x8x256x4x128 : Shape := ⟨5, ![32, 8, 256, 4, 128]⟩
abbrev S32x4x8x128x256 : Shape := ⟨5, ![32, 4, 8, 128, 256]⟩
abbrev S32x8x256x64 : Shape := ⟨4, ![32, 8, 256, 64]⟩
abbrev S32x8x64x256 : Shape := ⟨4, ![32, 8, 64, 256]⟩
abbrev S32x2048x120 : Shape := ⟨3, ![32, 2048, 120]⟩
abbrev S32x2048x128 : Shape := ⟨3, ![32, 2048, 128]⟩

abbrev nBuf : Space → Nat
  | .hbm => 264
  | .vmem => 0
  | .smem => 0
  | _ => 0

abbrev hbmTy0_0 (i : Nat) : BufTy := match i % 128 with
  | 0 => ⟨S32x2048x1024, .f32⟩
  | 1 => ⟨S32x1024, .f32⟩
  | 2 => ⟨S32x1024, .f32⟩
  | 3 => ⟨S1x1024, .f32⟩
  | 4 => ⟨S32x2048, .i32⟩
  | 5 => ⟨S1x1024x4808, .f32⟩
  | 6 => ⟨S1x64, .f32⟩
  | 7 => ⟨S1x64, .f32⟩
  | 8 => ⟨S1x64, .f32⟩
  | 9 => ⟨S1x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S32x2048, .f32⟩
  | 25 => ⟨S32x2048x1, .f32⟩
  | 26 => ⟨S1x1x32, .f32⟩
  | 27 => ⟨S32x2048x32, .f32⟩
  | 28 => ⟨S32x2048x32, .f32⟩
  | 29 => ⟨S32x2048x32, .f32⟩
  | 30 => ⟨S32x2048x32, .f32⟩
  | 31 => ⟨S32x2048x32, .f32⟩
  | 32 => ⟨S1024, .f32⟩
  | 33 => ⟨S32x2048x1024, .f32⟩
  | 34 => ⟨S_, .f32⟩
  | 35 => ⟨S32x2048, .f32⟩
  | 36 => ⟨S32x2048x1, .f32⟩
  | 37 => ⟨S_, .f32⟩
  | 38 => ⟨S32x2048x1, .f32⟩
  | 39 => ⟨S32x2048x1, .f32⟩
  | 40 => ⟨S_, .f32⟩
  | 41 => ⟨S32x2048x1, .f32⟩
  | 42 => ⟨S32x2048x1, .f32⟩
  | 43 => ⟨S32x2048x1, .f32⟩
  | 44 => ⟨S32x2048x1024, .f32⟩
  | 45 => ⟨S32x2048x1024, .f32⟩
  | 46 => ⟨S1x1x1024, .f32⟩
  | 47 => ⟨S32x2048x1024, .f32⟩
  | 48 => ⟨S32x2048x1024, .f32⟩
  | 49 => ⟨S32x1x1024, .f32⟩
  | 50 => ⟨S_, .f32⟩
  | 51 => ⟨S32x1x1024, .f32⟩
  | 52 => ⟨S32x1x1024, .f32⟩
  | 53 => ⟨S32x2048x1024, .f32⟩
  | 54 => ⟨S32x2048x1024, .f32⟩
  | 55 => ⟨S32x1x1024, .f32⟩
  | 56 => ⟨S32x2048x1024, .f32⟩
  | 57 => ⟨S32x2048x1024, .f32⟩
  | 58 => ⟨S1024x4808, .f32⟩
  | 59 => ⟨S32x2048x4808, .f32⟩
  | 60 => ⟨S32x2048x512, .f32⟩
  | 61 => ⟨S32x2048x512, .f32⟩
  | 62 => ⟨S32x2048x512, .f32⟩
  | 63 => ⟨S32x2048x512, .f32⟩
  | 64 => ⟨S32x2048x64, .f32⟩
  | 65 => ⟨S32x2048x64, .f32⟩
  | 66 => ⟨S32x2048x512, .f32⟩
  | 67 => ⟨S32x2048x64, .f32⟩
  | 68 => ⟨S32x2048x8, .f32⟩
  | 69 => ⟨S32x2048x2048, .f32⟩
  | 70 => ⟨S32x2048x8x64, .f32⟩
  | 71 => ⟨S64, .f32⟩
  | 72 => ⟨S32x2048x8x64, .f32⟩
  | 73 => ⟨S_, .f32⟩
  | 74 => ⟨S32x2048x8, .f32⟩
  | 75 => ⟨S32x2048x8x1, .f32⟩
  | 76 => ⟨S_, .f32⟩
  | 77 => ⟨S32x2048x8x1, .f32⟩
  | 78 => ⟨S32x2048x8x1, .f32⟩
  | 79 => ⟨S_, .f32⟩
  | 80 => ⟨S32x2048x8x1, .f32⟩
  | 81 => ⟨S32x2048x8x1, .f32⟩
  | 82 => ⟨S32x2048x8x1, .f32⟩
  | 83 => ⟨S32x2048x8x64, .f32⟩
  | 84 => ⟨S32x2048x8x64, .f32⟩
  | 85 => ⟨S1x1x1x64, .f32⟩
  | 86 => ⟨S32x2048x8x64, .f32⟩
  | 87 => ⟨S32x2048x8x64, .f32⟩
  | 88 => ⟨S32x2048x8x32, .f32⟩
  | 89 => ⟨S32x2048x8x32, .f32⟩
  | 90 => ⟨S32x2048x1x32, .f32⟩
  | 91 => ⟨S32x2048x1x32, .f32⟩
  | 92 => ⟨S32x2048x8x32, .f32⟩
  | 93 => ⟨S32x2048x8x32, .f32⟩
  | 94 => ⟨S32x2048x8x32, .f32⟩
  | 95 => ⟨S32x2048x8x32, .f32⟩
  | 96 => ⟨S32x2048x8x32, .f32⟩
  | 97 => ⟨S32x2048x8x32, .f32⟩
  | 98 => ⟨S32x2048x8x32, .f32⟩
  | 99 => ⟨S32x2048x8x32, .f32⟩
  | 100 => ⟨S32x2048x8x32, .f32⟩
  | 101 => ⟨S32x2048x8x32, .f32⟩
  | 102 => ⟨S32x2048x8x64, .f32⟩
  | 103 => ⟨S_, .f32⟩
  | 104 => ⟨S32x2048x8x64, .f32⟩
  | 105 => ⟨S32x2048x8x64, .f32⟩
  | 106 => ⟨S32x2048x512, .f32⟩
  | 107 => ⟨S32x2048x8x64, .f32⟩
  | 108 => ⟨S64, .f32⟩
  | 109 => ⟨S32x2048x8x64, .f32⟩
  | 110 => ⟨S_, .f32⟩
  | 111 => ⟨S32x2048x8, .f32⟩
  | 112 => ⟨S32x2048x8x1, .f32⟩
  | 113 => ⟨S_, .f32⟩
  | 114 => ⟨S32x2048x8x1, .f32⟩
  | 115 => ⟨S32x2048x8x1, .f32⟩
  | 116 => ⟨S_, .f32⟩
  | 117 => ⟨S32x2048x8x1, .f32⟩
  | 118 => ⟨S32x2048x8x1, .f32⟩
  | 119 => ⟨S32x2048x8x1, .f32⟩
  | 120 => ⟨S32x2048x8x64, .f32⟩
  | 121 => ⟨S32x2048x8x64, .f32⟩
  | 122 => ⟨S1x1x1x64, .f32⟩
  | 123 => ⟨S32x2048x8x64, .f32⟩
  | 124 => ⟨S32x2048x8x64, .f32⟩
  | 125 => ⟨S32x2048x8x32, .f32⟩
  | 126 => ⟨S32x2048x8x32, .f32⟩
  | 127 => ⟨S32x2048x1x32, .f32⟩
  | _ => ⟨S32x2048x1024, .f32⟩

abbrev hbmTy0_1 (i : Nat) : BufTy := match i % 128 with
  | 0 => ⟨S32x2048x1x32, .f32⟩
  | 1 => ⟨S32x2048x8x32, .f32⟩
  | 2 => ⟨S32x2048x8x32, .f32⟩
  | 3 => ⟨S32x2048x8x32, .f32⟩
  | 4 => ⟨S32x2048x8x32, .f32⟩
  | 5 => ⟨S32x2048x8x32, .f32⟩
  | 6 => ⟨S32x2048x8x32, .f32⟩
  | 7 => ⟨S32x2048x8x32, .f32⟩
  | 8 => ⟨S32x2048x8x32, .f32⟩
  | 9 => ⟨S32x2048x8x32, .f32⟩
  | 10 => ⟨S32x2048x8x32, .f32⟩
  | 11 => ⟨S32x2048x8x64, .f32⟩
  | 12 => ⟨S32x2048x512, .f32⟩
  | 13 => ⟨S32x2048x8x64, .f32⟩
  | 14 => ⟨S64, .f32⟩
  | 15 => ⟨S32x2048x8x64, .f32⟩
  | 16 => ⟨S_, .f32⟩
  | 17 => ⟨S32x2048x8, .f32⟩
  | 18 => ⟨S32x2048x8x1, .f32⟩
  | 19 => ⟨S_, .f32⟩
  | 20 => ⟨S32x2048x8x1, .f32⟩
  | 21 => ⟨S32x2048x8x1, .f32⟩
  | 22 => ⟨S_, .f32⟩
  | 23 => ⟨S32x2048x8x1, .f32⟩
  | 24 => ⟨S32x2048x8x1, .f32⟩
  | 25 => ⟨S32x2048x8x1, .f32⟩
  | 26 => ⟨S32x2048x8x64, .f32⟩
  | 27 => ⟨S32x2048x8x64, .f32⟩
  | 28 => ⟨S1x1x1x64, .f32⟩
  | 29 => ⟨S32x2048x8x64, .f32⟩
  | 30 => ⟨S32x2048x8x64, .f32⟩
  | 31 => ⟨S32x2048x8x32, .f32⟩
  | 32 => ⟨S32x2048x8x32, .f32⟩
  | 33 => ⟨S32x2048x1x32, .f32⟩
  | 34 => ⟨S32x2048x1x32, .f32⟩
  | 35 => ⟨S32x2048x8x32, .f32⟩
  | 36 => ⟨S32x2048x8x32, .f32⟩
  | 37 => ⟨S32x2048x8x32, .f32⟩
  | 38 => ⟨S32x2048x8x32, .f32⟩
  | 39 => ⟨S32x2048x8x32, .f32⟩
  | 40 => ⟨S32x2048x8x32, .f32⟩
  | 41 => ⟨S32x2048x8x32, .f32⟩
  | 42 => ⟨S32x2048x8x32, .f32⟩
  | 43 => ⟨S32x2048x8x32, .f32⟩
  | 44 => ⟨S32x2048x8x32, .f32⟩
  | 45 => ⟨S32x2048x8x64, .f32⟩
  | 46 => ⟨S_, .f32⟩
  | 47 => ⟨S32x2048x8x64, .f32⟩
  | 48 => ⟨S32x2048x8x64, .f32⟩
  | 49 => ⟨S32x2048x512, .f32⟩
  | 50 => ⟨S32x2048x1x64, .f32⟩
  | 51 => ⟨S64, .f32⟩
  | 52 => ⟨S32x2048x1x64, .f32⟩
  | 53 => ⟨S_, .f32⟩
  | 54 => ⟨S32x2048x1, .f32⟩
  | 55 => ⟨S32x2048x1x1, .f32⟩
  | 56 => ⟨S_, .f32⟩
  | 57 => ⟨S32x2048x1x1, .f32⟩
  | 58 => ⟨S32x2048x1x1, .f32⟩
  | 59 => ⟨S_, .f32⟩
  | 60 => ⟨S32x2048x1x1, .f32⟩
  | 61 => ⟨S32x2048x1x1, .f32⟩
  | 62 => ⟨S32x2048x1x1, .f32⟩
  | 63 => ⟨S32x2048x1x64, .f32⟩
  | 64 => ⟨S32x2048x1x64, .f32⟩
  | 65 => ⟨S1x1x1x64, .f32⟩
  | 66 => ⟨S32x2048x1x64, .f32⟩
  | 67 => ⟨S32x2048x1x64, .f32⟩
  | 68 => ⟨S32x2048x1x32, .f32⟩
  | 69 => ⟨S32x2048x1x32, .f32⟩
  | 70 => ⟨S32x2048x1x32, .f32⟩
  | 71 => ⟨S32x2048x1x32, .f32⟩
  | 72 => ⟨S32x2048x1x32, .f32⟩
  | 73 => ⟨S32x2048x1x32, .f32⟩
  | 74 => ⟨S32x2048x1x32, .f32⟩
  | 75 => ⟨S32x2048x1x32, .f32⟩
  | 76 => ⟨S32x2048x1x32, .f32⟩
  | 77 => ⟨S32x2048x1x32, .f32⟩
  | 78 => ⟨S32x2048x1x64, .f32⟩
  | 79 => ⟨S32x2048x64, .f32⟩
  | 80 => ⟨S32x2048x8x64, .f32⟩
  | 81 => ⟨S32x2048x8x32, .f32⟩
  | 82 => ⟨S32x2048x8x32, .f32⟩
  | 83 => ⟨S32x2048x1x32, .f32⟩
  | 84 => ⟨S32x2048x1x32, .f32⟩
  | 85 => ⟨S32x2048x8x32, .f32⟩
  | 86 => ⟨S32x2048x8x32, .f32⟩
  | 87 => ⟨S32x2048x8x32, .f32⟩
  | 88 => ⟨S32x2048x8x32, .f32⟩
  | 89 => ⟨S32x2048x8x32, .f32⟩
  | 90 => ⟨S32x2048x8x32, .f32⟩
  | 91 => ⟨S32x2048x8x32, .f32⟩
  | 92 => ⟨S32x2048x8x32, .f32⟩
  | 93 => ⟨S32x2048x8x32, .f32⟩
  | 94 => ⟨S32x2048x8x32, .f32⟩
  | 95 => ⟨S32x2048x8x64, .f32⟩
  | 96 => ⟨S32x2048x512, .f32⟩
  | 97 => ⟨S32x2048x1x64, .f32⟩
  | 98 => ⟨S32x2048x1x32, .f32⟩
  | 99 => ⟨S32x2048x1x32, .f32⟩
  | 100 => ⟨S32x2048x1x32, .f32⟩
  | 101 => ⟨S32x2048x1x32, .f32⟩
  | 102 => ⟨S32x2048x1x32, .f32⟩
  | 103 => ⟨S32x2048x1x32, .f32⟩
  | 104 => ⟨S32x2048x1x32, .f32⟩
  | 105 => ⟨S32x2048x1x32, .f32⟩
  | 106 => ⟨S32x2048x1x32, .f32⟩
  | 107 => ⟨S32x2048x1x32, .f32⟩
  | 108 => ⟨S32x2048x1x64, .f32⟩
  | 109 => ⟨S32x2048x64, .f32⟩
  | 110 => ⟨S32x8x256x4x128, .f32⟩
  | 111 => ⟨S32x4x8x128x256, .f32⟩
  | 112 => ⟨S32x8x256x64, .f32⟩
  | 113 => ⟨S32x8x64x256, .f32⟩
  | 114 => ⟨S_, .f32⟩
  | 115 => ⟨S32x2048x120, .f32⟩
  | 116 => ⟨S32x2048x128, .f32⟩
  | 117 => ⟨S32x2048x512, .bf16⟩
  | 118 => ⟨S32x2048x512, .bf16⟩
  | 119 => ⟨S32x4x8x128x256, .bf16⟩
  | 120 => ⟨S32x2048x512, .bf16⟩
  | 121 => ⟨S32x2048x512, .bf16⟩
  | 122 => ⟨S32x2048x128, .f32⟩
  | 123 => ⟨S32x2048x128, .bf16⟩
  | 124 => ⟨S32x2048x128, .f32⟩
  | 125 => ⟨S32x2048x128, .bf16⟩
  | 126 => ⟨S32x8x64x256, .bf16⟩
  | 127 => ⟨S32x2048x2048, .f32⟩
  | _ => ⟨S32x2048x1024, .f32⟩

abbrev hbmTy0_2 (i : Nat) : BufTy := match i % 128 with
  | 0 => ⟨S32x2048x2048, .f32⟩
  | 1 => ⟨S_, .f32⟩
  | 2 => ⟨S32x2048x2048, .f32⟩
  | 3 => ⟨S32x2048x2048, .f32⟩
  | 4 => ⟨S_, .f32⟩
  | 5 => ⟨S32x2048x2048, .f32⟩
  | 6 => ⟨S32x2048x2048, .f32⟩
  | 7 => ⟨S32x2048x2048, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_10 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_11 : Ref sig .tc := ⟨.hbm, 110, rfl⟩
abbrev main_v88 : Ref sig .tc := ⟨.hbm, 111, rfl⟩
abbrev main_v89 : Ref sig .tc := ⟨.hbm, 112, rfl⟩
abbrev main_cst_12 : Ref sig .tc := ⟨.hbm, 113, rfl⟩
abbrev main_v90 : Ref sig .tc := ⟨.hbm, 114, rfl⟩
abbrev main_v91 : Ref sig .tc := ⟨.hbm, 115, rfl⟩
abbrev main_cst_13 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_14 : Ref sig .tc := ⟨.hbm, 144, rfl⟩
abbrev main_v119 : Ref sig .tc := ⟨.hbm, 145, rfl⟩
abbrev main_v120 : Ref sig .tc := ⟨.hbm, 146, rfl⟩
abbrev main_cst_15 : Ref sig .tc := ⟨.hbm, 147, rfl⟩
abbrev main_v121 : Ref sig .tc := ⟨.hbm, 148, rfl⟩
abbrev main_v122 : Ref sig .tc := ⟨.hbm, 149, rfl⟩
abbrev main_cst_16 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_17 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_cst_18 : Ref sig .tc := ⟨.hbm, 181, rfl⟩
abbrev main_v152 : Ref sig .tc := ⟨.hbm, 182, rfl⟩
abbrev main_v153 : Ref sig .tc := ⟨.hbm, 183, rfl⟩
abbrev main_cst_19 : Ref sig .tc := ⟨.hbm, 184, rfl⟩
abbrev main_v154 : Ref sig .tc := ⟨.hbm, 185, rfl⟩
abbrev main_v155 : Ref sig .tc := ⟨.hbm, 186, rfl⟩
abbrev main_cst_20 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_cst_21 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_cst_22 : Ref sig .tc := ⟨.hbm, 257, rfl⟩
abbrev main_v224 : Ref sig .tc := ⟨.hbm, 258, rfl⟩
abbrev main_v225 : Ref sig .tc := ⟨.hbm, 259, rfl⟩
abbrev main_cst_23 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩

abbrev nD : Nat := 1
abbrev τ : Topo := Topo.v7x

variable {F : FTy → Type} [FloatOps F]
-- ==== Kernel3.lean ====
abbrev S32x1024 : Shape := ⟨2, ![32, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S32x6144 : Shape := ⟨2, ![32, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S32x6144, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1024x6144, .f32⟩
  | .hbm, ⟨13, _⟩ => ⟨S32x6144, .f32⟩
  | .hbm, ⟨14, _⟩ => ⟨S6144, .f32⟩
  | .hbm, ⟨15, _⟩ => ⟨S1x6144, .f32⟩
  | .hbm, ⟨16, _⟩ => ⟨S32x6144, .f32⟩
  | .hbm, ⟨17, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel4.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x1024 : Shape := ⟨2, ![32, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S32x1x1024 : Shape := ⟨3, ![32, 1, 1024]⟩
abbrev S8x2x128x128 : Shape := ⟨4, ![8, 2, 128, 128]⟩
abbrev S16x128x128 : Shape := ⟨3, ![16, 128, 128]⟩
abbrev S512x1024 : Shape := ⟨2, ![512, 1024]⟩
abbrev S1024x1024 : Shape := ⟨2, ![1024, 1024]⟩
abbrev S1024x2048 : Shape := ⟨2, ![1024, 2048]⟩
abbrev S65536x128 : Shape := ⟨2, ![65536, 128]⟩
abbrev S1x256x512 : Shape := ⟨3, ![1, 256, 512]⟩
abbrev S1x256x2048 : Shape := ⟨3, ![1, 256, 2048]⟩
abbrev S1x256x1024 : Shape := ⟨3, ![1, 256, 1024]⟩
abbrev S1x1x1024 : Shape := ⟨3, ![1, 1, 1024]⟩
abbrev S256x128 : Shape := ⟨2, ![256, 128]⟩
abbrev S256x2048 : Shape := ⟨2, ![256, 2048]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S16x128 : Shape := ⟨2, ![16, 128]⟩
abbrev S8x128 : Shape := ⟨2, ![8, 128]⟩
abbrev S80x128 : Shape := ⟨2, ![80, 128]⟩

abbrev nBuf : Space → Nat
  | .hbm => 31
  | .vmem => 29
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S1x1024, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024x2048, .f32⟩
  | .hbm, ⟨12, _⟩ => ⟨S1x8x2x128x128, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S8x2x128x128, .f32⟩
  | .hbm, ⟨17, _⟩ => ⟨S16x128x128, .f32⟩
  | .hbm, ⟨18, _⟩ => ⟨S16x128x128, .bf16⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024x2048, .f32⟩
  | .hbm, ⟨26, _⟩ => ⟨S1024x2048, .bf16⟩
  | .hbm, ⟨27, _⟩ => ⟨S32x2048x1024, .f32⟩
  | .hbm, ⟨28, _⟩ => ⟨S32x2048x1024, .f32⟩
  | .hbm, ⟨29, _⟩ => ⟨S65536x128, .i32⟩
  | .hbm, ⟨30, _⟩ => ⟨S65536x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x2048, .bf16⟩
  | .local _ .vmem, ⟨19, _⟩ => ⟨S16x128x128, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S256x128, .i32⟩
  | .local _ .vmem, ⟨25, _⟩ => ⟨S256x128, .i32⟩
  | .local _ .vmem, ⟨26, _⟩ => ⟨S256x128, .f32⟩
  | .local _ .vmem, ⟨27, _⟩ => ⟨S256x128, .f32⟩
  | .local _ .vmem, ⟨28, _⟩ => ⟨S256x2048, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x1024 : Shape := ⟨2, ![32, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S32x2048x2x1024 : Shape := ⟨4, ![32, 2048, 2, 1024]⟩
abbrev S32x2048x1x1024 : Shape := ⟨4, ![32, 2048, 1, 1024]⟩
abbrev S512x1024 : Shape := ⟨2, ![512, 1024]⟩
abbrev S32x1x1024 : Shape := ⟨3, ![32, 1, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S1x1024, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024x2048, .f32⟩
  | .hbm, ⟨12, _⟩ => ⟨S1x8x2x128x128, .f32⟩
  | .hbm, ⟨13, _⟩ => ⟨S32x2048x2048, .f32⟩
  | .hbm, ⟨14, _⟩ => ⟨S32x2048x2x1024, .f32⟩
  | .hbm, ⟨15, _⟩ => ⟨S32x2048x1x1024, .f32⟩
  | .hbm, ⟨16, _⟩ => ⟨S32x2048x1024, .f32⟩
  | .hbm, ⟨17, _⟩ => ⟨S32x2048x512, .f32⟩
  | .hbm, ⟨18, _⟩ => ⟨S512x1024, .f32⟩
  | .hbm, ⟨19, _⟩ => ⟨S32x2048x1024, .f32⟩
  | .hbm, ⟨20, _⟩ => ⟨S32x2048x1024, .f32⟩
  | .hbm, ⟨21, _⟩ => ⟨S32x2048x1x1024, .f32⟩
  | .hbm, ⟨22, _⟩ => ⟨S32x2048x1024, .f32⟩
  | .hbm, ⟨23, _⟩ => ⟨S32x2048x512, .f32⟩
  | .hbm, ⟨24, _⟩ => ⟨S512x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x1x1024, .f32⟩
  | .hbm, ⟨29, _⟩ => ⟨S1024x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S1024, .f32⟩
  | .hbm, ⟨35, _⟩ => ⟨S32x2048x1024, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S32x2048x1, .f32⟩
  | .hbm, ⟨46, _⟩ => ⟨S32x2048x1024, .f32⟩
  | .hbm, ⟨47, _⟩ => ⟨S32x2048x1024, .f32⟩
  | .hbm, ⟨48, _⟩ => ⟨S1x1x1024, .f32⟩
  | .hbm, ⟨49, _⟩ => ⟨S32x2048x1024, .f32⟩
  | .hbm, ⟨50, _⟩ => ⟨S32x2048x1024, .f32⟩
  | .hbm, ⟨51, _⟩ => ⟨S32x1x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S32x2048x1024, .f32⟩
  | .hbm, ⟨56, _⟩ => ⟨S32x2048x1024, .f32⟩
  | .hbm, ⟨57, _⟩ => ⟨S32x1x1024, .f32⟩
  | .hbm, ⟨58, _⟩ => ⟨S32x2048x1024, .f32⟩
  | .hbm, ⟨59, _⟩ => ⟨S32x2048x1024, .f32⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.Frame2Ideal.lean ====
/- The frame of `Kernel2Ideal`: @main up to its one region (`hmain`), the arrays' contents there (`V`), each window's block at a point
   (`iblk`), what each output's buffer holds after the body (`out0_w`), the body's triple (`sound_kernel`), the proof data (`dats`),
   the run (`run_main`) and `frame`, the frame claim. It follows the frame file under Gen; the heartbeats allowed are raised, since
   this body's ten outputs do not fit the default. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1x512x1 := Rect.unit (s := S1x512x1) ![0, 0, 0] S1x512x1.size inb_S1x512x1_S1x512x1_0_0_0
abbrev r0_4 : Rect S1x128 := Rect.unit (s := S1x128) ![0, 0] S1x128.size inb_S1x128_S1x128_0_0
abbrev r0_5 : Rect S128x128 := Rect.unit (s := S128x128) ![0, 0] S128x128.size inb_S128x128_S128x128_0_0
abbrev r0_6 : Rect S1024x5120 := Rect.unit (s := S1024x5120) ![0, 0] S1024x128.size inb_S1024x5120_S1024x128_0_0
abbrev r0_7 : Rect S1x512 := Rect.unit (s := S1x512) ![0, 0] S1x128.size inb_S1x512_S1x128_0_0
abbrev r0_8 : Rect S1x512x512 := Rect.unit (s := S1x512x512) ![0, 0, 0] S1x512x128.size inb_S1x512x512_S1x512x128_0_0_0
abbrev r0_9 : Rect S1024x5120 := Rect.unit (s := S1024x5120) ![0, 128] S1024x128.size inb_S1024x5120_S1024x128_0_128
abbrev r0_10 : Rect S1x512 := Rect.unit (s := S1x512) ![0, 128] S1x128.size inb_S1x512_S1x128_0_128
abbrev r0_11 : Rect S1x512x512 := Rect.unit (s := S1x512x512) ![0, 0, 128] S1x512x128.size inb_S1x512x512_S1x512x128_0_0_128
abbrev r0_12 : Rect S1024x5120 := Rect.unit (s := S1024x5120) ![0, 256] S1024x128.size inb_S1024x5120_S1024x128_0_256
abbrev r0_13 : Rect S1x512 := Rect.unit (s := S1x512) ![0, 256] S1x128.size inb_S1x512_S1x128_0_256
abbrev r0_14 : Rect S1x512x512 := Rect.unit (s := S1x512x512) ![0, 0, 256] S1x512x128.size inb_S1x512x512_S1x512x128_0_0_256
abbrev r0_15 : Rect S1024x5120 := Rect.unit (s := S1024x5120) ![0, 384] S1024x128.size inb_S1024x5120_S1024x128_0_384
abbrev r0_16 : Rect S1x512 := Rect.unit (s := S1x512) ![0, 384] S1x128.size inb_S1x512_S1x128_0_384
abbrev r0_17 : Rect S1x512x512 := Rect.unit (s := S1x512x512) ![0, 0, 384] S1x512x128.size inb_S1x512x512_S1x512x128_0_0_384
abbrev r0_18 : Rect S1024x5120 := Rect.unit (s := S1024x5120) ![0, 512] S1024x128.size inb_S1024x5120_S1024x128_0_512
abbrev r0_19 : Rect S1024x5120 := Rect.unit (s := S1024x5120) ![0, 640] S1024x128.size inb_S1024x5120_S1024x128_0_640
abbrev r0_20 : Rect S1024x5120 := Rect.unit (s := S1024x5120) ![0, 768] S1024x128.size inb_S1024x5120_S1024x128_0_768
abbrev r0_21 : Rect S1024x5120 := Rect.unit (s := S1024x5120) ![0, 896] S1024x128.size inb_S1024x5120_S1024x128_0_896
abbrev r0_22 : Rect S1024x5120 := Rect.unit (s := S1024x5120) ![0, 1024] S1024x512.size inb_S1024x5120_S1024x512_0_1024
abbrev r0_23 : Rect S1024x5120 := Rect.unit (s := S1024x5120) ![0, 2816] S1024x128.size inb_S1024x5120_S1024x128_0_2816
abbrev r0_24 : Rect S1x4x2x128x256 := Rect.unit (s := S1x4x2x128x256) ![0, 0, 0, 0, 0] S1x1x1x128x256.size inb_S1x4x2x128x256_S1x1x1x128x256_0_0_0_0_0
abbrev r0_25 : Rect S1x4x2x128x256 := Rect.unit (s := S1x4x2x128x256) ![0, 1, 0, 0, 0] S1x1x1x128x256.size inb_S1x4x2x128x256_S1x1x1x128x256_0_1_0_0_0
abbrev r0_26 : Rect S1x4x2x128x256 := Rect.unit (s := S1x4x2x128x256) ![0, 2, 0, 0, 0] S1x1x1x128x256.size inb_S1x4x2x128x256_S1x1x1x128x256_0_2_0_0_0
abbrev r0_27 : Rect S1x4x2x128x256 := Rect.unit (s := S1x4x2x128x256) ![0, 3, 0, 0, 0] S1x1x1x128x256.size inb_S1x4x2x128x256_S1x1x1x128x256_0_3_0_0_0
abbrev r0_28 : Rect S1x2x64x256 := Rect.unit (s := S1x2x64x256) ![0, 0, 0, 0] S1x1x64x256.size inb_S1x2x64x256_S1x1x64x256_0_0_0_0
abbrev r0_29 : Rect S1x4x2x128x256 := Rect.unit (s := S1x4x2x128x256) ![0, 0, 1, 0, 0] S1x1x1x128x256.size inb_S1x4x2x128x256_S1x1x1x128x256_0_0_1_0_0
abbrev r0_30 : Rect S1x4x2x128x256 := Rect.unit (s := S1x4x2x128x256) ![0, 1, 1, 0, 0] S1x1x1x128x256.size inb_S1x4x2x128x256_S1x1x1x128x256_0_1_1_0_0
abbrev r0_31 : Rect S1x4x2x128x256 := Rect.unit (s := S1x4x2x128x256) ![0, 2, 1, 0, 0] S1x1x1x128x256.size inb_S1x4x2x128x256_S1x1x1x128x256_0_2_1_0_0
abbrev r0_32 : Rect S1x4x2x128x256 := Rect.unit (s := S1x4x2x128x256) ![0, 3, 1, 0, 0] S1x1x1x128x256.size inb_S1x4x2x128x256_S1x1x1x128x256_0_3_1_0_0
abbrev r0_33 : Rect S1x2x64x256 := Rect.unit (s := S1x2x64x256) ![0, 1, 0, 0] S1x1x64x256.size inb_S1x2x64x256_S1x1x64x256_0_1_0_0
abbrev r0_34 : Rect S1024x5120 := Rect.unit (s := S1024x5120) ![0, 1536] S1024x128.size inb_S1024x5120_S1024x128_0_1536
abbrev r0_35 : Rect S1024x5120 := Rect.unit (s := S1024x5120) ![0, 1664] S1024x128.size inb_S1024x5120_S1024x128_0_1664
abbrev r0_36 : Rect S1024x5120 := Rect.unit (s := S1024x5120) ![0, 1792] S1024x128.size inb_S1024x5120_S1024x128_0_1792
abbrev r0_37 : Rect S1024x5120 := Rect.unit (s := S1024x5120) ![0, 1920] S1024x128.size inb_S1024x5120_S1024x128_0_1920
abbrev r0_38 : Rect S1024x5120 := Rect.unit (s := S1024x5120) ![0, 2048] S1024x128.size inb_S1024x5120_S1024x128_0_2048
abbrev r0_39 : Rect S1024x5120 := Rect.unit (s := S1024x5120) ![0, 2176] S1024x128.size inb_S1024x5120_S1024x128_0_2176
abbrev r0_40 : Rect S1024x5120 := Rect.unit (s := S1024x5120) ![0, 2304] S1024x128.size inb_S1024x5120_S1024x128_0_2304
abbrev r0_41 : Rect S1024x5120 := Rect.unit (s := S1024x5120) ![0, 2432] S1024x128.size inb_S1024x5120_S1024x128_0_2432
abbrev r0_42 : Rect S1024x5120 := Rect.unit (s := S1024x5120) ![0, 2560] S1024x128.size inb_S1024x5120_S1024x128_0_2560
abbrev r0_43 : Rect S1x512x128 := Rect.unit (s := S1x512x128) ![0, 0, 0] S1x512x128.size inb_S1x512x128_S1x512x128_0_0_0
abbrev r0_44 : Rect S1024x5120 := Rect.unit (s := S1024x5120) ![0, 2688] S1024x128.size inb_S1024x5120_S1024x128_0_2688
abbrev r0_45 : Rect S1024x5120 := Rect.unit (s := S1024x5120) ![0, 2944] S1024x128.size inb_S1024x5120_S1024x128_0_2944
abbrev r0_46 : Rect S1024x5120 := Rect.unit (s := S1024x5120) ![0, 3072] S1024x512.size inb_S1024x5120_S1024x512_0_3072
abbrev r0_47 : Rect S1x512x2048 := Rect.unit (s := S1x512x2048) ![0, 0, 0] S1x512x512.size inb_S1x512x2048_S1x512x512_0_0_0
abbrev r0_48 : Rect S1024x5120 := Rect.unit (s := S1024x5120) ![0, 3584] S1024x512.size inb_S1024x5120_S1024x512_0_3584
abbrev r0_49 : Rect S1x512x2048 := Rect.unit (s := S1x512x2048) ![0, 0, 512] S1x512x512.size inb_S1x512x2048_S1x512x512_0_0_512
abbrev r0_50 : Rect S1024x5120 := Rect.unit (s := S1024x5120) ![0, 4096] S1024x512.size inb_S1024x5120_S1024x512_0_4096
abbrev r0_51 : Rect S1x512x2048 := Rect.unit (s := S1x512x2048) ![0, 0, 1024] S1x512x512.size inb_S1x512x2048_S1x512x512_0_0_1024
abbrev r0_52 : Rect S1024x5120 := Rect.unit (s := S1024x5120) ![0, 4608] S1024x512.size inb_S1024x5120_S1024x512_0_4608
abbrev r0_53 : Rect S1x512x2048 := Rect.unit (s := S1x512x2048) ![0, 0, 1536] S1x512x512.size inb_S1x512x2048_S1x512x512_0_0_1536

/-! ## What the body leaves in each output window's buffer -/

/-! ### Values of the body that the stores' payloads, spelt out, would write more than once

    Each is a vector the body binds (often a part call's result), stated over the input windows' blocks and
    numbered on from the skeleton's payload functions (`k0_pay67` …, after `k0_pay66`), so that
    `out0_W` and the values after it name it instead of spelling it out (`unfold_out out0_W` opens a canon
    with them, `unfold_payloads` opens them with the payloads); the comment after each is the printed function's
    name for the value (a count appended where that name is bound again). -/

def k0_pay67 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : FVec F S512x1024 .bf16 :=
  k0_pay3 (View.ld x0 r0_0) (View.ld x3 r0_1) (View.ld x1 r0_2) (View.ld x2 r0_2) -- `v25`
def k0_pay68 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : FVec F S512x128 .f32 :=
  k0_pay5 (View.ld x4 r0_3) (View.ld x5 r0_4) -- `v34`
def k0_pay69 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : FVec F S512x128 .f32 :=
  k0_pay7 (k0_pay6 (View.ld x4 r0_3) (View.ld x5 r0_4)) (View.ld x6 r0_4) -- `v38`
def k0_pay70 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : IVec S512x128 1 :=
  k0_pay8 -- `v57`
def k0_pay71 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : FVec F S512x512 .f32 :=
  k0_pay30 (k0_pay67 x0 x1 x2 x3 x4 x5 x6 x7 x8 x9 x10 x11 x12) (View.ld x12 r0_22) -- `v301`
def k0_pay72 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : FVec F S512x128 .f32 :=
  k0_pay31 (k0_pay67 x0 x1 x2 x3 x4 x5 x6 x7 x8 x9 x10 x11 x12) (View.ld x12 r0_23) -- `v304`

/-- Window 13's staging buffer after the body, from the input windows' blocks: its 4 stores as pieces, LAST
    FIRST (Lib/Pipeline/FrameBody.lean `View.canon`; the payloads are the skeleton's and the values stated above). -/
def out0_13 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x512 .bf16 :=
  View.canon [⟨r0_17, k0_pay18 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (k0_pay14 (k0_pay67 x0 x1 x2 x3 x4 x5 x6 x7 x8 x9 x10 x11 x12) (View.ld x12 r0_15)) (k0_pay16 (k0_pay67 x0 x1 x2 x3 x4 x5 x6 x7 x8 x9 x10 x11 x12) (View.ld x12 r0_15)) (k0_pay17 (k0_pay67 x0 x1 x2 x3 x4 x5 x6 x7 x8 x9 x10 x11 x12) (View.ld x12 r0_15)) (View.ld x7 r0_16)⟩,
    ⟨r0_14, k0_pay13 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_12) (View.ld x7 r0_13)⟩,
    ⟨r0_11, k0_pay12 (k0_pay11 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_9) (View.ld x7 r0_10))⟩,
    ⟨r0_8, k0_pay10 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay9 (k0_pay67 x0 x1 x2 x3 x4 x5 x6 x7 x8 x9 x10 x11 x12) (View.ld x11 r0_5) (View.ld x12 r0_6) (View.ld x7 r0_7)) 96#32⟩]

/-- Its stores tile the buffer (checked by evaluation), so they cover it. -/
theorem cover0_13 (p0 : Vec F S1x512x128 .bf16) (p1 : Vec F S1x512x128 .bf16) (p2 : Vec F S1x512x128 .bf16) (p3 : Vec F S1x512x128 .bf16) (y : S1x512x512.Idx) :
    ∃ pc ∈ ([⟨r0_17, p0⟩, ⟨r0_14, p1⟩, ⟨r0_11, p2⟩, ⟨r0_8, p3⟩] : List (View.Piece (Elt F) S1x512x512 .bf16)), y ∈ pc.1.set :=
  View.cover_of_tiled [⟨r0_17, p0⟩, ⟨r0_14, p1⟩, ⟨r0_11, p2⟩, ⟨r0_8, p3⟩] S1x512x128.size (by rfl) y

/-- Window 14's staging buffer after the body, from the input windows' blocks: its 4 stores as pieces, LAST
    FIRST (Lib/Pipeline/FrameBody.lean `View.canon`; the payloads are the skeleton's and the values stated above). -/
def out0_14 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x512 .bf16 :=
  View.canon [⟨r0_17, k0_pay29 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay24 (k0_pay67 x0 x1 x2 x3 x4 x5 x6 x7 x8 x9 x10 x11 x12) (View.ld x12 r0_21)) (k0_pay27 (k0_pay67 x0 x1 x2 x3 x4 x5 x6 x7 x8 x9 x10 x11 x12) (View.ld x11 r0_5) (View.ld x12 r0_21)) (k0_pay28 (k0_pay67 x0 x1 x2 x3 x4 x5 x6 x7 x8 x9 x10 x11 x12) (View.ld x11 r0_5) (View.ld x12 r0_21)) (View.ld x8 r0_16)⟩,
    ⟨r0_14, k0_pay23 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_20) (View.ld x8 r0_13)⟩,
    ⟨r0_11, k0_pay22 (k0_pay21 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_19) (View.ld x8 r0_10))⟩,
    ⟨r0_8, k0_pay20 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay19 (k0_pay67 x0 x1 x2 x3 x4 x5 x6 x7 x8 x9 x10 x11 x12) (View.ld x11 r0_5) (View.ld x12 r0_18)) (View.ld x8 r0_7)⟩]

/-- Its stores tile the buffer (checked by evaluation), so they cover it. -/
theorem cover0_14 (p0 : Vec F S1x512x128 .bf16) (p1 : Vec F S1x512x128 .bf16) (p2 : Vec F S1x512x128 .bf16) (p3 : Vec F S1x512x128 .bf16) (y : S1x512x512.Idx) :
    ∃ pc ∈ ([⟨r0_17, p0⟩, ⟨r0_14, p1⟩, ⟨r0_11, p2⟩, ⟨r0_8, p3⟩] : List (View.Piece (Elt F) S1x512x512 .bf16)), y ∈ pc.1.set :=
  View.cover_of_tiled [⟨r0_17, p0⟩, ⟨r0_14, p1⟩, ⟨r0_11, p2⟩, ⟨r0_8, p3⟩] S1x512x128.size (by rfl) y

/-- Window 15's staging buffer after the body, from the input windows' blocks: its 8 stores as pieces, LAST
    FIRST (Lib/Pipeline/FrameBody.lean `View.canon`; the payloads are the skeleton's and the values stated above). -/
def out0_15 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x4x2x128x256 .bf16 :=
  View.canon [⟨r0_32, k0_pay42 (k0_pay71 x0 x1 x2 x3 x4 x5 x6 x7 x8 x9 x10 x11 x12)⟩,
    ⟨r0_31, k0_pay41 (k0_pay71 x0 x1 x2 x3 x4 x5 x6 x7 x8 x9 x10 x11 x12)⟩,
    ⟨r0_30, k0_pay40 (k0_pay39 (k0_pay71 x0 x1 x2 x3 x4 x5 x6 x7 x8 x9 x10 x11 x12))⟩,
    ⟨r0_29, k0_pay38 (k0_pay71 x0 x1 x2 x3 x4 x5 x6 x7 x8 x9 x10 x11 x12)⟩,
    ⟨r0_27, k0_pay36 (k0_pay71 x0 x1 x2 x3 x4 x5 x6 x7 x8 x9 x10 x11 x12)⟩,
    ⟨r0_26, k0_pay35 (k0_pay71 x0 x1 x2 x3 x4 x5 x6 x7 x8 x9 x10 x11 x12)⟩,
    ⟨r0_25, k0_pay34 (k0_pay33 (k0_pay67 x0 x1 x2 x3 x4 x5 x6 x7 x8 x9 x10 x11 x12) (View.ld x12 r0_22))⟩,
    ⟨r0_24, k0_pay32 (k0_pay67 x0 x1 x2 x3 x4 x5 x6 x7 x8 x9 x10 x11 x12) (View.ld x12 r0_22)⟩]

/-- Its stores tile the buffer (checked by evaluation), so they cover it. -/
theorem cover0_15 (p0 : Vec F S1x1x1x128x256 .bf16) (p1 : Vec F S1x1x1x128x256 .bf16) (p2 : Vec F S1x1x1x128x256 .bf16) (p3 : Vec F S1x1x1x128x256 .bf16) (p4 : Vec F S1x1x1x128x256 .bf16) (p5 : Vec F S1x1x1x128x256 .bf16) (p6 : Vec F S1x1x1x128x256 .bf16) (p7 : Vec F S1x1x1x128x256 .bf16) (y : S1x4x2x128x256.Idx) :
    ∃ pc ∈ ([⟨r0_32, p0⟩, ⟨r0_31, p1⟩, ⟨r0_30, p2⟩, ⟨r0_29, p3⟩, ⟨r0_27, p4⟩, ⟨r0_26, p5⟩, ⟨r0_25, p6⟩, ⟨r0_24, p7⟩] : List (View.Piece (Elt F) S1x4x2x128x256 .bf16)), y ∈ pc.1.set :=
  View.cover_of_tiled [⟨r0_32, p0⟩, ⟨r0_31, p1⟩, ⟨r0_30, p2⟩, ⟨r0_29, p3⟩, ⟨r0_27, p4⟩, ⟨r0_26, p5⟩, ⟨r0_25, p6⟩, ⟨r0_24, p7⟩] S1x1x1x128x256.size (by rfl) y

/-- Window 16's staging buffer after the body, from the input windows' blocks: its 4 stores as pieces, LAST
    FIRST (Lib/Pipeline/FrameBody.lean `View.canon`; the payloads are the skeleton's and the values stated above). -/
def out0_16 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x512 .bf16 :=
  View.canon [⟨r0_17, k0_pay52 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_37) (View.ld x9 r0_16)⟩,
    ⟨r0_14, k0_pay51 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_36) (View.ld x9 r0_13)⟩,
    ⟨r0_11, k0_pay50 (k0_pay48 (k0_pay67 x0 x1 x2 x3 x4 x5 x6 x7 x8 x9 x10 x11 x12) (k0_pay68 x0 x1 x2 x3 x4 x5 x6 x7 x8 x9 x10 x11 x12) (View.ld x11 r0_5) (View.ld x12 r0_35) (View.ld x9 r0_10)) (k0_pay49 (k0_pay67 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_35) (View.ld x9 r0_10))⟩,
    ⟨r0_8, k0_pay46 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay44 (k0_pay67 x0 x1 x2 x3 x4 x5 x6 x7 x8 x9 x10 x11 x12) (View.ld x12 r0_34)) (k0_pay45 (k0_pay67 x0 x1 x2 x3 x4 x5 x6 x7 x8 x9 x10 x11 x12) (View.ld x11 r0_5) (View.ld x12 r0_34)) (View.ld x9 r0_7)⟩]

/-- Its stores tile the buffer (checked by evaluation), so they cover it. -/
theorem cover0_16 (p0 : Vec F S1x512x128 .bf16) (p1 : Vec F S1x512x128 .bf16) (p2 : Vec F S1x512x128 .bf16) (p3 : Vec F S1x512x128 .bf16) (y : S1x512x512.Idx) :
    ∃ pc ∈ ([⟨r0_17, p0⟩, ⟨r0_14, p1⟩, ⟨r0_11, p2⟩, ⟨r0_8, p3⟩] : List (View.Piece (Elt F) S1x512x512 .bf16)), y ∈ pc.1.set :=
  View.cover_of_tiled [⟨r0_17, p0⟩, ⟨r0_14, p1⟩, ⟨r0_11, p2⟩, ⟨r0_8, p3⟩] S1x512x128.size (by rfl) y

/-- Window 17's staging buffer after the body, from the input windows' blocks: its 4 stores as pieces, LAST
    FIRST (Lib/Pipeline/FrameBody.lean `View.canon`; the payloads are the skeleton's and the values stated above). -/
def out0_17 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x512 .bf16 :=
  View.canon [⟨r0_17, k0_pay60 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay57 (k0_pay67 x0 x1 x2 x3 x4 x5 x6 x7 x8 x9 x10 x11 x12) (View.ld x12 r0_41)) (k0_pay58 (k0_pay67 x0 x1 x2 x3 x4 x5 x6 x7 x8 x9 x10 x11 x12) (View.ld x12 r0_41)) (k0_pay59 (k0_pay67 x0 x1 x2 x3 x4 x5 x6 x7 x8 x9 x10 x11 x12) (View.ld x12 r0_41))⟩,
    ⟨r0_14, k0_pay56 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x12 r0_40)⟩,
    ⟨r0_11, k0_pay55 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x12 r0_39)⟩,
    ⟨r0_8, k0_pay54 (k0_pay53 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x12 r0_38))⟩]

/-- Its stores tile the buffer (checked by evaluation), so they cover it. -/
theorem cover0_17 (p0 : Vec F S1x512x128 .bf16) (p1 : Vec F S1x512x128 .bf16) (p2 : Vec F S1x512x128 .bf16) (p3 : Vec F S1x512x128 .bf16) (y : S1x512x512.Idx) :
    ∃ pc ∈ ([⟨r0_17, p0⟩, ⟨r0_14, p1⟩, ⟨r0_11, p2⟩, ⟨r0_8, p3⟩] : List (View.Piece (Elt F) S1x512x512 .bf16)), y ∈ pc.1.set :=
  View.cover_of_tiled [⟨r0_17, p0⟩, ⟨r0_14, p1⟩, ⟨r0_11, p2⟩, ⟨r0_8, p3⟩] S1x512x128.size (by rfl) y

/-- Window 18's staging buffer after the body, from the input windows' blocks: its 1 store as pieces, LAST
    FIRST (Lib/Pipeline/FrameBody.lean `View.canon`; the payloads are the skeleton's and the values stated above). -/
def out0_18 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x128 .bf16 :=
  View.canon [⟨r0_43, k0_pay61 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (View.ld x11 r0_5) (View.ld x12 r0_42) (View.ld x10 r0_4)⟩]

/-- Its stores tile the buffer (checked by evaluation), so they cover it. -/
theorem cover0_18 (p0 : Vec F S1x512x128 .bf16) (y : S1x512x128.Idx) :
    ∃ pc ∈ ([⟨r0_43, p0⟩] : List (View.Piece (Elt F) S1x512x128 .bf16)), y ∈ pc.1.set :=
  View.cover_of_tiled [⟨r0_43, p0⟩] S1x512x128.size (by rfl) y

/-- Window 19's staging buffer after the body, from the input windows' blocks: its 1 store as pieces, LAST
    FIRST (Lib/Pipeline/FrameBody.lean `View.canon`; the payloads are the skeleton's and the values stated above). -/
def out0_19 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x128 .bf16 :=
  View.canon [⟨r0_43, k0_pay63 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay62 (View.ld x12 r0_44)) (constant S512x128 .f32 0x00000000#32)⟩]

/-- Its stores tile the buffer (checked by evaluation), so they cover it. -/
theorem cover0_19 (p0 : Vec F S1x512x128 .bf16) (y : S1x512x128.Idx) :
    ∃ pc ∈ ([⟨r0_43, p0⟩] : List (View.Piece (Elt F) S1x512x128 .bf16)), y ∈ pc.1.set :=
  View.cover_of_tiled [⟨r0_43, p0⟩] S1x512x128.size (by rfl) y

/-- Window 20's staging buffer after the body, from the input windows' blocks: its 2 stores as pieces, LAST
    FIRST (Lib/Pipeline/FrameBody.lean `View.canon`; the payloads are the skeleton's and the values stated above). -/
def out0_20 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x2x64x256 .bf16 :=
  View.canon [⟨r0_33, k0_pay43 (k0_pay72 x0 x1 x2 x3 x4 x5 x6 x7 x8 x9 x10 x11 x12)⟩,
    ⟨r0_28, k0_pay37 (k0_pay72 x0 x1 x2 x3 x4 x5 x6 x7 x8 x9 x10 x11 x12)⟩]

/-- Its stores tile the buffer (checked by evaluation), so they cover it. -/
theorem cover0_20 (p0 : Vec F S1x1x64x256 .bf16) (p1 : Vec F S1x1x64x256 .bf16) (y : S1x2x64x256.Idx) :
    ∃ pc ∈ ([⟨r0_33, p0⟩, ⟨r0_28, p1⟩] : List (View.Piece (Elt F) S1x2x64x256 .bf16)), y ∈ pc.1.set :=
  View.cover_of_tiled [⟨r0_33, p0⟩, ⟨r0_28, p1⟩] S1x1x64x256.size (by rfl) y

/-- Window 21's staging buffer after the body, from the input windows' blocks: its 1 store as pieces, LAST
    FIRST (Lib/Pipeline/FrameBody.lean `View.canon`; the payloads are the skeleton's and the values stated above). -/
def out0_21 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x128 .f32 :=
  View.canon [⟨r0_43, k0_pay64 (k0_pay67 x0 x1 x2 x3 x4 x5 x6 x7 x8 x9 x10 x11 x12) (View.ld x12 r0_45)⟩]

/-- Its stores tile the buffer (checked by evaluation), so they cover it. -/
theorem cover0_21 (p0 : Vec F S1x512x128 .f32) (y : S1x512x128.Idx) :
    ∃ pc ∈ ([⟨r0_43, p0⟩] : List (View.Piece (Elt F) S1x512x128 .f32)), y ∈ pc.1.set :=
  View.cover_of_tiled [⟨r0_43, p0⟩] S1x512x128.size (by rfl) y

/-- Window 22's staging buffer after the body, from the input windows' blocks: its 4 stores as pieces, LAST
    FIRST (Lib/Pipeline/FrameBody.lean `View.canon`; the payloads are the skeleton's and the values stated above). -/
def out0_22 (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) : Vec F S1x512x2048 .bf16 :=
  View.canon [⟨r0_53, k0_pay2 (k0_pay67 x0 x1 x2 x3 x4 x5 x6 x7 x8 x9 x10 x11 x12) (View.ld x12 r0_52)⟩,
    ⟨r0_51, k0_pay1 (k0_pay67 x0 x1 x2 x3 x4 x5 x6 x7 x8 x9 x10 x11 x12) (View.ld x12 r0_50)⟩,
    ⟨r0_49, k0_pay66 (k0_pay67 x0 x1 x2 x3 x4 x5 x6 x7 x8 x9 x10 x11 x12) (View.ld x12 r0_48)⟩,
    ⟨r0_47, k0_pay65 (k0_pay67 x0 x1 x2 x3 x4 x5 x6 x7 x8 x9 x10 x11 x12) (View.ld x12 r0_46)⟩]

/-- Its stores tile the buffer (checked by evaluation), so they cover it. -/
theorem cover0_22 (p0 : Vec F S1x512x512 .bf16) (p1 : Vec F S1x512x512 .bf16) (p2 : Vec F S1x512x512 .bf16) (p3 : Vec F S1x512x512 .bf16) (y : S1x512x2048.Idx) :
    ∃ pc ∈ ([⟨r0_53, p0⟩, ⟨r0_51, p1⟩, ⟨r0_49, p2⟩, ⟨r0_47, p3⟩] : List (View.Piece (Elt F) S1x512x2048 .bf16)), y ∈ pc.1.set :=
  View.cover_of_tiled [⟨r0_53, p0⟩, ⟨r0_51, p1⟩, ⟨r0_49, p2⟩, ⟨r0_47, p3⟩] S1x512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x512x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S128x128 .bf16) (harg13 : arg13.IsWhole) (arg14 : Memref sig .tc .vmem S1024x5120 .bf16) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x4x2x128x256 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x512x128 .bf16) (harg20 : arg20.IsWhole) (arg21 : Memref sig .tc .vmem S1x512x128 .bf16) (harg21 : arg21.IsWhole) (arg22 : Memref sig .tc .vmem S1x2x64x256 .bf16) (harg22 : arg22.IsWhole) (arg23 : Memref sig .tc .vmem S1x512x128 .f32) (harg23 : arg23.IsWhole) (arg24 : Memref sig .tc .vmem S1x512x2048 .bf16) (harg24 : arg24.IsWhole)
    (x0 : Vec F S1x512x1024 .f32) (x1 : Vec F S1x1x1024 .f32) (x2 : Vec F S1x1x1024 .f32) (x3 : Vec F S1x1024 .f32) (x4 : Vec F S1x512x1 .i32) (x5 : Vec F S1x128 .f32) (x6 : Vec F S1x128 .f32) (x7 : Vec F S1x512 .f32) (x8 : Vec F S1x512 .f32) (x9 : Vec F S1x512 .f32) (x10 : Vec F S1x128 .f32) (x11 : Vec F S128x128 .bf16) (x12 : Vec F S1024x5120 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (out0_13 x0 x1 x2 x3 x4 x5 x6 x7 x8 x9 x10 x11 x12) ∗ owns (c : Thread nD τ) arg16 fullShare (out0_14 x0 x1 x2 x3 x4 x5 x6 x7 x8 x9 x10 x11 x12) ∗ owns (c : Thread nD τ) arg17 fullShare (out0_15 x0 x1 x2 x3 x4 x5 x6 x7 x8 x9 x10 x11 x12) ∗ owns (c : Thread nD τ) arg18 fullShare (out0_16 x0 x1 x2 x3 x4 x5 x6 x7 x8 x9 x10 x11 x12) ∗ owns (c : Thread nD τ) arg19 fullShare (out0_17 x0 x1 x2 x3 x4 x5 x6 x7 x8 x9 x10 x11 x12) ∗ owns (c : Thread nD τ) arg20 fullShare (out0_18 x0 x1 x2 x3 x4 x5 x6 x7 x8 x9 x10 x11 x12) ∗ owns (c : Thread nD τ) arg21 fullShare (out0_19 x0 x1 x2 x3 x4 x5 x6 x7 x8 x9 x10 x11 x12) ∗ owns (c : Thread nD τ) arg22 fullShare (out0_20 x0 x1 x2 x3 x4 x5 x6 x7 x8 x9 x10 x11 x12) ∗ owns (c : Thread nD τ) arg23 fullShare (out0_21 x0 x1 x2 x3 x4 x5 x6 x7 x8 x9 x10 x11 x12) ∗ owns (c : Thread nD τ) arg24 fullShare (out0_22 x0 x1 x2 x3 x4 x5 x6 x7 x8 x9 x10 x11 x12)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Gen

end
-- ==== Proof.Body.lean ====
module

public import proofs.«01_k».proof.Proof.Gen.KernelIdeal.Value
public import Idealize.ShloMosaic.Lib.Tactic
public import Idealize.ShloMosaic.Lib.LoopRemainder
public import Idealize.ShloMosaic.Lib.WholeRead
public import Idealize.ShloMosaic.Lib.Pointwise

@[expose] public section

set_option maxRecDepth 16384
set_option synthInstance.maxSize 4096

/-! The kernel's body, one head at a time. A head keeps three values while it walks the tiles of keys: the greatest
    score of each column so far, the sum of the weights, and the weighted sum of the values. `hstep` is one tile's
    update of the three, `hrun` the update repeated, and `headOut` what the head stores at the end. The generated run
    of the body is these four times over. -/

noncomputable section

namespace Cert.KernelIdeal.Body

open Idealize.ShloMosaic Idealize.ShloMosaic.TcCoe Idealize.SL Idealize.SL.Sem
open Cert.KernelIdeal Cert.KernelIdeal.Gen
open Idealize.ShloMosaic.Pointwise

variable {F : FTy → Type} [FloatOps F] [Named F]

/-- What a head carries from tile to tile. -/
abbrev HS (F : FTy → Type) := FVec F S1x512 .f32 × FVec F S1x512 .f32 × FVec F S128x512 .f32

/-- The greatest score after a tile of scores `s`. -/
def mNew (s : FVec F S256x512 .f32) (m : FVec F S1x512 .f32) : FVec F S1x512 .f32 :=
  maximumf m (shapeCast S1x512
    (multiReduction .maximumf [0] S512 s 0xFF800000#32 reduces_S256x512_S512 (.inl rfl) rfl) shapeCasts_S512_S1x512)

/-- What the earlier sums are multiplied by. -/
def alpha (s : FVec F S256x512 .f32) (m : FVec F S1x512 .f32) : FVec F S1x512 .f32 :=
  exp (subf m (mNew s m))

/-- The tile's weights. -/
def pw (s : FVec F S256x512 .f32) (m : FVec F S1x512 .f32) : FVec F S256x512 .f32 :=
  exp (subf s (broadcastTo S256x512 (mNew s m) broadcasts_S1x512_S256x512))

/-- The sum of the weights after the tile. -/
def lNew (s : FVec F S256x512 .f32) (m l : FVec F S1x512 .f32) : FVec F S1x512 .f32 :=
  addf (mulf (alpha s m) l) (shapeCast S1x512
    (multiReduction .add [0] S512 (pw s m) 0x00000000#32 reduces_S256x512_S512 (.inl rfl) rfl) shapeCasts_S512_S1x512)

/-- The weighted sum of the values after the tile. -/
def aNew (s : FVec F S256x512 .f32) (vb : Vec F S1x1x1x128x256 .bf16) (m : FVec F S1x512 .f32)
    (a : FVec F S128x512 .f32) : FVec F S128x512 .f32 :=
  addf (mulf (broadcastTo S128x512 (alpha s m) broadcasts_S1x512_S128x512) a)
    (matmul dot_S128x256_S256x512_S128x512_1_0_0_1_n_n none
      (shapeCast S128x256 vb shapeCasts_S1x1x1x128x256_S128x256) (truncf .bf16 (pw s m) bitsLt_bf16_f32)
      (constant S128x512 .f32 0x00000000#32))

/-- One tile's update. -/
def hstep (s : FVec F S256x512 .f32) (vb : Vec F S1x1x1x128x256 .bf16) (st : HS F) : HS F :=
  (mNew s st.1, lNew s st.1 st.2.1, aNew s vb st.1 st.2.2)

/-- The lane of head `h`. -/
def lane (h : Fin 4) (e : Fin 128) : Fin 512 := ⟨128 * h.val + e.val, by omega⟩

/-- The tile of that number. -/
def tile (n : ℕ) : Fin 8 := ⟨n % 8, Nat.mod_lt _ (by decide)⟩

/-- The tile `n` of the keys of head `h`. -/
def kblk (x1 : Vec F S1x8x256x512 .bf16) (h : Fin 4) (n : ℕ) : Vec F S1x1x256x128 .bf16 := fun y =>
  x1 (ix4 (0 : Fin 1) (tile n) (y 2) (lane h (y 3)))

/-- The tile `n` of the values of head `h`. -/
def vblk (x2 : Vec F S1x4x8x128x256 .bf16) (h : Fin 4) (n : ℕ) : Vec F S1x1x1x128x256 .bf16 := fun y =>
  x2 (ix5 (0 : Fin 1) h (tile n) (y 3) (y 4))

/-- The queries of head `h`, as loaded. -/
def qblk (x0 : Vec F S1x256x512 .bf16) (h : Fin 4) : Vec F S1x256x128 .bf16 := fun y =>
  x0 (ix3 (0 : Fin 1) (y 1) (lane h (y 2)))

/-- The tile's scores with the keys after a column's own group of 64 masked: the diagonal tile's. -/
def masked (s : FVec F S256x512 .f32) : FVec F S256x512 .f32 :=
  k0_pay77 s (k0_pay73 (iota .tc S256x512 32 [0] iota_S256x512_d0_w32) 64#32) (k0_pay74 k0_pay72) (k0_pay75 k0_pay72)
    (k0_pay76 k0_pay72)

/-- A head's start. -/
def hinit : HS F := (k0_pay53, k0_pay54, k0_pay55)

/-- A head's state after `n` whole tiles. -/
def hrun (q : FVec F S512x128 .bf16) (x1 : Vec F S1x8x256x512 .bf16) (x2 : Vec F S1x4x8x128x256 .bf16) (h : Fin 4) :
    ℕ → HS F
  | 0 => hinit
  | n + 1 => hstep (k0_pay2 q (kblk x1 h n)) (vblk x2 h n) (hrun q x1 x2 h n)

/-- A head's state after `n` whole tiles and the diagonal tile `n`. -/
def hdiag (q : FVec F S512x128 .bf16) (x1 : Vec F S1x8x256x512 .bf16) (x2 : Vec F S1x4x8x128x256 .bf16) (h : Fin 4)
    (n : ℕ) : HS F :=
  hstep (masked (k0_pay2 q (kblk x1 h n))) (vblk x2 h n) (hrun q x1 x2 h n)

/-- What a head stores: the two maps' outputs, the second's taken `lam` times from the first, normalised. -/
def headOut (x0 : Vec F S1x256x512 .bf16) (x1 : Vec F S1x8x256x512 .bf16) (x2 : Vec F S1x4x8x128x256 .bf16)
    (lam : FVec F S1x1 .f32) (og : Vec F S128x256 .f32) (h : Fin 4) (n : ℕ) : FVec F S1x256x128 .bf16 :=
  let st := hdiag (k0_pay46 (qblk x0 h)) x1 x2 h n
  k0_pay121 st.2.1 st.2.2 lam og

/-! ## Loads -/

theorem kld {arg : Memref sig .tc .vmem S1x8x256x512 .bf16} (harg : arg.IsWhole) (x1 : Vec F S1x8x256x512 .bf16)
    (h : Fin 4) (n : ℕ) (hn : n < 8) (off : Fin 4 → ℕ) (inb : ∀ a, off a + S1x1x256x128.size a ≤ S1x8x256x512.size a)
    (e0 : off 0 = 0) (e1 : off 1 = n) (e2 : off 2 = 0) (e3 : off 3 = 128 * h.val) :
    View.readAt (Elt F) arg.view (Rect.unit (s := S1x8x256x512) off S1x1x256x128.size inb).toLoadRect
      (harg.unread x1) = kblk x1 h n := by
  funext y
  refine (Memref.IsWhole.readAt_unread harg ..).trans ?_
  unfold kblk
  refine congrArg x1 (funext fun a => Fin.ext ?_)
  match a with
  | ⟨0, _⟩ =>
    have : (y 0).val < 1 := (y 0).isLt
    show off 0 + 1 * (y 0).val = 0
    omega
  | ⟨1, _⟩ =>
    have : (y 1).val < 1 := (y 1).isLt
    show off 1 + 1 * (y 1).val = n % 8
    omega
  | ⟨2, _⟩ =>
    show off 2 + 1 * (y 2).val = (y 2).val
    omega
  | ⟨3, _⟩ =>
    show off 3 + 1 * (y 3).val = 128 * h.val + (y 3).val
    omega

theorem vld {arg : Memref sig .tc .vmem S1x4x8x128x256 .bf16} (harg : arg.IsWhole) (x2 : Vec F S1x4x8x128x256 .bf16)
    (h : Fin 4) (n : ℕ) (hn : n < 8) (off : Fin 5 → ℕ)
    (inb : ∀ a, off a + S1x1x1x128x256.size a ≤ S1x4x8x128x256.size a)
    (e0 : off 0 = 0) (e1 : off 1 = h.val) (e2 : off 2 = n) (e3 : off 3 = 0) (e4 : off 4 = 0) :
    View.readAt (Elt F) arg.view (Rect.unit (s := S1x4x8x128x256) off S1x1x1x128x256.size inb).toLoadRect
      (harg.unread x2) = vblk x2 h n := by
  funext y
  refine (Memref.IsWhole.readAt_unread harg ..).trans ?_
  unfold vblk
  refine congrArg x2 (funext fun a => Fin.ext ?_)
  match a with
  | ⟨0, _⟩ =>
    have : (y 0).val < 1 := (y 0).isLt
    show off 0 + 1 * (y 0).val = 0
    omega
  | ⟨1, _⟩ =>
    have : (y 1).val < 1 := (y 1).isLt
    show off 1 + 1 * (y 1).val = h.val
    omega
  | ⟨2, _⟩ =>
    have : (y 2).val < 1 := (y 2).isLt
    show off 2 + 1 * (y 2).val = n % 8
    omega
  | ⟨3, _⟩ =>
    show off 3 + 1 * (y 3).val = (y 3).val
    omega
  | ⟨4, _⟩ =>
    show off 4 + 1 * (y 4).val = (y 4).val
    omega

theorem qld {arg : Memref sig .tc .vmem S1x256x512 .bf16} (harg : arg.IsWhole) (x0 : Vec F S1x256x512 .bf16)
    (h : Fin 4) (off : Fin 3 → ℕ) (inb : ∀ a, off a + S1x256x128.size a ≤ S1x256x512.size a)
    (e0 : off 0 = 0) (e1 : off 1 = 0) (e2 : off 2 = 128 * h.val) :
    View.readAt (Elt F) arg.view (Rect.unit (s := S1x256x512) off S1x256x128.size inb).toLoadRect
      (harg.unread x0) = qblk x0 h := by
  funext y
  refine (Memref.IsWhole.readAt_unread harg ..).trans ?_
  unfold qblk
  refine congrArg x0 (funext fun a => Fin.ext ?_)
  match a with
  | ⟨0, _⟩ =>
    have : (y 0).val < 1 := (y 0).isLt
    show off 0 + 1 * (y 0).val = 0
    omega
  | ⟨1, _⟩ =>
    show off 1 + 1 * (y 1).val = (y 1).val
    omega
  | ⟨2, _⟩ =>
    show off 2 + 1 * (y 2).val = 128 * h.val + (y 2).val
    omega

/-! ## The loop over the whole tiles -/

/-- The loop's bounds: as many trips as tiles before the block's own. -/
theorem trips1 (i : grid0.Coords) : (k0_t1_loop i).trips = (i 1).val := by
  have h : ∀ a : Fin 8, Scf.trips (0#32) (Scalar.addi 0#32 (Scalar.muli (Scalar.divsi
      (Scalar.subi (BitVec.ofNat 32 a.val) 0#32) 1#32) 1#32)) 1#32 = a.val := by decide +kernel
  exact h (i 1)

theorem trips2 (i : grid0.Coords) : (k0_t2_loop i).trips = 0 := by
  have h : ∀ a : Fin 8, Scf.trips (Scalar.addi 0#32 (Scalar.muli (Scalar.divsi
      (Scalar.subi (BitVec.ofNat 32 a.val) 0#32) 1#32) 1#32)) (Scalar.addi 0#32 (Scalar.subi (BitVec.ofNat 32 a.val) 0#32))
      1#32 = 0 := by decide +kernel
  exact h (i 1)

/-- The loop's variable is the trip. -/
theorem ivn (k : ℕ) (hk : k < 8) : (Scalar.indexCast (Scf.iv 0#32 1#32 k) : Index).toNat = k := by
  have h : ∀ a : Fin 8, (Scalar.indexCast (Scf.iv 0#32 1#32 a.val) : Index).toNat = a.val := by decide +kernel
  exact h ⟨k, hk⟩

/-- The block's own tile. -/
theorem ownn (i : grid0.Coords) : (Scalar.indexCast (BitVec.ofNat 32 (i 1).val) : Index).toNat = (i 1).val := by
  have h : ∀ a : Fin 8, (Scalar.indexCast (BitVec.ofNat 32 a.val) : Index).toNat = a.val := by decide +kernel
  exact h (i 1)

theorem trip_lt {i : grid0.Coords} (k : Fin (k0_t1_loop i).trips) : k.val < 8 := by
  have h : (i 1).val < 8 := (i 1).isLt
  have := k.isLt
  have := trips1 i
  omega

/-- The four heads' states as the loop carries them. -/
def pack (a b c d : HS F) : FVec F S1x512 .f32 × FVec F S1x512 .f32 × FVec F S128x512 .f32 × FVec F S1x512 .f32 ×
    FVec F S1x512 .f32 × FVec F S128x512 .f32 × FVec F S1x512 .f32 × FVec F S1x512 .f32 × FVec F S128x512 .f32 ×
    FVec F S1x512 .f32 × FVec F S1x512 .f32 × FVec F S128x512 .f32 :=
  (a.1, a.2.1, a.2.2, b.1, b.2.1, b.2.2, c.1, c.2.1, c.2.2, d.1, d.2.1, d.2.2)

section Loop

variable (c : Dev nD) (i : grid0.Coords)
  (arg2 : Memref sig .tc .vmem S1x256x512 .bf16) (harg2 : arg2.IsWhole)
  (arg3 : Memref sig .tc .vmem S1x8x256x512 .bf16) (harg3 : arg3.IsWhole)
  (arg4 : Memref sig .tc .vmem S1x4x8x128x256 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x256 .f32) (harg9 : arg9.IsWhole)
  (arg10 : Memref sig .tc .vmem S1x256x512 .bf16) (harg10 : arg10.IsWhole)
  (x0 : Vec F S1x256x512 .bf16) (x1 : Vec F S1x8x256x512 .bf16) (x2 : Vec F S1x4x8x128x256 .bf16)

/-- One trip of the loop is one tile's update of each head. -/
theorem trip_eq (𝒱 : Variants) (bd : Option 𝒱.V) (arg1 : BitVec 32) (v0 : IVec S256x128 32)
    (v10 v20 v30 : FVec F S512x128 .bf16) (v32 v33 : FVec F S256x128 .bf16) (v34 : IVec S256x128 32)
    (k : Fin (k0_t1_loop i).trips) (a b d e : HS F) :
    tripR_k0_t1 (F := F) 𝒱 c bd i arg2 harg2 arg3 harg3 arg4 harg4 arg5 harg5 arg6 harg6 arg7 harg7 arg8 harg8 arg9 harg9 arg10 harg10 arg1 v0 v10 v20 v30 v32 v33 v34
        (harg3.unread x1) (harg4.unread x2) k (pack a b d e)
      = pack (hstep (k0_pay2 v10 (kblk x1 0 k.val)) (vblk x2 0 k.val) a)
          (hstep (k0_pay2 v20 (kblk x1 1 k.val)) (vblk x2 1 k.val) b)
          (hstep (k0_pay2 v30 (kblk x1 2 k.val)) (vblk x2 2 k.val) d)
          (hstep (k0_pay2 (k0_pay52 v0 v32 v33 v34) (kblk x1 3 k.val)) (vblk x2 3 k.val) e) := by
  have hk := trip_lt k
  have hv : (Scalar.indexCast (Scf.iv 0#32 1#32 k.val) : Index).toNat = k.val := ivn _ hk
  rw [← kld harg3 x1 0 k.val hk (k0_off1 i k) (Gen.facts.k0_off1_inb i k) rfl hv rfl rfl,
    ← kld harg3 x1 1 k.val hk (k0_off3 i k) (Gen.facts.k0_off3_inb i k) rfl hv rfl rfl,
    ← kld harg3 x1 2 k.val hk (k0_off5 i k) (Gen.facts.k0_off5_inb i k) rfl hv rfl rfl,
    ← kld harg3 x1 3 k.val hk (k0_off7 i k) (Gen.facts.k0_off7_inb i k) rfl hv rfl rfl,
    ← vld harg4 x2 0 k.val hk (k0_off2 i k) (Gen.facts.k0_off2_inb i k) rfl rfl hv rfl rfl,
    ← vld harg4 x2 1 k.val hk (k0_off4 i k) (Gen.facts.k0_off4_inb i k) rfl rfl hv rfl rfl,
    ← vld harg4 x2 2 k.val hk (k0_off6 i k) (Gen.facts.k0_off6_inb i k) rfl rfl hv rfl rfl,
    ← vld harg4 x2 3 k.val hk (k0_off8 i k) (Gen.facts.k0_off8_inb i k) rfl rfl hv rfl rfl]
  unfold tripR_k0_t1 trip_k0_t1
  rfl

/-- The loop's state before trip `n`. -/
theorem st1_eq (𝒱 : Variants) (bd : Option 𝒱.V) (arg1 : BitVec 32) (v0 : IVec S256x128 32)
    (v10 v20 v30 : FVec F S512x128 .bf16) (v32 v33 : FVec F S256x128 .bf16) (v34 : IVec S256x128 32) :
    ∀ n ≤ (k0_t1_loop i).trips,
    st_k0_t1 (F := F) 𝒱 c bd i arg2 harg2 arg3 harg3 arg4 harg4 arg5 harg5 arg6 harg6 arg7 harg7 arg8 harg8 arg9 harg9 arg10 harg10 arg1 v0 v10 v20 v30 v32 v33 v34
        (harg3.unread x1) (harg4.unread x2) (pack hinit hinit hinit hinit) n
      = pack (hrun v10 x1 x2 0 n) (hrun v20 x1 x2 1 n) (hrun v30 x1 x2 2 n)
          (hrun (k0_pay52 v0 v32 v33 v34) x1 x2 3 n) := by
  intro n
  induction n with
  | zero => intro _; rfl
  | succ n ih =>
    intro hn
    rw [st_k0_t1_succ (F := F) 𝒱 c bd i arg2 harg2 arg3 harg3 arg4 harg4 arg5 harg5 arg6 harg6 arg7 harg7 arg8 harg8 arg9 harg9 arg10 harg10 arg1 v0 v10 v20 v30 v32 v33 v34 _ _ _ ⟨n, hn⟩,
      ih (by omega), trip_eq]
    rfl

end Loop

end Cert.KernelIdeal.Body
-- ==== Proof.Online.lean ====
/-
  Softmax over extended reals, a tile of scores at a time: the running maximum, the running sum of the weights and the
  running weighted sum after `n` scores, and what one more tile does to them. Pure arithmetic: no program is named.
-/
module

public import Idealize.ShloMosaic.Lib.Pointwise

@[expose] public section

noncomputable section

namespace Cert.Online

open Idealize.ShloMosaic

/-! ## One weight -/

theorem exp_bot : Ideal.exp ⊥ = 0 := rfl
theorem exp_top : Ideal.exp ⊤ = ⊤ := rfl
theorem exp_coe (r : ℝ) : Ideal.exp (r : EReal) = ((Real.exp r : ℝ) : EReal) := rfl

/-- The weight of a score `s` against a maximum `m`, as a real number. -/
def w (s m : EReal) : ℝ := (Ideal.exp (s - m)).toReal

/-- A score not above the maximum has a weight that is a nonnegative real number. -/
theorem exp_sub_real {s m : EReal} (h : s ≤ m) : ∃ r : ℝ, Ideal.exp (s - m) = (r : EReal) ∧ 0 ≤ r := by
  induction s using EReal.rec with
  | bot => exact ⟨0, by rw [EReal.bot_sub, exp_bot, EReal.coe_zero], le_refl _⟩
  | top =>
    obtain rfl : m = ⊤ := top_le_iff.mp h
    exact ⟨0, by rw [EReal.sub_top, exp_bot, EReal.coe_zero], le_refl _⟩
  | coe a =>
    induction m using EReal.rec with
    | bot => exact absurd h (by simp)
    | top => exact ⟨0, by rw [EReal.sub_top, exp_bot, EReal.coe_zero], le_refl _⟩
    | coe b => exact ⟨Real.exp (a - b), by rw [← EReal.coe_sub, exp_coe], (Real.exp_pos _).le⟩

theorem coe_w {s m : EReal} (h : s ≤ m) : ((w s m : ℝ) : EReal) = Ideal.exp (s - m) := by
  obtain ⟨r, hr, _⟩ := exp_sub_real h
  rw [w, hr, EReal.toReal_coe]

theorem w_nonneg {s m : EReal} (h : s ≤ m) : 0 ≤ w s m := by
  obtain ⟨r, hr, h0⟩ := exp_sub_real h
  rw [w, hr, EReal.toReal_coe]; exact h0

theorem w_bot (m : EReal) : w ⊥ m = 0 := by
  rw [w, EReal.bot_sub, exp_bot, EReal.toReal_zero]

theorem w_self (r : ℝ) : w (r : EReal) (r : EReal) = 1 := by
  rw [w, ← EReal.coe_sub, sub_self, exp_coe, Real.exp_zero, EReal.toReal_coe]

/-- Taking the weight against a larger maximum multiplies it by the old maximum's own weight. -/
theorem w_rescale {s m m' : EReal} (h : s ≤ m) (h' : m ≤ m') : w m m' * w s m = w s m' := by
  induction s using EReal.rec with
  | bot => rw [w_bot, w_bot, mul_zero]
  | top =>
    obtain rfl : m = ⊤ := top_le_iff.mp h
    obtain rfl : m' = ⊤ := top_le_iff.mp h'
    simp [w, exp_bot]
  | coe a =>
    induction m using EReal.rec with
    | bot => exact absurd h (by simp)
    | top =>
      obtain rfl : m' = ⊤ := top_le_iff.mp h'
      simp [w, exp_bot]
    | coe b =>
      induction m' using EReal.rec with
      | bot => exact absurd h' (by simp)
      | top => simp [w, exp_bot]
      | coe d =>
        simp only [w, ← EReal.coe_sub, exp_coe, EReal.toReal_coe]
        rw [← Real.exp_add]; congr 1; ring

/-! ## The running state -/

/-- The maximum of the first `n` scores. -/
def top (s : ℕ → EReal) (n : ℕ) : EReal := (Finset.range n).sup s

/-- The sum of the weights of the first `n` scores. -/
def tot (s : ℕ → EReal) (n : ℕ) : ℝ := ∑ k ∈ Finset.range n, w (s k) (top s n)

/-- The weighted sum of the first `n` values. -/
def acc (s : ℕ → EReal) (v : ℕ → ℝ) (n : ℕ) : ℝ := ∑ k ∈ Finset.range n, v k * w (s k) (top s n)

theorem le_top {s : ℕ → EReal} {k n : ℕ} (h : k < n) : s k ≤ top s n :=
  Finset.le_sup (f := s) (Finset.mem_range.mpr h)

theorem top_mono (s : ℕ → EReal) {n n' : ℕ} (h : n ≤ n') : top s n ≤ top s n' :=
  Finset.sup_mono (Finset.range_mono h)

theorem top_zero (s : ℕ → EReal) : top s 0 = ⊥ := rfl
theorem tot_zero (s : ℕ → EReal) : tot s 0 = 0 := rfl
theorem acc_zero (s : ℕ → EReal) (v : ℕ → ℝ) : acc s v 0 = 0 := rfl

theorem top_fin (s : ℕ → EReal) (n : ℕ) : Finset.univ.fold max ⊥ (fun r : Fin n => s r) = top s n := by
  refine le_antisymm ?_ ?_
  · exact Finset.sup_le (f := fun r : Fin n => s r) fun r _ => le_top r.isLt
  · exact Finset.sup_le fun k hk => Finset.le_sup (f := fun r : Fin n => s r) (Finset.mem_univ ⟨k, Finset.mem_range.mp hk⟩)

/-- One more tile of `T` scores: the maximum. -/
theorem top_step (s : ℕ → EReal) (n T : ℕ) :
    max (top s n) (Finset.univ.fold max ⊥ (fun r : Fin T => s (n + r))) = top s (n + T) := by
  rw [top_fin (fun k => s (n + k))]
  refine le_antisymm (max_le (top_mono s (Nat.le_add_right _ _)) ?_) ?_
  · exact Finset.sup_le fun k hk => le_top (by have := Finset.mem_range.mp hk; omega)
  · refine Finset.sup_le fun k hk => ?_
    rcases Nat.lt_or_ge k n with h | h
    · exact le_max_of_le_left (le_top h)
    · refine le_max_of_le_right ?_
      have hk' := Finset.mem_range.mp hk
      have := le_top (s := fun k => s (n + k)) (k := k - n) (n := T) (by omega)
      simpa [show n + (k - n) = k by omega] using this

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- One more tile of `T` scores: the weighted sum (values that are real numbers). -/
theorem acc_step (s : ℕ → EReal) (v : ℕ → ℝ) (n T : ℕ) :
    Ideal.exp (top s n - top s (n + T)) * (acc s v n : EReal)
        + ∑ r : Fin T, (v (n + r) : EReal) * Ideal.exp (s (n + r) - top s (n + T))
      = (acc s v (n + T) : EReal) := by
  rw [← coe_w (top_mono s (Nat.le_add_right n T))]
  have h : ∀ r : Fin T, (v (n + r) : EReal) * Ideal.exp (s (n + r) - top s (n + T))
      = ((v (n + r) * w (s (n + r)) (top s (n + T)) : ℝ) : EReal) := fun r => by
    rw [← coe_w (le_top (by omega)), EReal.coe_mul]
  simp only [h]
  rw [← coe_sum, ← EReal.coe_mul, ← EReal.coe_add]
  congr 1
  rw [acc, acc, Finset.sum_range_add, Finset.sum_range, Finset.sum_range (n := T), Finset.mul_sum, Finset.sum_range]
  congr 1
  refine Finset.sum_congr rfl fun k _ => ?_
  rw [← w_rescale (le_top k.isLt) (top_mono s (Nat.le_add_right n T))]; ring

theorem tot_eq_acc (s : ℕ → EReal) (n : ℕ) : tot s n = acc s (fun _ => 1) n := by simp [tot, acc]

/-- One more tile of `T` scores: the sum of the weights. -/
theorem tot_step (s : ℕ → EReal) (n T : ℕ) :
    Ideal.exp (top s n - top s (n + T)) * (tot s n : EReal) + ∑ r : Fin T, Ideal.exp (s (n + r) - top s (n + T))
      = (tot s (n + T) : EReal) := by
  rw [tot_eq_acc, tot_eq_acc, ← acc_step]
  simp

/-! ## Scores after `n` that are all minus infinity change nothing -/

theorem top_rest {s : ℕ → EReal} {n N : ℕ} (hN : n ≤ N) (h : ∀ k, n ≤ k → k < N → s k = ⊥) : top s N = top s n := by
  refine le_antisymm (Finset.sup_le fun k hk => ?_) (top_mono s hN)
  rcases Nat.lt_or_ge k n with hkn | hkn
  · exact le_top hkn
  · rw [h k hkn (Finset.mem_range.mp hk)]; exact bot_le

theorem acc_rest {s : ℕ → EReal} (v : ℕ → ℝ) {n N : ℕ} (hN : n ≤ N) (h : ∀ k, n ≤ k → k < N → s k = ⊥) :
    acc s v N = acc s v n := by
  rw [acc, acc, top_rest hN h]
  refine (Finset.sum_subset (Finset.range_mono hN) fun k hk hk' => ?_).symm
  rw [h k (by simpa using hk') (Finset.mem_range.mp hk), w_bot, mul_zero]

theorem tot_rest {s : ℕ → EReal} {n N : ℕ} (hN : n ≤ N) (h : ∀ k, n ≤ k → k < N → s k = ⊥) : tot s N = tot s n := by
  rw [tot_eq_acc, tot_eq_acc, acc_rest _ hN h]

/-! ## The quotient -/

/-- Scores of which none is plus infinity and one is a real number have weights of positive sum. -/
theorem tot_pos {s : ℕ → EReal} {N k₀ : ℕ} (hk : k₀ < N) (r : ℝ) (hr : s k₀ = (r : EReal)) (ht : ∀ k, s k ≠ ⊤) :
    0 < tot s N := by
  obtain ⟨k, hkN, hkt⟩ := Finset.exists_mem_eq_sup (Finset.range N) ⟨k₀, Finset.mem_range.mpr hk⟩ s
  have hb : s k ≠ ⊥ := by
    intro hb
    have : s k₀ ≤ s k := hkt ▸ le_top hk
    rw [hb, hr] at this
    exact absurd this (by simp)
  have h1 : w (s k) (top s N) = 1 := by
    rw [top, hkt]
    lift s k to ℝ using ⟨ht k, hb⟩ with a
    exact w_self a
  refine lt_of_lt_of_le one_pos ?_
  rw [← h1]
  exact Finset.single_le_sum (f := fun k => w (s k) (top s N))
    (fun k hk => w_nonneg (le_top (Finset.mem_range.mp hk))) hkN

theorem div_coe {x y : ℝ} (hy : 0 < y) : Ideal.div (x : EReal) (y : EReal) = ((x / y : ℝ) : EReal) := by
  rw [Ideal.div, if_neg (by exact_mod_cast hy.ne'), ← EReal.coe_inv, ← EReal.coe_mul, div_eq_mul_inv]

/-- The difference of two softmaxes applied to the values: the weights divided first, as a reference spells it. -/
theorem diff_weights {s1 s2 : ℕ → EReal} {N : ℕ} (v : ℕ → ℝ) (lam : ℝ) (h1 : 0 < tot s1 N) (h2 : 0 < tot s2 N) :
    ∑ k : Fin N, (v k : EReal) * (Ideal.div (Ideal.exp (s1 k - top s1 N)) (tot s1 N : EReal)
        - (lam : EReal) * Ideal.div (Ideal.exp (s2 k - top s2 N)) (tot s2 N : EReal))
      = ((acc s1 v N / tot s1 N - lam * (acc s2 v N / tot s2 N) : ℝ) : EReal) := by
  have h : ∀ k : Fin N, (v k : EReal) * (Ideal.div (Ideal.exp (s1 k - top s1 N)) (tot s1 N : EReal)
        - (lam : EReal) * Ideal.div (Ideal.exp (s2 k - top s2 N)) (tot s2 N : EReal))
      = ((v k * (w (s1 k) (top s1 N) / tot s1 N - lam * (w (s2 k) (top s2 N) / tot s2 N)) : ℝ) : EReal) := fun k => by
    rw [← coe_w (le_top k.isLt), ← coe_w (le_top k.isLt), div_coe h1, div_coe h2]
    push_cast; rfl
  simp only [h]
  rw [← coe_sum]
  congr 1
  rw [acc, acc, Finset.sum_range, Finset.sum_range, Finset.sum_div, Finset.sum_div, Finset.mul_sum, ← Finset.sum_sub_distrib]
  refine Finset.sum_congr rfl fun k _ => ?_
  ring

/-- The same, the weighted sums multiplied by the reciprocals last, as a kernel spells it. -/
theorem diff_quotients {a1 l1 a2 l2 : ℝ} (lam : ℝ) (h1 : 0 < l1) (h2 : 0 < l2) :
    (a1 : EReal) * Ideal.div 1 (l1 : EReal) - (lam : EReal) * ((a2 : EReal) * Ideal.div 1 (l2 : EReal))
      = ((a1 / l1 - lam * (a2 / l2) : ℝ) : EReal) := by
  rw [← EReal.coe_one, div_coe h1, div_coe h2]
  rw [← EReal.coe_mul, ← EReal.coe_mul, ← EReal.coe_mul, ← EReal.coe_sub]
  congr 1; ring

end Cert.Online

end
-- ==== Proof.Column.lean ====
module

public import proofs.«01_k».proof.Proof.Body
public import proofs.«01_k».proof.Proof.Online

@[expose] public section

set_option maxRecDepth 16384
set_option synthInstance.maxSize 4096

/-! The body read one column at a time, with exact arithmetic. -/

noncomputable section

namespace Cert.KernelIdeal.Column

open Idealize.ShloMosaic Idealize.ShloMosaic.TcCoe Idealize.SL Idealize.SL.Sem
open Cert.KernelIdeal Cert.KernelIdeal.Gen Cert.KernelIdeal.Body
open Idealize.ShloMosaic.Pointwise

theorem pay2_apply (q : FVec Ideal S512x128 .bf16) (kb : Vec Ideal S1x1x256x128 .bf16) (n : Fin 256) (c : Fin 512) :
    k0_pay2 q kb (ix2 n c) = ∑ e : Fin 128, (kb (ix4 (0 : Fin 1) (0 : Fin 1) n e) : EReal) * (q (ix2 c e) : EReal) := by
  pointwise [k0_pay2]

theorem pay46_apply (x : Vec Ideal S1x256x128 .bf16) (c : Fin 512) (e : Fin 128) :
    (k0_pay46 x (ix2 c e) : EReal) = if (c.val < 256 ↔ e.val < 64) then
      x (ix3 (0 : Fin 1) (⟨c.val % 256, Nat.mod_lt _ (by decide)⟩ : Fin 256) e) else (0 : EReal) := by
  pointwise [k0_pay46]
  have hlt : ∀ e : Fin 128, (IntOp.cmpi CmpIPredicate.slt (BitVec.ofNat 32 e.val) 64#32) = if e.val < 64 then 1 else 0 := by
    decide +kernel
  have hge : ∀ e : Fin 128, (IntOp.cmpi CmpIPredicate.sge (BitVec.ofNat 32 e.val) 64#32) = if e.val < 64 then 0 else 1 := by
    decide +kernel
  rw [hlt e, hge e]
  by_cases hc : c.val < 256
  · have e1 : (⟨c.val % 256, Nat.mod_lt _ (by decide)⟩ : Fin 256) = ⟨c.val, hc⟩ := Fin.ext (Nat.mod_eq_of_lt hc)
    by_cases he : e.val < 64
    · simp only [hc, he, e1, dif_pos, if_pos]; rfl
    · simp only [hc, he, dif_pos, if_neg, not_false_eq_true, if_false, true_iff]; rfl
  · have hc' := c.isLt
    have e1 : (⟨c.val % 256, Nat.mod_lt _ (by decide)⟩ : Fin 256) = ⟨c.val - 256, by omega⟩ := Fin.ext (by show c.val % 256 = c.val - 256; omega)
    by_cases he : e.val < 64
    · simp only [hc, he, dif_neg, not_false_eq_true, if_true, false_iff, not_true_eq_false, if_false]; rfl
    · simp only [hc, he, e1, dif_neg, not_false_eq_true, if_true, false_iff, if_false]; rfl

theorem negInf : Ideal.ofBits FTy.f32 0xFF800000#32 = ⊥ := by
  simp [Ideal.ofBits, Ideal.ieee]

theorem mNew_apply (s : FVec Ideal S256x512 .f32) (m : FVec Ideal S1x512 .f32) (c : Fin 512) :
    (mNew s m (ix2 (0 : Fin 1) c) : EReal)
      = max (m (ix2 (0 : Fin 1) c) : EReal) (Finset.univ.fold max (⊥ : EReal) fun r : Fin 256 => (s (ix2 r c) : EReal)) := by
  pointwise [mNew]
  rw [negInf]

theorem alpha_apply (s : FVec Ideal S256x512 .f32) (m : FVec Ideal S1x512 .f32) (c : Fin 512) :
    (alpha s m (ix2 (0 : Fin 1) c) : EReal)
      = Ideal.exp ((m (ix2 (0 : Fin 1) c) : EReal) - (mNew s m (ix2 (0 : Fin 1) c) : EReal)) := by
  pointwise [alpha]

theorem pw_apply (s : FVec Ideal S256x512 .f32) (m : FVec Ideal S1x512 .f32) (n : Fin 256) (c : Fin 512) :
    (pw s m (ix2 n c) : EReal)
      = Ideal.exp ((s (ix2 n c) : EReal) - (mNew s m (ix2 (0 : Fin 1) c) : EReal)) := by
  pointwise [pw]

theorem lNew_apply (s : FVec Ideal S256x512 .f32) (m l : FVec Ideal S1x512 .f32) (c : Fin 512) :
    (lNew s m l (ix2 (0 : Fin 1) c) : EReal)
      = (alpha s m (ix2 (0 : Fin 1) c) : EReal) * (l (ix2 (0 : Fin 1) c) : EReal)
        + ∑ r : Fin 256, (pw s m (ix2 r c) : EReal) := by
  pointwise [lNew]

theorem aNew_apply (s : FVec Ideal S256x512 .f32) (vb : Vec Ideal S1x1x1x128x256 .bf16) (m : FVec Ideal S1x512 .f32)
    (a : FVec Ideal S128x512 .f32) (d : Fin 128) (c : Fin 512) :
    (aNew s vb m a (ix2 d c) : EReal)
      = (alpha s m (ix2 (0 : Fin 1) c) : EReal) * (a (ix2 d c) : EReal)
        + ∑ r : Fin 256, (vb (ix5 (0 : Fin 1) (0 : Fin 1) (0 : Fin 1) d r) : EReal) * (pw s m (ix2 r c) : EReal) := by
  pointwise [aNew]

/-- The kernel's rounded-down division by 64, as it is spelt in 32-bit words. -/
def fdiv (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem fdiv_row : ∀ n : Fin 256, fdiv (BitVec.ofNat 32 n.val) = BitVec.ofNat 32 (n.val / 64) := by decide +kernel

theorem fdiv_col : ∀ c : Fin 512, fdiv (Scalar.select (IntOp.cmpi CmpIPredicate.sge (BitVec.ofNat 32 c.val) 256#32)
    (IntOp.subi (BitVec.ofNat 32 c.val) 256#32) (BitVec.ofNat 32 c.val)) = BitVec.ofNat 32 (c.val % 256 / 64) := by
  decide +kernel

theorem sle_small : ∀ a b : Fin 32, IntOp.cmpi CmpIPredicate.sle (BitVec.ofNat 32 a.val) (BitVec.ofNat 32 b.val)
    = if a.val ≤ b.val then 1 else 0 := by decide +kernel

/-- The masked score's stand-in is the least value. -/
theorem mask_eq : (Named.named (F := Ideal) κ "mask" (φ := FTy.f32) 0xF149F2CA#32 : EReal) = ⊥ := by
  show (κ "mask").getD _ = _
  simp [κ]

theorem masked_apply (s : FVec Ideal S256x512 .f32) (n : Fin 256) (c : Fin 512) :
    (masked s (ix2 n c) : EReal) = if n.val / 64 ≤ (c.val % 256) / 64 then (s (ix2 n c) : EReal) else ⊥ := by
  pointwise [masked, k0_pay72, k0_pay73, k0_pay74, k0_pay75, k0_pay76, k0_pay77]
  refine Eq.trans (b := Scalar.select (IntOp.cmpi CmpIPredicate.sle (fdiv (BitVec.ofNat 32 n.val))
    (fdiv (Scalar.select (IntOp.cmpi CmpIPredicate.sge (BitVec.ofNat 32 c.val) 256#32)
      (IntOp.subi (BitVec.ofNat 32 c.val) 256#32) (BitVec.ofNat 32 c.val)))) (s (ix2 n c) : EReal)
    (Named.named (F := Ideal) κ "mask" (φ := FTy.f32) 0xF149F2CA#32 : EReal)) rfl ?_
  have h1 := n.isLt
  have h2 := c.isLt
  rw [fdiv_row, fdiv_col, sle_small ⟨n.val / 64, by omega⟩ ⟨c.val % 256 / 64, by omega⟩, mask_eq]
  by_cases h : n.val / 64 ≤ c.val % 256 / 64
  · rw [if_pos h, if_pos h]; rfl
  · rw [if_neg h, if_neg h]; rfl

/-- The end of a head for one row: the row scaled to unit mean square, times its gain, times 0.8. -/
def tail (o : Fin 128 → EReal) (g : EReal) (d : Fin 128) : EReal :=
  o d * Ideal.rsqrt (Ideal.div (∑ x, o x * o x) (Ideal.ofBits FTy.f32 0x43000000#32) + Ideal.ofBits FTy.f32 0x358637BD#32)
    * g * Ideal.ofBits FTy.f32 0x3F4CCCCD#32

/-- The column of a map's row. -/
def col (p : Fin 2) (r : Fin 256) : Fin 512 := ⟨256 * p.val + r.val, by omega⟩

theorem pay121_apply (l : FVec Ideal S1x512 .f32) (a : FVec Ideal S128x512 .f32) (lam : FVec Ideal S1x1 .f32)
    (og : Vec Ideal S128x256 .f32) (r : Fin 256) (d : Fin 128) :
    (k0_pay121 l a lam og (ix3 (0 : Fin 1) r d) : EReal)
      = tail (fun x => (a (ix2 x (col 0 r)) : EReal) * Ideal.div 1 (l (ix2 (0 : Fin 1) (col 0 r)))
          - (lam (ix2 (0 : Fin 1) (0 : Fin 1)) : EReal)
            * ((a (ix2 x (col 1 r)) : EReal) * Ideal.div 1 (l (ix2 (0 : Fin 1) (col 1 r))))) (og (ix2 d r)) d := by
  have e0 : (col 0 r) = ⟨r.val, by omega⟩ := Fin.ext (by show 256 * 0 + r.val = r.val; omega)
  rw [e0]
  pointwise [k0_pay121]
  rfl

/-- What the second map's output is taken times. -/
def lamOf (x3 x4 x5 x6 : Fin 64 → EReal) : EReal :=
  Ideal.exp (∑ x, x3 x * x4 x) - Ideal.exp (∑ x, x5 x * x6 x) + Ideal.ofBits FTy.f32 0x3E4CCCCD#32

theorem pay118_apply (x3 x4 x5 x6 : Vec Ideal S1x64 .f32) :
    (k0_pay118 x3 x4 x5 x6 (ix2 (0 : Fin 1) (0 : Fin 1)) : EReal)
      = lamOf (fun e => x3 (ix2 (0 : Fin 1) e)) (fun e => x4 (ix2 (0 : Fin 1) e)) (fun e => x5 (ix2 (0 : Fin 1) e))
        (fun e => x6 (ix2 (0 : Fin 1) e)) := by
  pointwise [k0_pay118]
  rfl

theorem lamOf_real {x3 x4 x5 x6 : Fin 64 → ℝ} : ∃ r : ℝ, lamOf (fun e => (x3 e : EReal)) (fun e => (x4 e : EReal))
    (fun e => (x5 e : EReal)) (fun e => (x6 e : EReal)) = (r : EReal) := by
  have hs : ∀ f g : Fin 64 → ℝ, Ideal.exp (∑ x, (f x : EReal) * (g x : EReal)) = ((Real.exp (∑ x, f x * g x) : ℝ) : EReal) := by
    intro f g
    rw [← Online.exp_coe, Online.coe_sum]
    simp only [EReal.coe_mul]
  unfold lamOf
  rw [hs, hs]
  obtain ⟨b, hb⟩ : ∃ b : ℝ, Ideal.ofBits FTy.f32 0x3E4CCCCD#32 = (b : EReal) := ⟨_, by simp [Ideal.ofBits]; rfl⟩
  rw [hb]
  exact ⟨_, by rw [← EReal.coe_sub, ← EReal.coe_add]⟩

theorem init_apply (c : Fin 512) (d : Fin 128) :
    ((k0_pay53 (F := Ideal) (ix2 (0 : Fin 1) c) : EReal) = ⊥ ∧ (k0_pay54 (F := Ideal) (ix2 (0 : Fin 1) c) : EReal) = 0)
      ∧ (k0_pay55 (F := Ideal) (ix2 d c) : EReal) = 0 := by
  refine ⟨⟨?_, ?_⟩, ?_⟩
  · pointwise [k0_pay53]
    exact mask_eq
  · pointwise [k0_pay54]
  · pointwise [k0_pay55]

/-! ## A column of the running state -/

/-- The state's column `c` after the keys before `n`: greatest score, total weight, weighted sums. -/
def At (st : HS Ideal) (c : Fin 512) (s : ℕ → EReal) (v : Fin 128 → ℕ → ℝ) (n : ℕ) : Prop :=
  (st.1 (ix2 (0 : Fin 1) c) : EReal) = Online.top s n ∧ (st.2.1 (ix2 (0 : Fin 1) c) : EReal) = (Online.tot s n : EReal)
    ∧ ∀ d : Fin 128, (st.2.2 (ix2 d c) : EReal) = (Online.acc s (v d) n : EReal)

theorem at_init (c : Fin 512) (s : ℕ → EReal) (v : Fin 128 → ℕ → ℝ) : At hinit c s v 0 :=
  ⟨(init_apply c 0).1.1, (init_apply c 0).1.2.trans (by rw [Online.tot_zero]; rfl),
    fun d => (init_apply c d).2.trans (by rw [Online.acc_zero]; rfl)⟩

theorem at_step {st : HS Ideal} {c : Fin 512} {s : ℕ → EReal} {v : Fin 128 → ℕ → ℝ} {n : ℕ} (h : At st c s v n)
    (S : FVec Ideal S256x512 .f32) (vb : Vec Ideal S1x1x1x128x256 .bf16)
    (hS : ∀ r : Fin 256, (S (ix2 r c) : EReal) = s (n + r.val))
    (hv : ∀ (d : Fin 128) (r : Fin 256), (vb (ix5 (0 : Fin 1) (0 : Fin 1) (0 : Fin 1) d r) : EReal) = (v d (n + r.val) : EReal)) :
    At (hstep S vb st) c s v (n + 256) := by
  obtain ⟨h1, h2, h3⟩ := h
  have hm : (mNew S st.1 (ix2 (0 : Fin 1) c) : EReal) = Online.top s (n + 256) := by
    rw [mNew_apply, h1]
    simp only [hS]
    exact Online.top_step s n 256
  have ha : (alpha S st.1 (ix2 (0 : Fin 1) c) : EReal) = Ideal.exp (Online.top s n - Online.top s (n + 256)) := by
    rw [alpha_apply, hm, h1]
  have hp : ∀ r : Fin 256, (pw S st.1 (ix2 r c) : EReal) = Ideal.exp (s (n + r.val) - Online.top s (n + 256)) := by
    intro r
    rw [pw_apply, hm, hS]
  refine ⟨hm, ?_, fun d => ?_⟩
  · show (lNew S st.1 st.2.1 (ix2 (0 : Fin 1) c) : EReal) = _
    rw [lNew_apply, ha, h2]
    simp only [hp]
    exact Online.tot_step s n 256
  · show (aNew S vb st.1 st.2.2 (ix2 d c) : EReal) = _
    rw [aNew_apply, ha, h3 d]
    simp only [hp, hv]
    exact Online.acc_step s (v d) n 256

/-! ## A head -/

/-- A map's score of key `k` for a row of query: the sum over the map's 64 lanes, minus infinity where the key's group of
    64 lies after the row's. -/
def score (q : Fin 128 → ℝ) (kk : ℕ → Fin 128 → ℝ) (p : Fin 2) (t : ℕ) (k : ℕ) : EReal :=
  if k / 64 ≤ t / 64 then ((∑ e : Fin 64, q ⟨64 * p.val + e.val, by omega⟩ * kk k ⟨64 * p.val + e.val, by omega⟩ : ℝ) : EReal)
  else ⊥

theorem half (p : Fin 2) (f : Fin 128 → ℝ) :
    ∑ e : Fin 128, (if (p.val = 0 ↔ e.val < 64) then f e else 0)
      = ∑ e : Fin 64, f ⟨64 * p.val + e.val, by omega⟩ := by
  rw [show (∑ e : Fin 128, (if (p.val = 0 ↔ e.val < 64) then f e else 0))
    = ∑ e : Fin (64 + 64), (if (p.val = 0 ↔ e.val < 64) then f e else 0) from rfl, Fin.sum_univ_add]
  match p with
  | ⟨0, _⟩ =>
    have h1 : ∀ e : Fin 64, (if ((0 : ℕ) = 0 ↔ (Fin.castAdd 64 e).val < 64) then f (Fin.castAdd 64 e) else 0)
        = f ⟨64 * 0 + e.val, by omega⟩ := fun e => by
      rw [if_pos (by simp)]; exact congrArg f (Fin.ext (by simp))
    have h2 : ∀ e : Fin 64, (if ((0 : ℕ) = 0 ↔ (Fin.natAdd 64 e).val < 64) then f (Fin.natAdd 64 e) else 0) = 0 := fun e => by
      rw [if_neg (by simp)]
    refine (congrArg₂ (· + ·) (Finset.sum_congr rfl fun e _ => h1 e) (Finset.sum_congr rfl fun e _ => h2 e)).trans ?_
    rw [Finset.sum_const_zero, add_zero]
  | ⟨1, _⟩ =>
    have h1 : ∀ e : Fin 64, (if ((1 : ℕ) = 0 ↔ (Fin.castAdd 64 e).val < 64) then f (Fin.castAdd 64 e) else 0) = 0 :=
      fun e => by rw [if_neg (by simp)]
    have h2 : ∀ e : Fin 64, (if ((1 : ℕ) = 0 ↔ (Fin.natAdd 64 e).val < 64) then f (Fin.natAdd 64 e) else 0)
        = f ⟨64 * 1 + e.val, by omega⟩ := fun e => by
      rw [if_pos (by simp)]; exact congrArg f (Fin.ext rfl)
    refine (congrArg₂ (· + ·) (Finset.sum_congr rfl fun e _ => h1 e) (Finset.sum_congr rfl fun e _ => h2 e)).trans ?_
    rw [Finset.sum_const_zero, zero_add]

theorem col_map (p : Fin 2) (r : Fin 256) : ((col p r).val < 256 ↔ p.val = 0) ∧ (col p r).val % 256 = r.val := by
  have h1 := r.isLt
  have h2 := p.isLt
  constructor
  · show 256 * p.val + r.val < 256 ↔ _
    omega
  · show (256 * p.val + r.val) % 256 = _
    omega

theorem score_raw (x : Vec Ideal S1x256x128 .bf16) (kb : Vec Ideal S1x1x256x128 .bf16) (p : Fin 2) (r n : Fin 256)
    (q : Fin 128 → ℝ) (kk : Fin 128 → ℝ) (hq : ∀ e, (x (ix3 (0 : Fin 1) r e) : EReal) = (q e : EReal))
    (hk : ∀ e, (kb (ix4 (0 : Fin 1) (0 : Fin 1) n e) : EReal) = (kk e : EReal)) :
    (k0_pay2 (k0_pay46 x) kb (ix2 n (col p r)) : EReal)
      = ((∑ e : Fin 64, q ⟨64 * p.val + e.val, by omega⟩ * kk ⟨64 * p.val + e.val, by omega⟩ : ℝ) : EReal) := by
  rw [pay2_apply, ← half p (fun e => q e * kk e), Online.coe_sum]
  refine Finset.sum_congr rfl fun e _ => ?_
  have hr : (⟨(col p r).val % 256, Nat.mod_lt _ (by decide)⟩ : Fin 256) = r := Fin.ext (col_map p r).2
  rw [pay46_apply, hr, hq, hk]
  by_cases h : (p.val = 0 ↔ e.val < 64)
  · rw [if_pos h, if_pos ((col_map p r).1.trans h), ← EReal.coe_mul, mul_comm]
  · rw [if_neg h, if_neg (fun h' => h ((col_map p r).1.symm.trans h')), mul_zero, EReal.coe_zero]

section Head

variable (x0 : Vec Ideal S1x256x512 .bf16) (x1 : Vec Ideal S1x8x256x512 .bf16) (x2 : Vec Ideal S1x4x8x128x256 .bf16)
  (h : Fin 4) (q : Fin 256 → Fin 128 → ℝ) (kk : ℕ → Fin 128 → ℝ) (v : Fin 128 → ℕ → ℝ)
  (hq : ∀ r e, (x0 (ix3 (0 : Fin 1) r (lane h e)) : EReal) = (q r e : EReal))
  (hk : ∀ (n : Fin 8) (r : Fin 256) e, (x1 (ix4 (0 : Fin 1) n r (lane h e)) : EReal) = (kk (256 * n.val + r.val) e : EReal))
  (hv : ∀ (n : Fin 8) (d : Fin 128) (r : Fin 256), (x2 (ix5 (0 : Fin 1) h n d r) : EReal) = (v d (256 * n.val + r.val) : EReal))

include hq hk in
theorem score_tile (n : ℕ) (hn : n < 8) (p : Fin 2) (r k : Fin 256) :
    (k0_pay2 (k0_pay46 (qblk x0 h)) (kblk x1 h n) (ix2 k (col p r)) : EReal)
      = ((∑ e : Fin 64, q r ⟨64 * p.val + e.val, by omega⟩ * kk (256 * n + k.val) ⟨64 * p.val + e.val, by omega⟩ : ℝ) : EReal) := by
  have ht : (tile n).val = n := Nat.mod_eq_of_lt hn
  refine score_raw _ _ p r k (q r) (kk (256 * n + k.val)) (fun e => hq r e) (fun e => ?_)
  refine (hk (tile n) k e).trans ?_
  rw [ht]

include hv in
theorem value_tile (n : ℕ) (hn : n < 8) (d : Fin 128) (r : Fin 256) :
    (vblk x2 h n (ix5 (0 : Fin 1) (0 : Fin 1) (0 : Fin 1) d r) : EReal) = (v d (256 * n + r.val) : EReal) := by
  have ht : (tile n).val = n := Nat.mod_eq_of_lt hn
  refine (hv (tile n) d r).trans ?_
  rw [ht]

include hq hk hv in
/-- The whole tiles before the row's own. -/
theorem at_run (qi : ℕ) (hqi : qi < 8) (p : Fin 2) (r : Fin 256) (n : ℕ) (hn : n ≤ qi) :
    At (hrun (k0_pay46 (qblk x0 h)) x1 x2 h n) (col p r) (score (q r) kk p (256 * qi + r.val)) v (256 * n) := by
  induction n with
  | zero => exact at_init _ _ _
  | succ n ih =>
    have hb := r.isLt
    refine at_step (n := 256 * n) (ih (by omega)) _ _ (fun k => ?_) (fun d k => value_tile x2 h v hv n (by omega) d k)
    have hb' := k.isLt
    rw [score_tile x0 x1 h q kk hq hk n (by omega) p r k, score, if_pos (by omega)]

include hq hk hv in
/-- After the row's own tile. -/
theorem at_diag (qi : ℕ) (hqi : qi < 8) (p : Fin 2) (r : Fin 256) :
    At (hdiag (k0_pay46 (qblk x0 h)) x1 x2 h qi) (col p r) (score (q r) kk p (256 * qi + r.val)) v (256 * qi + 256) := by
  have hb := r.isLt
  refine at_step (n := 256 * qi) (at_run x0 x1 x2 h q kk v hq hk hv qi hqi p r qi le_rfl) _ _ (fun k => ?_)
    (fun d k => value_tile x2 h v hv qi hqi d k)
  have hb' := k.isLt
  rw [masked_apply, (col_map p r).2, score_tile x0 x1 h q kk hq hk qi hqi p r k, score]
  by_cases hc : k.val / 64 ≤ r.val / 64
  · rw [if_pos hc, if_pos (by omega)]
  · rw [if_neg hc, if_neg (by omega)]

/-- A row's difference of the two maps' outputs. -/
def diff (q : Fin 128 → ℝ) (kk : ℕ → Fin 128 → ℝ) (v : ℕ → ℝ) (lam : ℝ) (t : ℕ) : ℝ :=
  Online.acc (score q kk 0 t) v 2048 / Online.tot (score q kk 0 t) 2048
    - lam * (Online.acc (score q kk 1 t) v 2048 / Online.tot (score q kk 1 t) 2048)

theorem score_tot_pos (q : Fin 128 → ℝ) (kk : ℕ → Fin 128 → ℝ) (p : Fin 2) (t : ℕ) : 0 < Online.tot (score q kk p t) 2048 := by
  refine Online.tot_pos (k₀ := 0) (by decide) (∑ e : Fin 64, q ⟨64 * p.val + e.val, by omega⟩ * kk 0 ⟨64 * p.val + e.val, by omega⟩)
    ?_ (fun k => ?_)
  · rw [score, if_pos (by omega)]
  · unfold score
    split
    · exact EReal.coe_ne_top _
    · exact bot_ne_top

include hq hk hv in
theorem head_apply (lam : FVec Ideal S1x1 .f32) (og : Vec Ideal S128x256 .f32) (l : ℝ)
    (hl : (lam (ix2 (0 : Fin 1) (0 : Fin 1)) : EReal) = (l : EReal)) (qi : ℕ) (hqi : qi < 8) (r : Fin 256) (d : Fin 128) :
    (headOut x0 x1 x2 lam og h qi (ix3 (0 : Fin 1) r d) : EReal)
      = tail (fun x => (diff (q r) kk (v x) l (256 * qi + r.val) : EReal)) (og (ix2 d r)) d := by
  have hb := r.isLt
  unfold headOut
  refine (pay121_apply _ _ lam og r d).trans ?_
  refine congrArg (fun o => tail o (og (ix2 d r)) d) (funext fun x => ?_)
  have hrest : ∀ p : Fin 2, ∀ k, 256 * qi + 256 ≤ k → k < 2048 → score (q r) kk p (256 * qi + r.val) k = ⊥ := by
    intro p k h1 h2
    rw [score, if_neg (by omega)]
  have ht : ∀ p, Online.tot (score (q r) kk p (256 * qi + r.val)) 2048 = Online.tot (score (q r) kk p (256 * qi + r.val)) (256 * qi + 256) :=
    fun p => Online.tot_rest (by omega) (hrest p)
  have ha : ∀ p, Online.acc (score (q r) kk p (256 * qi + r.val)) (v x) 2048
      = Online.acc (score (q r) kk p (256 * qi + r.val)) (v x) (256 * qi + 256) :=
    fun p => Online.acc_rest (v x) (by omega) (hrest p)
  obtain ⟨-, a2, a3⟩ := at_diag x0 x1 x2 h q kk v hq hk hv qi hqi 0 r
  obtain ⟨-, b2, b3⟩ := at_diag x0 x1 x2 h q kk v hq hk hv qi hqi 1 r
  rw [a2, b2, a3 x, b3 x, hl, ← ht, ← ht, ← ha, ← ha]
  exact Online.diff_quotients l (score_tot_pos _ _ _ _) (score_tot_pos _ _ _ _)

end Head

end Cert.KernelIdeal.Column
-- ==== Proof.Pieces.lean ====
module

public import proofs.«01_k».proof.Proof.Body

@[expose] public section

set_option maxRecDepth 16384
set_option synthInstance.maxSize 4096

noncomputable section

namespace Cert.KernelIdeal.Body

open Idealize.ShloMosaic Idealize.ShloMosaic.TcCoe Idealize.SL Idealize.SL.Sem
open Cert.KernelIdeal Cert.KernelIdeal.Gen
open Idealize.ShloMosaic.Pointwise

variable {F : FTy → Type} [FloatOps F] [Named F]

section Loop

variable (c : Dev nD) (i : grid0.Coords)
  (arg2 : Memref sig .tc .vmem S1x256x512 .bf16) (harg2 : arg2.IsWhole)
  (arg3 : Memref sig .tc .vmem S1x8x256x512 .bf16) (harg3 : arg3.IsWhole)
  (arg4 : Memref sig .tc .vmem S1x4x8x128x256 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x256 .f32) (harg9 : arg9.IsWhole)
  (arg10 : Memref sig .tc .vmem S1x256x512 .bf16) (harg10 : arg10.IsWhole)
  (x0 : Vec F S1x256x512 .bf16) (x1 : Vec F S1x8x256x512 .bf16) (x2 : Vec F S1x4x8x128x256 .bf16)
  (x3 x4 x5 x6 : Vec F S1x64 .f32) (x7 : Vec F S128x256 .f32)

omit [FloatOps F] [Named F] in
theorem wld {n0 n1 : ℕ} {arg : Memref sig .tc .vmem ⟨2, ![n0, n1]⟩ .f32} (harg : arg.IsWhole)
    (x : Vec F ⟨2, ![n0, n1]⟩ .f32)
    (off : Fin 2 → ℕ) (inb : ∀ a, off a + (![n0, n1] : Fin 2 → ℕ) a ≤ (![n0, n1] : Fin 2 → ℕ) a)
    (e0 : off 0 = 0) (e1 : off 1 = 0) :
    View.readAt (Elt F) arg.view (Rect.unit (s := ⟨2, ![n0, n1]⟩) off ![n0, n1] inb).toLoadRect (harg.unread x) = x := by
  funext y
  refine (Memref.IsWhole.readAt_unread harg ..).trans ?_
  refine congrArg x (funext fun a => Fin.ext ?_)
  match a with
  | ⟨0, _⟩ =>
    show off 0 + 1 * (y 0).val = (y 0).val
    omega
  | ⟨1, _⟩ =>
    show off 1 + 1 * (y 1).val = (y 1).val
    omega

/-- The remainder loop makes no trips. -/
theorem st2_all (𝒱 : Variants) (bd : Option 𝒱.V) (arg1 : BitVec 32) (v0 : IVec S256x128 32)
    (v10 v20 v30 : FVec F S512x128 .bf16) (v32 v33 : FVec F S256x128 .bf16) (v34 : IVec S256x128 32) (v57 : BitVec 32)
    (X3 : BufTy.Contents (Elt F) arg3.view.ty) (X4 : BufTy.Contents (Elt F) arg4.view.ty) init (n : ℕ) :
    st_k0_t2 (F := F) 𝒱 c bd i arg2 harg2 arg3 harg3 arg4 harg4 arg5 harg5 arg6 harg6 arg7 harg7 arg8 harg8 arg9 harg9 arg10 harg10 arg1 v0 v10 v20 v30 v32 v33 v34 v57 X3 X4 init n = init := by
  induction n with
  | zero => rfl
  | succ n ih =>
    rw [st_k0_t2.eq_2]
    unfold st_k0_t2Step
    rw [dif_neg (by have := trips2 i; omega), ih]

/-- The loop's state at its end. -/
theorem st1_end (𝒱 : Variants) (bd : Option 𝒱.V) (arg1 : BitVec 32) (v0 : IVec S256x128 32)
    (v10 v20 v30 : FVec F S512x128 .bf16) (v32 v33 : FVec F S256x128 .bf16) (v34 : IVec S256x128 32) init (n : ℕ)
    (hn : n = (k0_t1_loop i).trips) (hi : init = pack hinit hinit hinit hinit) :
    st_k0_t1 (F := F) 𝒱 c bd i arg2 harg2 arg3 harg3 arg4 harg4 arg5 harg5 arg6 harg6 arg7 harg7 arg8 harg8 arg9 harg9 arg10 harg10 arg1 v0 v10 v20 v30 v32 v33 v34
        (harg3.unread x1) (harg4.unread x2) init n
      = pack (hrun v10 x1 x2 0 (i 1).val) (hrun v20 x1 x2 1 (i 1).val) (hrun v30 x1 x2 2 (i 1).val)
          (hrun (k0_pay52 v0 v32 v33 v34) x1 x2 3 (i 1).val) := by
  subst hi hn
  rw [st1_eq _ _ _ _ _ _ _ _ _ _ _ _ _ _ _ _ _ _ _ _ _ _ _ _ _ _ _ _ _ _ _ _ _ (le_refl _), trips1 i]

/-- What the body stores: head by head. -/
theorem pieces_eq : (kernelRun0_A c i arg2 harg2 arg3 harg3 arg4 harg4 arg5 harg5 arg6 harg6 arg7 harg7 arg8 harg8 arg9 harg9 arg10 harg10 x0 x1 x2 x3 x4 x5 x6 x7).1 =
    [⟨Rect.unit ![0, 0, 384] S1x256x128.size inb_S1x256x512_S1x256x128_0_0_384,
        headOut x0 x1 x2 (k0_pay118 x3 x4 x5 x6) x7 3 (i 1).val⟩,
      ⟨Rect.unit ![0, 0, 256] S1x256x128.size inb_S1x256x512_S1x256x128_0_0_256,
        headOut x0 x1 x2 (k0_pay118 x3 x4 x5 x6) x7 2 (i 1).val⟩,
      ⟨Rect.unit ![0, 0, 128] S1x256x128.size inb_S1x256x512_S1x256x128_0_0_128,
        headOut x0 x1 x2 (k0_pay118 x3 x4 x5 x6) x7 1 (i 1).val⟩,
      ⟨Rect.unit ![0, 0, 0] S1x256x128.size inb_S1x256x512_S1x256x128_0_0_0,
        headOut x0 x1 x2 (k0_pay118 x3 x4 x5 x6) x7 0 (i 1).val⟩] := by
  have hk : (i 1).val < 8 := (i 1).isLt
  have hv := ownn i
  unfold kernelRun0_A
  dsimp only
  sl_unfold_run_names
  simp only [st2_all]
  rw [st1_end]
  case hn => rfl
  case hi => rfl
  unfold headOut hdiag
  rw [← kld harg3 x1 0 (i 1).val hk (k0_off17 i) (Gen.facts.k0_off17_inb i) rfl hv rfl rfl,
    ← kld harg3 x1 1 (i 1).val hk (k0_off19 i) (Gen.facts.k0_off19_inb i) rfl hv rfl rfl,
    ← kld harg3 x1 2 (i 1).val hk (k0_off21 i) (Gen.facts.k0_off21_inb i) rfl hv rfl rfl,
    ← kld harg3 x1 3 (i 1).val hk (k0_off23 i) (Gen.facts.k0_off23_inb i) rfl hv rfl rfl,
    ← vld harg4 x2 0 (i 1).val hk (k0_off18 i) (Gen.facts.k0_off18_inb i) rfl rfl hv rfl rfl,
    ← vld harg4 x2 1 (i 1).val hk (k0_off20 i) (Gen.facts.k0_off20_inb i) rfl rfl hv rfl rfl,
    ← vld harg4 x2 2 (i 1).val hk (k0_off22 i) (Gen.facts.k0_off22_inb i) rfl rfl hv rfl rfl,
    ← vld harg4 x2 3 (i 1).val hk (k0_off24 i) (Gen.facts.k0_off24_inb i) rfl rfl hv rfl rfl,
    ← qld harg2 x0 0 ![0, 0, 0] inb_S1x256x512_S1x256x128_0_0_0 rfl rfl rfl,
    ← qld harg2 x0 1 ![0, 0, 128] inb_S1x256x512_S1x256x128_0_0_128 rfl rfl rfl,
    ← qld harg2 x0 2 ![0, 0, 256] inb_S1x256x512_S1x256x128_0_0_256 rfl rfl rfl,
    ← qld harg2 x0 3 ![0, 0, 384] inb_S1x256x512_S1x256x128_0_0_384 rfl rfl rfl]
  have w3 := wld harg5 x3 ![0, 0] inb_S1x64_S1x64_0_0 rfl rfl
  have w4 := wld harg6 x4 ![0, 0] inb_S1x64_S1x64_0_0 rfl rfl
  have w5 := wld harg7 x5 ![0, 0] inb_S1x64_S1x64_0_0 rfl rfl
  have w6 := wld harg8 x6 ![0, 0] inb_S1x64_S1x64_0_0 rfl rfl
  have w7 := wld harg9 x7 ![0, 0] inb_S128x256_S128x256_0_0 rfl rfl
  conv_rhs => rw [← w3, ← w4, ← w5, ← w6, ← w7]
  rfl

end Loop

end Cert.KernelIdeal.Body
-- ==== Proof.Final.lean ====
module

public import proofs.«01_k».proof.Proof.Pieces
public import Idealize.ShloMosaic.Lib.Pipeline.Value
public import Idealize.ShloMosaic.Lib.StableHlo.Run

@[expose] public section

set_option maxRecDepth 16384
set_option synthInstance.maxSize 4096

/-! The kernel's result array, entry by entry, from the arguments. -/

noncomputable section

namespace Cert.KernelIdeal.Body

open Idealize.ShloMosaic Idealize.ShloMosaic.TcCoe Idealize.SL Idealize.SL.Sem
open Cert.KernelIdeal Cert.KernelIdeal.Gen
open Idealize.ShloMosaic.Pointwise
open Idealize.ShloMosaic.Pipeline (Dat)

variable {F : FTy → Type} [FloatOps F] [Named F]

/-! ## The block a point leaves -/

/-- The head of a lane and the lane within the head. -/
def headOf (l : Fin 512) : Fin 4 := ⟨l.val / 128, by omega⟩
def laneOf (l : Fin 512) : Fin 128 := ⟨l.val % 128, by omega⟩

/-- The block: each head's output in its own 128 lanes. -/
def outv (x0 : Vec F S1x256x512 .bf16) (x1 : Vec F S1x8x256x512 .bf16) (x2 : Vec F S1x4x8x128x256 .bf16)
    (lam : FVec F S1x1 .f32) (og : Vec F S128x256 .f32) (n : ℕ) : Vec F S1x256x512 .bf16 := fun y =>
  headOut x0 x1 x2 lam og (headOf (y 2)) n (ix3 (0 : Fin 1) (y 1) (laneOf (y 2)))

/-- A head's piece of the block. -/
theorem piece_out (x0 : Vec F S1x256x512 .bf16) (x1 : Vec F S1x8x256x512 .bf16) (x2 : Vec F S1x4x8x128x256 .bf16)
    (lam : FVec F S1x1 .f32) (og : Vec F S128x256 .f32) (n : ℕ) (h : Fin 4) (off : Fin 3 → ℕ)
    (inb : ∀ a, off a + S1x256x128.size a ≤ S1x256x512.size a)
    (e0 : off 0 = 0) (e1 : off 1 = 0) (e2 : off 2 = 128 * h.val) (x : S1x256x128.Idx) :
    headOut x0 x1 x2 lam og h n x
      = outv x0 x1 x2 lam og n ((Rect.unit (s := S1x256x512) off S1x256x128.size inb).emb x) := by
  have hx : (x 2).val < 128 := (x 2).isLt
  have h0 : (x 0).val < 1 := (x 0).isLt
  unfold outv
  have eh : headOf (((Rect.unit (s := S1x256x512) off S1x256x128.size inb).emb x) 2) = h := by
    apply Fin.ext
    show (off 2 + 1 * (x 2).val) / 128 = h.val
    rw [e2]; omega
  rw [eh]
  refine congrArg (headOut x0 x1 x2 lam og h n) (funext fun a => Fin.ext ?_)
  match a with
  | ⟨0, _⟩ =>
    show (x 0).val = 0
    omega
  | ⟨1, _⟩ =>
    show (x 1).val = off 1 + 1 * (x 1).val
    omega
  | ⟨2, _⟩ =>
    show (x 2).val = (off 2 + 1 * (x 2).val) % 128
    rw [e2]; omega

section Out

variable (m : (ℓ : Loc nD τ sig) → Buf (Elt F) ℓ)

/-- What a point leaves, from its input blocks. -/
theorem outsAt_eq (c : Dev nD) (t : Fin cfg0.N) :
    outsAt0 m c t = outv (iblk m c 0 t) (iblk m c 1 t) (iblk m c 2 t)
      (k0_pay118 (iblk m c 3 t) (iblk m c 4 t) (iblk m c 5 t) (iblk m c 6 t)) (iblk m c 7 t)
      ((grid0.coords t) 1).val := by
  funext y
  unfold outsAt0 out0_A_8
  refine View.read_writes_apply_of_pieces _ _ _ _ ?_ y (cover0_A_8 ..)
  rw [pieces_eq]
  intro p hp x
  simp only [List.mem_cons, List.not_mem_nil, or_false] at hp
  rcases hp with rfl | rfl | rfl | rfl
  · exact piece_out _ _ _ _ _ _ 3 _ inb_S1x256x512_S1x256x128_0_0_384 rfl rfl rfl x
  · exact piece_out _ _ _ _ _ _ 2 _ inb_S1x256x512_S1x256x128_0_0_256 rfl rfl rfl x
  · exact piece_out _ _ _ _ _ _ 1 _ inb_S1x256x512_S1x256x128_0_0_128 rfl rfl rfl x
  · exact piece_out _ _ _ _ _ _ 0 _ inb_S1x256x512_S1x256x128_0_0_0 rfl rfl rfl x

/-! ## The result array -/

theorem co0 (t : Fin cfg0.N) : ((grid0.coords t) 0).val = t.val / 8 := by
  have h : t.val < 256 := lt_of_lt_of_eq t.isLt N_0
  have := Pipeline.Grid.coords_val (G := grid0) t 0 (S := 8) (B := 32) (by decide) (by decide)
  omega

theorem co1 (t : Fin cfg0.N) : ((grid0.coords t) 1).val = t.val % 8 := by
  have := Pipeline.Grid.coords_val (G := grid0) t 1 (S := 1) (B := 8) (by decide) (by decide)
  omega

theorem toN (n : ℕ) (h : n < 256) : (BitVec.ofNat 32 n).toNat = n := by
  rw [BitVec.toNat_ofNat]; omega

/-- The point that makes an entry's block. -/
def ptOf (i : S32x2048x512.Idx) : Fin cfg0.N :=
  ⟨8 * (i 0).val + (i 1).val / 256, by
    have h0 : (i 0).val < 32 := (i 0).isLt
    have h1 : (i 1).val < 2048 := (i 1).isLt
    show _ < grid0.N
    rw [N_0]; omega⟩

/-- The result array. -/
def result (c : Dev nD) : S32x2048x512.Idx → Elt F .bf16 := fun i =>
  outsAt0 m c (ptOf i) (ix3 (0 : Fin 1) (⟨(i 1).val % 256, by omega⟩ : Fin 256) (i 2))

theorem ix8 (t : Fin cfg0.N) : win0_8.index t 0 = t.val / 8 ∧ win0_8.index t 1 = t.val % 8 ∧ win0_8.index t 2 = 0 := by
  have h : t.val < 256 := lt_of_lt_of_eq t.isLt N_0
  refine ⟨?_, ?_, rfl⟩
  · show (BitVec.ofNat 32 ((grid0.coords t) 0).val).toNat = _
    rw [co0, toN _ (by omega)]
  · show (BitVec.ofNat 32 ((grid0.coords t) 1).val).toNat = _
    rw [co1, toN _ (by omega)]

theorem emb8 (t : Fin cfg0.N) (y : ((cfg0.win 8).xblock (grid0.coords t)).Idx) (z : S32x2048x512.Idx)
    (hz : z = ((cfg0.win 8).blk t).view.emb y) :
    (z 0).val = t.val / 8 ∧ (z 1).val = t.val % 8 * 256 + (y 1).val ∧ (z 2).val = (y 2).val := by
  obtain ⟨e0, e1, e2⟩ := ix8 t
  have hy0 : (y 0).val < 1 := (y 0).isLt
  subst hz
  refine ⟨?_, ?_, ?_⟩
  · show win0_8.index t 0 * 1 + 1 * (y 0).val = _
    omega
  · show win0_8.index t 1 * 256 + 1 * (y 1).val = _
    omega
  · show win0_8.index t 2 * 512 + 1 * (y 2).val = _
    omega

theorem result_at (c : Dev nD) (t : Fin cfg0.N) (z : S32x2048x512.Idx) (r : Fin 256) (l : Fin 512)
    (h0 : (z 0).val = t.val / 8) (h1 : (z 1).val = t.val % 8 * 256 + r.val) (h2 : (z 2).val = l.val) :
    result m c z = outsAt0 m c t (ix3 (0 : Fin 1) r l) := by
  have hr := r.isLt
  unfold result
  have ep : ptOf z = t := by
    apply Fin.ext
    show 8 * (z 0).val + (z 1).val / 256 = t.val
    omega
  rw [ep]
  refine congrArg (outsAt0 m c t) (funext fun a => Fin.ext ?_)
  match a with
  | ⟨0, _⟩ => rfl
  | ⟨1, _⟩ =>
    show (z 1).val % 256 = r.val
    omega
  | ⟨2, _⟩ => exact h2

theorem flushed_eq (c : Dev nD) (t : Fin cfg0.N) :
    (dats m 0 c).flushed 8 t = ((cfg0.win 8).blk t).view.read (Elt F) (result m c) := by
  rw [Value.flushed8]
  funext y
  rw [View.read_apply]
  obtain ⟨v0, v1, v2⟩ := emb8 t y _ rfl
  refine Eq.trans ?_ (result_at m c t _ (y 1) (y 2) v0 v1 v2).symm
  generalize outsAt0 m c t = o
  have hy0 : (y 0).val < 1 := (y 0).isLt
  refine congrArg o (funext fun a => Fin.ext ?_)
  match a with
  | ⟨0, _⟩ =>
    show (y 0).val = 0
    omega
  | ⟨1, _⟩ => rfl
  | ⟨2, _⟩ => rfl

theorem cover (i : S32x2048x512.Idx) :
    ∃ t : Fin cfg0.N, (cfg0.win 8).flush t = true ∧ i ∈ ((cfg0.win 8).blk t).view.set := by
  refine ⟨ptOf i, flush0_8 _, ?_⟩
  obtain ⟨e0, e1, e2⟩ := ix8 (ptOf i)
  have h0 : (i 0).val < 32 := (i 0).isLt
  have h1 : (i 1).val < 2048 := (i 1).isLt
  have h2 : (i 2).val < 512 := (i 2).isLt
  show i ∈ ((View.whole main_v12).slice (win0_8.rect (ptOf i))).set
  rw [View.set_slice_whole, Rect.mem_set_unit]
  have ev : (ptOf i).val = 8 * (i 0).val + (i 1).val / 256 := rfl
  intro a
  match a with
  | ⟨0, _⟩ =>
    show win0_8.index (ptOf i) 0 * 1 ≤ (i 0).val ∧ (i 0).val < win0_8.index (ptOf i) 0 * 1 + 1
    omega
  | ⟨1, _⟩ =>
    show win0_8.index (ptOf i) 1 * 256 ≤ (i 1).val ∧ (i 1).val < win0_8.index (ptOf i) 1 * 256 + 256
    omega
  | ⟨2, _⟩ =>
    show win0_8.index (ptOf i) 2 * 512 ≤ (i 2).val ∧ (i 2).val < win0_8.index (ptOf i) 2 * 512 + 512
    omega

theorem final (c : Dev nD) : (dats m 0 c).arrAt 8 cfg0.N = result m c :=
  (dats m 0 c).arrAt_eq_of_cover 8 (result m c) (fun t _ => flushed_eq m c t) cover

/-! ## The blocks, from the arguments -/

/-- The row of a block's row in the array. -/
def rowOf (n : Fin 8) (r : Fin 256) : Fin 2048 := ⟨256 * n.val + r.val, by omega⟩

/-- The point's batch entry and the point's tile. -/
def bOf (t : Fin cfg0.N) : Fin 32 := ⟨t.val / 8, by have h : t.val < 256 := lt_of_lt_of_eq t.isLt N_0; omega⟩
def nOf (t : Fin cfg0.N) : Fin 8 := ⟨t.val % 8, by omega⟩

theorem iblk0 (c : Dev nD) (t : Fin cfg0.N) (r : Fin 256) (l : Fin 512) :
    (iblk m c 0 t : Vec F S1x256x512 .bf16) (ix3 (0 : Fin 1) r l)
      = (m ((c : Thread nD τ).loc main_arg0) : Vec F S32x2048x512 .bf16) (ix3 (bOf t) (rowOf (nOf t) r) l) := by
  have h : t.val < 256 := lt_of_lt_of_eq t.isLt N_0
  unfold iblk
  rw [View.read_apply]
  show V m c main_arg0 _ = _
  rw [V_main_arg0]
  refine congrArg (m ((c : Thread nD τ).loc main_arg0)) (funext fun a => Fin.ext ?_)
  match a with
  | ⟨0, _⟩ =>
    show (BitVec.ofNat 32 ((grid0.coords t) 0).val).toNat * 1 + 1 * 0 = t.val / 8
    rw [co0, toN _ (by omega)]; omega
  | ⟨1, _⟩ =>
    show (BitVec.ofNat 32 ((grid0.coords t) 1).val).toNat * 256 + 1 * r.val = 256 * (t.val % 8) + r.val
    rw [co1, toN _ (by omega)]; omega
  | ⟨2, _⟩ =>
    show 0 * 512 + 1 * l.val = l.val
    omega

theorem iblk2 (c : Dev nD) (t : Fin cfg0.N) (h : Fin 4) (n : Fin 8) (d : Fin 128) (s : Fin 256) :
    (iblk m c 2 t : Vec F S1x4x8x128x256 .bf16) (ix5 (0 : Fin 1) h n d s)
      = (m ((c : Thread nD τ).loc main_arg2) : Vec F S32x4x8x128x256 .bf16) (ix5 (bOf t) h n d s) := by
  have ht : t.val < 256 := lt_of_lt_of_eq t.isLt N_0
  unfold iblk
  rw [View.read_apply]
  show V m c main_arg2 _ = _
  rw [V_main_arg2]
  refine congrArg (m ((c : Thread nD τ).loc main_arg2)) (funext fun a => Fin.ext ?_)
  match a with
  | ⟨0, _⟩ =>
    show (BitVec.ofNat 32 ((grid0.coords t) 0).val).toNat * 1 + 1 * 0 = t.val / 8
    rw [co0, toN _ (by omega)]; omega
  | ⟨1, _⟩ =>
    show 0 * 4 + 1 * h.val = h.val
    omega
  | ⟨2, _⟩ =>
    show 0 * 8 + 1 * n.val = n.val
    omega
  | ⟨3, _⟩ =>
    show 0 * 128 + 1 * d.val = d.val
    omega
  | ⟨4, _⟩ =>
    show 0 * 256 + 1 * s.val = s.val
    omega

/-- The host's tiles of the keys. -/
theorem V9 (c : Dev nD) : (V m c main_v9 : Vec F S32x8x256x512 .bf16)
    = shapeCast S32x8x256x512 (m ((c : Thread nD τ).loc main_arg1) : Vec F S32x2048x512 .bf16)
        shapeCasts_S32x2048x512_S32x8x256x512 := by
  unfold V hostOps0
  after_results
  rfl

omit [FloatOps F] [Named F] in
theorem tiles_apply (A : Vec F S32x2048x512 .bf16) (h : S32x2048x512.ShapeCasts S32x8x256x512) (b : Fin 32) (n : Fin 8)
    (s : Fin 256) (l : Fin 512) :
    shapeCast S32x8x256x512 A h (ix4 b n s l) = A (ix3 b (rowOf n s) l) := by
  refine congrArg A ?_
  apply Shape.reshapeEquiv_eq_of_rowMajor
  rw [Shape.rowMajor_val_three, Shape.rowMajor_val_four]
  show (b.val * 2048 + (256 * n.val + s.val)) * 512 + l.val = ((b.val * 8 + n.val) * 256 + s.val) * 512 + l.val
  omega

omit [FloatOps F] [Named F] in
theorem row64 (x : Vec F S1x64 .f32) :
    shapeCast S1x64 (shapeCast S64 x shapeCasts_S1x64_S64) shapeCasts_S64_S1x64 = x := by
  funext j
  idx_vars j
  pointwise []

omit [FloatOps F] [Named F] in
theorem scales_apply (x : Vec F S1x128 .f32) (d : Fin 128) (r : Fin 256) :
    broadcastInDim S128x256 ![0, 1] bcast_S128x1_S128x256_0_1 (shapeCast S128x1
        (shapeCast S128 x shapeCasts_S1x128_S128) shapeCasts_S128_S128x1) (ix2 d r) = x (ix2 (0 : Fin 1) d) := by
  pointwise []

/-- A window that reads one batch entry of a tiled array. -/
theorem read1 (t : Fin cfg0.N) (A : Vec F S32x8x256x512 .bf16) (n : Fin 8) (s : Fin 256) (l : Fin 512) :
    (((cfg0.win 1).blk t).view.read (Elt F) A : Vec F S1x8x256x512 .bf16) (ix4 (0 : Fin 1) n s l)
      = A (ix4 (bOf t) n s l) := by
  have ht : t.val < 256 := lt_of_lt_of_eq t.isLt N_0
  rw [View.read_apply]
  refine congrArg A (funext fun a => Fin.ext ?_)
  match a with
  | ⟨0, _⟩ =>
    show (BitVec.ofNat 32 ((grid0.coords t) 0).val).toNat * 1 + 1 * 0 = t.val / 8
    rw [co0, toN _ (by omega)]; omega
  | ⟨1, _⟩ =>
    show 0 * 8 + 1 * n.val = n.val
    omega
  | ⟨2, _⟩ =>
    show 0 * 256 + 1 * s.val = s.val
    omega
  | ⟨3, _⟩ =>
    show 0 * 512 + 1 * l.val = l.val
    omega

theorem iblk1 (c : Dev nD) (t : Fin cfg0.N) (n : Fin 8) (s : Fin 256) (l : Fin 512) :
    (iblk m c 1 t : Vec F S1x8x256x512 .bf16) (ix4 (0 : Fin 1) n s l)
      = (m ((c : Thread nD τ).loc main_arg1) : Vec F S32x2048x512 .bf16) (ix3 (bOf t) (rowOf n s) l) := by
  unfold iblk
  refine (read1 t _ n s l).trans ?_
  refine (congrFun (V9 m c) _).trans ?_
  generalize (m ((c : Thread nD τ).loc main_arg1) : Vec F S32x2048x512 .bf16) = A
  exact tiles_apply A _ (bOf t) n s l

theorem V4 (c : Dev nD) : (V m c main_v4 : Vec F S1x64 .f32) = m ((c : Thread nD τ).loc main_arg3) := by
  refine Eq.trans (?_ : _ = shapeCast S1x64 (shapeCast S64 (m ((c : Thread nD τ).loc main_arg3) : Vec F S1x64 .f32)
    shapeCasts_S1x64_S64) shapeCasts_S64_S1x64) (row64 _)
  unfold V hostOps0
  after_results
  rfl

theorem iblk3 (c : Dev nD) (t : Fin cfg0.N) :
    (iblk m c 3 t : Vec F S1x64 .f32) = m ((c : Thread nD τ).loc main_arg3) := by
  unfold iblk
  refine Eq.trans ?_ (V4 m c)
  generalize V m c main_v4 = A
  funext y
  rw [View.read_apply]
  refine congrArg A (funext fun a => Fin.ext ?_)
  match a with
  | ⟨0, _⟩ =>
    show 0 * 1 + 1 * (y 0).val = (y 0).val
    omega
  | ⟨1, _⟩ =>
    show 0 * 64 + 1 * (y 1).val = (y 1).val
    omega

theorem V5 (c : Dev nD) : (V m c main_v5 : Vec F S1x64 .f32) = m ((c : Thread nD τ).loc main_arg4) := by
  refine Eq.trans (?_ : _ = shapeCast S1x64 (shapeCast S64 (m ((c : Thread nD τ).loc main_arg4) : Vec F S1x64 .f32)
    shapeCasts_S1x64_S64) shapeCasts_S64_S1x64) (row64 _)
  unfold V hostOps0
  after_results
  rfl

theorem iblk4 (c : Dev nD) (t : Fin cfg0.N) :
    (iblk m c 4 t : Vec F S1x64 .f32) = m ((c : Thread nD τ).loc main_arg4) := by
  unfold iblk
  refine Eq.trans ?_ (V5 m c)
  generalize V m c main_v5 = A
  funext y
  rw [View.read_apply]
  refine congrArg A (funext fun a => Fin.ext ?_)
  match a with
  | ⟨0, _⟩ =>
    show 0 * 1 + 1 * (y 0).val = (y 0).val
    omega
  | ⟨1, _⟩ =>
    show 0 * 64 + 1 * (y 1).val = (y 1).val
    omega

theorem V6 (c : Dev nD) : (V m c main_v6 : Vec F S1x64 .f32) = m ((c : Thread nD τ).loc main_arg5) := by
  refine Eq.trans (?_ : _ = shapeCast S1x64 (shapeCast S64 (m ((c : Thread nD τ).loc main_arg5) : Vec F S1x64 .f32)
    shapeCasts_S1x64_S64) shapeCasts_S64_S1x64) (row64 _)
  unfold V hostOps0
  after_results
  rfl

theorem iblk5 (c : Dev nD) (t : Fin cfg0.N) :
    (iblk m c 5 t : Vec F S1x64 .f32) = m ((c : Thread nD τ).loc main_arg5) := by
  unfold iblk
  refine Eq.trans ?_ (V6 m c)
  generalize V m c main_v6 = A
  funext y
  rw [View.read_apply]
  refine congrArg A (funext fun a => Fin.ext ?_)
  match a with
  | ⟨0, _⟩ =>
    show 0 * 1 + 1 * (y 0).val = (y 0).val
    omega
  | ⟨1, _⟩ =>
    show 0 * 64 + 1 * (y 1).val = (y 1).val
    omega

theorem V7 (c : Dev nD) : (V m c main_v7 : Vec F S1x64 .f32) = m ((c : Thread nD τ).loc main_arg6) := by
  refine Eq.trans (?_ : _ = shapeCast S1x64 (shapeCast S64 (m ((c : Thread nD τ).loc main_arg6) : Vec F S1x64 .f32)
    shapeCasts_S1x64_S64) shapeCasts_S64_S1x64) (row64 _)
  unfold V hostOps0
  after_results
  rfl

theorem iblk6 (c : Dev nD) (t : Fin cfg0.N) :
    (iblk m c 6 t : Vec F S1x64 .f32) = m ((c : Thread nD τ).loc main_arg6) := by
  unfold iblk
  refine Eq.trans ?_ (V7 m c)
  generalize V m c main_v7 = A
  funext y
  rw [View.read_apply]
  refine congrArg A (funext fun a => Fin.ext ?_)
  match a with
  | ⟨0, _⟩ =>
    show 0 * 1 + 1 * (y 0).val = (y 0).val
    omega
  | ⟨1, _⟩ =>
    show 0 * 64 + 1 * (y 1).val = (y 1).val
    omega

/-- The host's output scales, one row per lane. -/
theorem V11 (c : Dev nD) : (V m c main_v11 : Vec F S128x256 .f32)
    = broadcastInDim S128x256 ![0, 1] bcast_S128x1_S128x256_0_1 (shapeCast S128x1
        (shapeCast S128 (m ((c : Thread nD τ).loc main_arg7) : Vec F S1x128 .f32) shapeCasts_S1x128_S128)
        shapeCasts_S128_S128x1) := by
  unfold V hostOps0
  after_results
  rfl

theorem iblk7 (c : Dev nD) (t : Fin cfg0.N) (d : Fin 128) (r : Fin 256) :
    (iblk m c 7 t : Vec F S128x256 .f32) (ix2 d r)
      = (m ((c : Thread nD τ).loc main_arg7) : Vec F S1x128 .f32) (ix2 (0 : Fin 1) d) := by
  have e : (iblk m c 7 t : Vec F S128x256 .f32) = V m c main_v11 := by
    unfold iblk
    generalize V m c main_v11 = A
    funext y
    rw [View.read_apply]
    refine congrArg A (funext fun a => Fin.ext ?_)
    match a with
    | ⟨0, _⟩ =>
      show 0 * 128 + 1 * (y 0).val = (y 0).val
      omega
    | ⟨1, _⟩ =>
      show 0 * 256 + 1 * (y 1).val = (y 1).val
      omega
  refine (congrFun (e.trans (V11 m c)) _).trans ?_
  exact scales_apply _ d r

end Out

end Cert.KernelIdeal.Body
-- ==== Proof.Ref.lean ====
module

public import proofs.«01_k».proof.Proof.Gen.ReferenceIdeal.Run
public import Idealize.ShloMosaic.Lib.Pointwise

@[expose] public section

set_option maxRecDepth 16384
set_option synthInstance.maxSize 4096

/-! The reference read at an index. -/

noncomputable section

namespace Cert.ReferenceIdeal.Row

open Idealize.ShloMosaic Idealize.ShloMosaic.TcCoe Idealize.SL Idealize.SL.Sem
open Cert.ReferenceIdeal Cert.ReferenceIdeal.Gen Cert.ReferenceIdeal.Value
open Idealize.ShloMosaic.Pointwise

/-- A position's group of 64. -/
def chunkT : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- Which keys (second) a query (first) sees. -/
def maskT : IVec S2048x2048 1 :=
  cmpi .sle (broadcastInDim S2048x2048 ![0, 1] bcast_S1x2048_S2048x2048_0_1 (broadcastInDim S1x2048 ![1] bcast_S2048_S1x2048_1 chunkT))
    (broadcastInDim S2048x2048 ![0, 1] bcast_S2048x1_S2048x2048_0_1 (broadcastInDim S2048x1 ![0] bcast_S2048_S2048x1_0 chunkT))

/-- The products of queries and keys. -/
def dotT (q k : FVec Ideal S32x2048x512 .bf16) : FVec Ideal S32x4x2x2048x2048 .f32 :=
  Host.dotGeneral dot_S32x2048x4x2x64_S32x2048x4x2x64_S32x4x2x2048x2048_4_4_1_1_023_023 none
    (shapeCast S32x2048x4x2x64 (extf .f32 q bitsLt_bf16_f32) shapeCasts_S32x2048x512_S32x2048x4x2x64)
    (shapeCast S32x2048x4x2x64 (extf .f32 k bitsLt_bf16_f32) shapeCasts_S32x2048x512_S32x2048x4x2x64)

/-- The masked scores. -/
def scoreT (d : FVec Ideal S32x4x2x2048x2048 .f32) : FVec Ideal S32x4x2x2048x2048 .f32 :=
  select (broadcastInDim S32x4x2x2048x2048 ![3, 4] bcast_S2048x2048_S32x4x2x2048x2048_3_4 maskT) d
    (broadcastInDim S32x4x2x2048x2048 ![] bcast_S_S32x4x2x2048x2048 (id (constant S_ .f32 0xFF800000#32)))

/-- The greatest score of a query. -/
def maxT (s : FVec Ideal S32x4x2x2048x2048 .f32) : FVec Ideal S32x4x2x2048 .f32 :=
  maximumf (broadcastInDim S32x4x2x2048 ![] bcast_S_S32x4x2x2048 (constant S_ .f32 0xFF800000#32))
    (Host.reduce FloatOps.maximumf s (constant S_ .f32 0xFF800000#32) reducesTo_S32x4x2x2048x2048_S32x4x2x2048_d4 h_S_)

/-- The exponentials. -/
def expT (s : FVec Ideal S32x4x2x2048x2048 .f32) : FVec Ideal S32x4x2x2048x2048 .f32 :=
  Host.exp (subf s (broadcastInDim S32x4x2x2048x2048 ![0, 1, 2, 3, 4] bcast_S32x4x2x2048x1_S32x4x2x2048x2048_0_1_2_3_4
    (broadcastInDim S32x4x2x2048x1 ![0, 1, 2, 3] bcast_S32x4x2x2048_S32x4x2x2048x1_0_1_2_3 (maxT s))))

/-- The weights. -/
def softT (e : FVec Ideal S32x4x2x2048x2048 .f32) : FVec Ideal S32x4x2x2048x2048 .f32 :=
  Host.divf e (broadcastInDim S32x4x2x2048x2048 ![0, 1, 2, 3, 4] bcast_S32x4x2x2048x1_S32x4x2x2048x2048_0_1_2_3_4
    (broadcastInDim S32x4x2x2048x1 ![0, 1, 2, 3] bcast_S32x4x2x2048_S32x4x2x2048x1_0_1_2_3
      (Host.reduceAdd e (constant S_ .f32 0x00000000#32) reducesTo_S32x4x2x2048x2048_S32x4x2x2048_d4 h_S_)))

/-- What the second map is taken times. -/
def lamT (x3 x4 x5 x6 : FVec Ideal S1x64 .f32) : FVec Ideal S_ .f32 :=
  addf (subf (Host.exp (Host.reduceAdd (mulf (shapeCast S64 x3 shapeCasts_S1x64_S64) (shapeCast S64 x4 shapeCasts_S1x64_S64))
      (constant S_ .f32 0x00000000#32) reducesTo_S64_S_d0 h_S_))
    (Host.exp (Host.reduceAdd (mulf (shapeCast S64 x5 shapeCasts_S1x64_S64) (shapeCast S64 x6 shapeCasts_S1x64_S64))
      (constant S_ .f32 0x00000000#32) reducesTo_S64_S_d0 h_S_))) (constant S_ .f32 0x3E4CCCCD#32)

/-- The difference of the two maps. -/
def diffT (p : FVec Ideal S32x4x2x2048x2048 .f32) (lam : FVec Ideal S_ .f32) : FVec Ideal S32x4x2048x2048 .f32 :=
  subf (shapeCast S32x4x2048x2048 (extractStridedSlice S32x4x1x2048x2048 ![0, 0, 0, 0, 0] p slices_S32x4x2x2048x2048_S32x4x1x2048x2048_0_0_0_0_0)
      shapeCasts_S32x4x1x2048x2048_S32x4x2048x2048)
    (mulf (broadcastInDim S32x4x2048x2048 ![] bcast_S_S32x4x2048x2048 lam)
      (shapeCast S32x4x2048x2048 (extractStridedSlice S32x4x1x2048x2048 ![0, 0, 1, 0, 0] p slices_S32x4x2x2048x2048_S32x4x1x2048x2048_0_0_1_0_0)
      shapeCasts_S32x4x1x2048x2048_S32x4x2048x2048))

/-- The values applied. -/
def outT (x2 : FVec Ideal S32x4x8x128x256 .bf16) (w : FVec Ideal S32x4x2048x2048 .f32) : FVec Ideal S32x2048x4x128 .f32 :=
  transpose S32x2048x4x128 [0, 3, 1, 2] (Host.dotGeneral dot_S32x2048x4x128_S32x4x2048x2048_S32x4x128x2048_1_3_3_2_02_01 none
    (shapeCast S32x2048x4x128 (transpose S32x8x256x4x128 [0, 2, 4, 1, 3] (extf .f32 x2 bitsLt_bf16_f32) transposes_S32x4x8x128x256_S32x8x256x4x128_0_2_4_1_3)
      shapeCasts_S32x8x256x4x128_S32x2048x4x128) w) transposes_S32x4x128x2048_S32x2048x4x128_0_3_1_2

/-- The rows scaled. -/
def tailT (o : FVec Ideal S32x2048x4x128 .f32) (g : FVec Ideal S1x128 .f32) : FVec Ideal S32x2048x512 .bf16 :=
  truncf .bf16 (shapeCast S32x2048x512 (mulf (mulf (mulf o (broadcastInDim S32x2048x4x128 ![0, 1, 2, 3] bcast_S32x2048x4x1_S32x2048x4x128_0_1_2_3
      (Host.rsqrt (addf (Host.divf (broadcastInDim S32x2048x4x1 ![0, 1, 2] bcast_S32x2048x4_S32x2048x4x1_0_1_2
          (Host.reduceAdd (mulf o o) (constant S_ .f32 0x00000000#32) reducesTo_S32x2048x4x128_S32x2048x4_d3 h_S_))
        (broadcastInDim S32x2048x4x1 ![] bcast_S_S32x2048x4x1 (constant S_ .f32 0x43000000#32)))
        (broadcastInDim S32x2048x4x1 ![] bcast_S_S32x2048x4x1 (constant S_ .f32 0x358637BD#32))))))
      (broadcastInDim S32x2048x4x128 ![0, 1, 2, 3] bcast_S1x1x1x128_S32x2048x4x128_0_1_2_3
        (broadcastInDim S1x1x1x128 ![3] bcast_S128_S1x1x1x128_3 (shapeCast S128 g shapeCasts_S1x128_S128))))
      (broadcastInDim S32x2048x4x128 ![] bcast_S_S32x2048x4x128 (constant S_ .f32 0x3F4CCCCD#32))) shapeCasts_S32x2048x4x128_S32x2048x512) bitsLt_bf16_f32

variable (m : (ℓ : Loc nD τ sig) → Buf (Elt Ideal) ℓ) (c : Dev nD)

theorem out_eq : res_out0 m c = tailT (outT (m ((c.tc : Thread nD τ).loc main_arg2))
    (diffT (softT (expT (scoreT (dotT (m ((c.tc : Thread nD τ).loc main_arg0)) (m ((c.tc : Thread nD τ).loc main_arg1))))))
      (lamT (m ((c.tc : Thread nD τ).loc main_arg3)) (m ((c.tc : Thread nD τ).loc main_arg4)) (m ((c.tc : Thread nD τ).loc main_arg5))
        (m ((c.tc : Thread nD τ).loc main_arg6))))) (m ((c.tc : Thread nD τ).loc main_arg7)) := rfl

theorem negInf : Ideal.ofBits FTy.f32 0xFF800000#32 = ⊥ := by
  simp [Ideal.ofBits, Ideal.ieee]

/-- The rounded-down division by 64, as the host spells it in 32-bit words. -/
def hdiv (x : BitVec 32) : BitVec 32 :=
  Scalar.select
    (IntOp.andi
      (IntOp.cmpi CmpIPredicate.ne (if x = 0 then 0 else if x.msb = true then -1 else 1 : BitVec 32)
        (if 64#32 = 0 then 0 else if (64#32).msb = true then -1 else 1 : BitVec 32))
      (IntOp.cmpi CmpIPredicate.ne (IntOp.remsi ArithUnit.host x 64#32) 0#32))
    (IntOp.subi (IntOp.divsi ArithUnit.host x 64#32) 1#32) (IntOp.divsi ArithUnit.host x 64#32)

theorem hdiv_eq : ∀ k : Fin 2048, hdiv (BitVec.ofNat 32 k.val) = BitVec.ofNat 32 (k.val / 64) := by decide +kernel

theorem chunk_apply (k : Fin 2048) : chunkT (ix1 k) = BitVec.ofNat 32 (k.val / 64) := by
  pointwise [chunkT]
  exact hdiv_eq k

theorem mask_apply (t k : Fin 2048) : maskT (ix2 t k) = IntOp.cmpi .sle (chunkT (ix1 k)) (chunkT (ix1 t)) := by
  pointwise [maskT]

/-- A lane by its head, map and place. -/
def lane3 (h : Fin 4) (p : Fin 2) (e : Fin 64) : Fin 512 := ⟨128 * h.val + (64 * p.val + e.val), by omega⟩

theorem dot_apply (q k : FVec Ideal S32x2048x512 .bf16) (b : Fin 32) (h : Fin 4) (p : Fin 2) (t n : Fin 2048) :
    (dotT q k (ix5 b h p t n) : EReal) = ∑ e : Fin 64, (q (ix3 b t (lane3 h p e)) : EReal) * (k (ix3 b n (lane3 h p e)) : EReal) := by
  pointwise [dotT]
  refine Finset.sum_congr rfl fun e _ => ?_
  have he : ∀ hh : h.val * 128 + p.val * 64 + e.val < 512, (⟨h.val * 128 + p.val * 64 + e.val, hh⟩ : Fin 512) = lane3 h p e := fun hh =>
    Fin.ext (by show h.val * 128 + p.val * 64 + e.val = 128 * h.val + (64 * p.val + e.val); omega)
  rw [he]

theorem score_apply (d : FVec Ideal S32x4x2x2048x2048 .f32) (b : Fin 32) (h : Fin 4) (p : Fin 2) (t n : Fin 2048) :
    (scoreT d (ix5 b h p t n) : EReal) = Scalar.select (maskT (ix2 t n)) (d (ix5 b h p t n)) (⊥ : EReal) := by
  pointwise [scoreT]
  refine congrArg (Scalar.select (maskT (ix2 t n)) (d (ix5 b h p t n))) ?_
  exact negInf

theorem redMax_apply (s : FVec Ideal S32x4x2x2048x2048 .f32) (init : FVec Ideal S_ .f32) (b : Fin 32) (h : Fin 4) (p : Fin 2) (t : Fin 2048) :
    (Host.reduce (FloatOps.maximumf (F := Ideal) (φ := .f32)) s init reducesTo_S32x4x2x2048x2048_S32x4x2x2048_d4 h_S_ (ix4 b h p t) : EReal)
      = Finset.univ.fold (FloatOps.maximumf (F := Ideal) (φ := .f32)) (init (Shape.Idx.first h_S_)) fun n : Fin 2048 => (s (ix5 b h p t n) : EReal) := by
  refine (Host.reduce_eq_fold _ s init _ _ _).trans ?_
  refine (Shape.ReducesTo.fold_fiber_r5_a4 _ _ _ _ _).trans ?_
  rfl

theorem maximumf_at (x y : FVec Ideal S32x4x2x2048 .f32) (j : S32x4x2x2048.Idx) : (maximumf x y j : EReal) = max (x j : EReal) (y j : EReal) := rfl

theorem fold_start (f : Fin 2048 → EReal) : Finset.univ.fold (FloatOps.maximumf (F := Ideal) (φ := .f32)) (constant (F := Ideal) S_ .f32 0xFF800000#32 (Shape.Idx.first h_S_)) f = Finset.univ.fold max (⊥ : EReal) f := by
  have h : (constant (F := Ideal) S_ .f32 0xFF800000#32 (Shape.Idx.first h_S_) : EReal) = ⊥ := negInf
  rw [h]
  rfl

theorem max_apply (s : FVec Ideal S32x4x2x2048x2048 .f32) (b : Fin 32) (h : Fin 4) (p : Fin 2) (t : Fin 2048) :
    (maxT s (ix4 b h p t) : EReal) = Finset.univ.fold max (⊥ : EReal) fun n : Fin 2048 => (s (ix5 b h p t n) : EReal) := by
  unfold maxT
  rw [maximumf_at, redMax_apply, fold_start]
  rw [show (broadcastInDim S32x4x2x2048 ![] bcast_S_S32x4x2x2048 (constant (F := Ideal) S_ .f32 0xFF800000#32) (ix4 b h p t) : EReal) = ⊥ from negInf]
  exact max_eq_right bot_le

theorem exp_apply (s : FVec Ideal S32x4x2x2048x2048 .f32) (b : Fin 32) (h : Fin 4) (p : Fin 2) (t n : Fin 2048) :
    (expT s (ix5 b h p t n) : EReal) = Ideal.exp ((s (ix5 b h p t n) : EReal) - (maxT s (ix4 b h p t) : EReal)) := by
  pointwise [expT]

theorem soft_apply (e : FVec Ideal S32x4x2x2048x2048 .f32) (b : Fin 32) (h : Fin 4) (p : Fin 2) (t n : Fin 2048) :
    (softT e (ix5 b h p t n) : EReal) = Ideal.div (e (ix5 b h p t n)) (∑ k : Fin 2048, (e (ix5 b h p t k) : EReal)) := by
  pointwise [softT]

theorem lam_apply (x3 x4 x5 x6 : FVec Ideal S1x64 .f32) :
    (lamT x3 x4 x5 x6 ix0 : EReal)
      = Ideal.exp (∑ x : Fin 64, (x3 (ix2 (0 : Fin 1) x) : EReal) * (x4 (ix2 (0 : Fin 1) x) : EReal))
        - Ideal.exp (∑ x : Fin 64, (x5 (ix2 (0 : Fin 1) x) : EReal) * (x6 (ix2 (0 : Fin 1) x) : EReal))
        + Ideal.ofBits FTy.f32 0x3E4CCCCD#32 := by
  pointwise [lamT]

theorem diff_apply (w : FVec Ideal S32x4x2x2048x2048 .f32) (lam : FVec Ideal S_ .f32) (b : Fin 32) (h : Fin 4) (t n : Fin 2048) :
    (diffT w lam (ix4 b h t n) : EReal) = (w (ix5 b h (0 : Fin 2) t n) : EReal) - (lam ix0 : EReal) * (w (ix5 b h (1 : Fin 2) t n) : EReal) := by
  pointwise [diffT]

theorem outT_apply (x2 : FVec Ideal S32x4x8x128x256 .bf16) (w : FVec Ideal S32x4x2048x2048 .f32) (b : Fin 32) (h : Fin 4) (t : Fin 2048)
    (d : Fin 128) :
    (outT x2 w (ix4 b t h d) : EReal) = ∑ n : Fin 2048, (x2 (ix5 b h (⟨n.val / 256, by omega⟩ : Fin 8) d (⟨n.val % 256, by omega⟩ : Fin 256)) : EReal)
      * (w (ix4 b h t n) : EReal) := by
  pointwise [outT]

theorem tail_apply (o : FVec Ideal S32x2048x4x128 .f32) (g : FVec Ideal S1x128 .f32) (b : Fin 32) (t : Fin 2048) (h : Fin 4) (d : Fin 128) :
    (tailT o g (ix3 b t (⟨128 * h.val + d.val, by omega⟩ : Fin 512)) : EReal)
      = (o (ix4 b t h d) : EReal) * Ideal.rsqrt (Ideal.div (∑ x : Fin 128, (o (ix4 b t h x) : EReal) * (o (ix4 b t h x) : EReal))
          (Ideal.ofBits FTy.f32 0x43000000#32) + Ideal.ofBits FTy.f32 0x358637BD#32)
        * (g (ix2 (0 : Fin 1) d) : EReal) * Ideal.ofBits FTy.f32 0x3F4CCCCD#32 := by
  pointwise [tailT]

end Cert.ReferenceIdeal.Row

end
-- ==== Proof.Equal.lean ====
module

public import proofs.«01_k».proof.Proof.Column
public import proofs.«01_k».proof.Proof.Final
public import proofs.«01_k».proof.Proof.Ref

@[expose] public section

set_option maxRecDepth 16384
set_option synthInstance.maxSize 4096

/-! The kernel's and the reference's result are the same where queries, keys, values and the lambda's vectors are real. -/

noncomputable section

namespace Cert.Equal

open Idealize.ShloMosaic Idealize.ShloMosaic.TcCoe Idealize.SL Idealize.SL.Sem
open Cert.KernelIdeal.Column Cert.KernelIdeal.Body
open Cert.ReferenceIdeal.Row
open Idealize.ShloMosaic.Pointwise

theorem wrap_lt (n : ℕ) : n % 2048 < 2048 := Nat.mod_lt _ (by decide)
theorem tileOf_lt (n : Fin 2048) : n.val / 256 < 8 := by omega
theorem inTile_lt (n : Fin 2048) : n.val % 256 < 256 := by omega

/-- The row numbered `n`, any number being read into the rows there are. -/
def wrap (n : ℕ) : Fin 2048 := ⟨n % 2048, wrap_lt n⟩

/-- A row's tile and its place there. -/
def tileOf (n : Fin 2048) : Fin 8 := ⟨n.val / 256, tileOf_lt n⟩
def inTile (n : Fin 2048) : Fin 256 := ⟨n.val % 256, inTile_lt n⟩

/-- What both sides compute, from real queries, keys and values. -/
def value (q k : Fin 32 → Fin 2048 → Fin 512 → ℝ) (v : Fin 32 → Fin 4 → Fin 128 → Fin 2048 → ℝ) (l : ℝ) (g : Fin 128 → EReal)
    (b : Fin 32) (t : Fin 2048) (h : Fin 4) (d : Fin 128) : EReal :=
  tail (fun x => (diff (fun e => q b t (lane h e)) (fun n e => k b (wrap n) (lane h e))
    (fun n => v b h x (wrap n)) l t.val : EReal)) (g d) d

/-! ## The reference -/

section Reference

variable (A0 A1 : FVec Ideal Cert.ReferenceIdeal.S32x2048x512 .bf16) (A2 : FVec Ideal Cert.ReferenceIdeal.S32x4x8x128x256 .bf16)
  (A3 A4 A5 A6 : FVec Ideal Cert.ReferenceIdeal.S1x64 .f32) (A7 : FVec Ideal Cert.ReferenceIdeal.S1x128 .f32)
  (q k : Fin 32 → Fin 2048 → Fin 512 → ℝ) (v : Fin 32 → Fin 4 → Fin 128 → Fin 2048 → ℝ) (l : ℝ)
  (hq : ∀ b t e, (A0 (ix3 b t e) : EReal) = (q b t e : EReal)) (hk : ∀ b t e, (A1 (ix3 b t e) : EReal) = (k b t e : EReal))
  (hv : ∀ b h d (n : Fin 2048), (A2 (ix5 b h (tileOf n) d (inTile n)) : EReal) = (v b h d n : EReal))
  (hl : lamOf (fun e => A3 (ix2 (0 : Fin 1) e)) (fun e => A4 (ix2 (0 : Fin 1) e)) (fun e => A5 (ix2 (0 : Fin 1) e))
    (fun e => A6 (ix2 (0 : Fin 1) e)) = (l : EReal))

/-- The scores of a row of query, by the key's number. -/
abbrev sc (b : Fin 32) (t : Fin 2048) (h : Fin 4) (p : Fin 2) : ℕ → EReal :=
  score (fun e => q b t (lane h e)) (fun n e => k b (wrap n) (lane h e)) p t.val

include hq hk in
theorem ref_score (b : Fin 32) (h : Fin 4) (p : Fin 2) (t n : Fin 2048) :
    (scoreT (dotT A0 A1) (ix5 b h p t n) : EReal) = sc q k b t h p n.val := by
  have h1 := t.isLt
  have h2 := n.isLt
  have hn : wrap n.val = n := Fin.ext (Nat.mod_eq_of_lt h2)
  rw [score_apply, mask_apply, chunk_apply, chunk_apply, sle_small ⟨n.val / 64, by omega⟩ ⟨t.val / 64, by omega⟩, dot_apply]
  unfold sc score
  have hd : (∑ e : Fin 64, (A0 (ix3 b t (lane3 h p e)) : EReal) * (A1 (ix3 b n (lane3 h p e)) : EReal))
      = ((∑ e : Fin 64, q b t (lane h ⟨64 * p.val + e.val, by omega⟩)
          * k b (wrap n.val) (lane h ⟨64 * p.val + e.val, by omega⟩) : ℝ) : EReal) := by
    rw [Online.coe_sum, hn]
    refine Finset.sum_congr rfl fun e _ => ?_
    rw [hq, hk, EReal.coe_mul]
    rfl
  rw [hd]
  by_cases hc : n.val / 64 ≤ t.val / 64
  · rw [if_pos hc, if_pos hc]; rfl
  · rw [if_neg hc, if_neg hc]; rfl

theorem sum_exp (s : ℕ → EReal) (N : ℕ) : ∑ n : Fin N, Ideal.exp (s n.val - Online.top s N) = (Online.tot s N : EReal) := by
  have h := Online.tot_step s 0 N
  rw [Online.tot_zero, EReal.coe_zero, mul_zero, zero_add, Nat.zero_add] at h
  rw [← h]
  exact Finset.sum_congr rfl fun n _ => by rw [Nat.zero_add]

include hq hk in
theorem ref_weight (b : Fin 32) (h : Fin 4) (p : Fin 2) (t n : Fin 2048) :
    (softT (expT (scoreT (dotT A0 A1))) (ix5 b h p t n) : EReal)
      = Ideal.div (Ideal.exp (sc q k b t h p n.val - Online.top (sc q k b t h p) 2048)) (Online.tot (sc q k b t h p) 2048 : EReal) := by
  have hm : (maxT (scoreT (dotT A0 A1)) (ix4 b h p t) : EReal) = Online.top (sc q k b t h p) 2048 := by
    rw [max_apply, ← Online.top_fin]
    exact congrArg (Finset.univ.fold max (⊥ : EReal)) (funext fun n => ref_score A0 A1 q k hq hk b h p t n) |>.trans rfl
  have he : ∀ n : Fin 2048, (expT (scoreT (dotT A0 A1)) (ix5 b h p t n) : EReal)
      = Ideal.exp (sc q k b t h p n.val - Online.top (sc q k b t h p) 2048) := by
    intro n
    rw [exp_apply, hm, ref_score A0 A1 q k hq hk]
  rw [soft_apply, he n]
  exact congrArg (Ideal.div _) ((Finset.sum_congr rfl fun n _ => he n).trans (sum_exp _ 2048))

include hq hk hv hl in
theorem ref_out (b : Fin 32) (t : Fin 2048) (h : Fin 4) (d : Fin 128) :
    (outT A2 (diffT (softT (expT (scoreT (dotT A0 A1)))) (lamT A3 A4 A5 A6)) (ix4 b t h d) : EReal)
      = (diff (fun e => q b t (lane h e)) (fun n e => k b (wrap n) (lane h e))
          (fun n => v b h d (wrap n)) l t.val : EReal) := by
  rw [outT_apply]
  have hlam : (lamT A3 A4 A5 A6 Idealize.ShloMosaic.ix0 : EReal) = (l : EReal) := (lam_apply A3 A4 A5 A6).trans hl
  refine Eq.trans (Finset.sum_congr rfl fun n _ => ?_) (Online.diff_weights (s1 := sc q k b t h 0) (s2 := sc q k b t h 1)
    (fun n => v b h d (wrap n)) l (score_tot_pos _ _ _ _) (score_tot_pos _ _ _ _))
  have hn : wrap n.val = n := Fin.ext (Nat.mod_eq_of_lt n.isLt)
  rw [diff_apply, ref_weight A0 A1 q k hq hk, ref_weight A0 A1 q k hq hk, hlam, hn]
  exact congrArg (· * _) (hv b h d n)

include hq hk hv hl in
theorem ref_value (b : Fin 32) (t : Fin 2048) (h : Fin 4) (d : Fin 128) :
    (tailT (outT A2 (diffT (softT (expT (scoreT (dotT A0 A1)))) (lamT A3 A4 A5 A6))) A7 (ix3 b t (lane h d)) : EReal)
      = value q k v l (fun d => A7 (ix2 (0 : Fin 1) d)) b t h d := by
  refine (tail_apply _ A7 b t h d).trans ?_
  simp only [ref_out A0 A1 A2 A3 A4 A5 A6 q k v l hq hk hv hl]
  rfl

end Reference

end Cert.Equal

end
-- ==== Proof.Finite.lean ====
module

public import proofs.«01_k».proof.Pre_finite
public import Idealize.ShloMosaic.PureOps.Ideal
public import Idealize.ShloMosaic.Lib.Pointwise

@[expose] public section

set_option maxRecDepth 16384
set_option synthInstance.maxSize 4096

/-! The precondition read back: the arrays it names hold real numbers. -/

noncomputable section

namespace Cert.Finite

open Idealize.ShloMosaic Cert.Pre_finite

theorem facts : Cert.Pre_finite.Facts where
  bitsLt_bf16_f32 := by decide
  bcast_S_S32x2048x512 := by decide
  reducesTo_S32x2048x512_S_d0_1_2 := by decide
  h_S_ := by decide
  bcast_S_S32x4x8x128x256 := by decide
  reducesTo_S32x4x8x128x256_S_d0_1_2_3_4 := by decide
  bcast_S_S1x64 := by decide
  reducesTo_S1x64_S_d0_1 := by decide

theorem and_one : ∀ a b : BitVec 1, IntOp.andi a b = 1#1 ↔ a = 1#1 ∧ b = 1#1 := by decide

instance : Subsingleton S_.Idx := ⟨fun a b => funext fun k => k.elim0⟩

/-- The conjunction over a whole array holds only where every entry does. -/
theorem all_of_reduce {s : Shape} {axes : List (Fin s.rank)} (x : IVec s 1) (init : IVec S_ 1) (h : s.ReducesTo axes S_) (hu : 0 < S_.numel)
    (j : S_.Idx) (e : Host.reduce IntOp.andi x init h hu j = 1#1) (i : s.Idx) : x i = 1#1 := by
  rw [Host.reduce_eq_fold] at e
  have hr := (Finset.fold_op_rel_iff_and (op := (IntOp.andi : BitVec 1 → BitVec 1 → BitVec 1)) (r := fun _ y => y = 1#1)
    (fun {x y z} => and_one y z) (c := 1#1)).mp e
  exact hr.2 i (Finset.mem_filter.mpr ⟨Finset.mem_univ _, Subsingleton.elim _ _⟩)

theorem real_of_lt (x : EReal) (h : max x (-x) < ⊤) : ∃ r : ℝ, x = (r : EReal) := by
  induction x using EReal.rec with
  | bot => simp at h
  | top => simp at h
  | coe r => exact ⟨r, rfl⟩

theorem posInf : Ideal.ofBits FTy.f32 0x7F800000#32 = ⊤ := by simp [Ideal.ofBits, Ideal.ieee]

theorem real_of_bit (x : Ideal FTy.f32)
    (h : BitVec.ofBool (decide ((FloatOps.absf x : EReal) < Ideal.ofBits FTy.f32 0x7F800000#32)) = 1#1) : ∃ r : ℝ, (x : EReal) = (r : EReal) := by
  rw [posInf] at h
  refine real_of_lt x ?_
  by_contra hc
  have e : ¬ ((FloatOps.absf x : EReal) < ⊤) := hc
  rw [decide_eq_false e] at h
  exact absurd h (by decide)

/-- An array of one row of 64 is finite. -/
abbrev bits64 [Facts] (x : FVec Ideal S1x64 .f32) : IVec S1x64 1 :=
  cmpf .olt (Host.absf x) (broadcastInDim S1x64 ![] Facts.bcast_S_S1x64 (constant S_ .f32 0x7F800000#32))

theorem real64 [Facts] (x : FVec Ideal S1x64 .f32) (i : S1x64.Idx) : bits64 x i = 1#1 → ∃ r : ℝ, (x i : EReal) = (r : EReal) := by
  pointwise []
  exact real_of_bit _

abbrev bitsRows [Facts] (x : FVec Ideal S32x2048x512 .bf16) : IVec S32x2048x512 1 :=
  cmpf .olt (Host.absf (extf .f32 x Facts.bitsLt_bf16_f32)) (broadcastInDim S32x2048x512 ![] Facts.bcast_S_S32x2048x512 (constant S_ .f32 0x7F800000#32))

theorem realRows [Facts] (x : FVec Ideal S32x2048x512 .bf16) (i : S32x2048x512.Idx) :
    bitsRows x i = 1#1 → ∃ r : ℝ, (x i : EReal) = (r : EReal) := by
  pointwise []
  exact real_of_bit (x i)

abbrev bitsVals [Facts] (x : FVec Ideal S32x4x8x128x256 .bf16) : IVec S32x4x8x128x256 1 :=
  cmpf .olt (Host.absf (extf .f32 x Facts.bitsLt_bf16_f32)) (broadcastInDim S32x4x8x128x256 ![] Facts.bcast_S_S32x4x8x128x256 (constant S_ .f32 0x7F800000#32))

theorem realVals [Facts] (x : FVec Ideal S32x4x8x128x256 .bf16) (i : S32x4x8x128x256.Idx) :
    bitsVals x i = 1#1 → ∃ r : ℝ, (x i : EReal) = (r : EReal) := by
  pointwise []
  exact real_of_bit (x i)

/-- The one entry of the precondition. -/
theorem fn_eq [Facts] (A0 A1 : FVec Ideal S32x2048x512 .bf16) (A2 : FVec Ideal S32x4x8x128x256 .bf16) (A3 A4 A5 A6 : FVec Ideal S1x64 .f32)
    (A7 : FVec Ideal S1x128 .f32) (j : S_.Idx) :
    fn (F := Ideal) A0 A1 A2 A3 A4 A5 A6 A7 j
      = IntOp.andi (IntOp.andi (IntOp.andi (IntOp.andi (IntOp.andi (IntOp.andi
          (Host.reduce IntOp.andi (bitsRows A0) (constantI S_ 1 1#1) Facts.reducesTo_S32x2048x512_S_d0_1_2 Facts.h_S_ j)
          (Host.reduce IntOp.andi (bitsRows A1) (constantI S_ 1 1#1) Facts.reducesTo_S32x2048x512_S_d0_1_2 Facts.h_S_ j))
          (Host.reduce IntOp.andi (bitsVals A2) (constantI S_ 1 1#1) Facts.reducesTo_S32x4x8x128x256_S_d0_1_2_3_4 Facts.h_S_ j))
          (Host.reduce IntOp.andi (bits64 A3) (constantI S_ 1 1#1) Facts.reducesTo_S1x64_S_d0_1 Facts.h_S_ j))
          (Host.reduce IntOp.andi (bits64 A4) (constantI S_ 1 1#1) Facts.reducesTo_S1x64_S_d0_1 Facts.h_S_ j))
          (Host.reduce IntOp.andi (bits64 A5) (constantI S_ 1 1#1) Facts.reducesTo_S1x64_S_d0_1 Facts.h_S_ j))
          (Host.reduce IntOp.andi (bits64 A6) (constantI S_ 1 1#1) Facts.reducesTo_S1x64_S_d0_1 Facts.h_S_ j) := rfl

/-- Where the precondition holds, queries, keys, values and the lambda's vectors hold real numbers. -/
theorem reals [Facts] (A0 A1 : FVec Ideal S32x2048x512 .bf16) (A2 : FVec Ideal S32x4x8x128x256 .bf16) (A3 A4 A5 A6 : FVec Ideal S1x64 .f32)
    (A7 : FVec Ideal S1x128 .f32) (h : fn (F := Ideal) A0 A1 A2 A3 A4 A5 A6 A7 = fun _ => 1#1) :
    (∀ i, ∃ r : ℝ, (A0 i : EReal) = (r : EReal)) ∧ (∀ i, ∃ r : ℝ, (A1 i : EReal) = (r : EReal))
      ∧ (∀ i, ∃ r : ℝ, (A2 i : EReal) = (r : EReal)) ∧ (∀ i, ∃ r : ℝ, (A3 i : EReal) = (r : EReal))
      ∧ (∀ i, ∃ r : ℝ, (A4 i : EReal) = (r : EReal)) ∧ (∀ i, ∃ r : ℝ, (A5 i : EReal) = (r : EReal))
      ∧ (∀ i, ∃ r : ℝ, (A6 i : EReal) = (r : EReal)) := by
  have e := congrFun h Idealize.ShloMosaic.ix0
  rw [fn_eq] at e
  simp only [and_one] at e
  obtain ⟨⟨⟨⟨⟨⟨h0, h1⟩, h2⟩, h3⟩, h4⟩, h5⟩, h6⟩ := e
  exact ⟨fun i => realRows A0 i (all_of_reduce _ _ _ _ _ h0 i), fun i => realRows A1 i (all_of_reduce _ _ _ _ _ h1 i),
    fun i => realVals A2 i (all_of_reduce _ _ _ _ _ h2 i), fun i => real64 A3 i (all_of_reduce _ _ _ _ _ h3 i),
    fun i => real64 A4 i (all_of_reduce _ _ _ _ _ h4 i), fun i => real64 A5 i (all_of_reduce _ _ _ _ _ h5 i),
    fun i => real64 A6 i (all_of_reduce _ _ _ _ _ h6 i)⟩

end Cert.Finite

end
-- ==== Proof.Agree.lean ====
module

public import proofs.«01_k».proof.Proof.Equal
public import proofs.«01_k».proof.Proof.Finite

@[expose] public section

set_option maxRecDepth 16384
set_option synthInstance.maxSize 4096

/-! The kernel's result at an entry, and its equality with the reference's. -/

noncomputable section

namespace Cert.Equal

open Idealize.ShloMosaic Idealize.ShloMosaic.TcCoe Idealize.SL Idealize.SL.Sem
open Cert.KernelIdeal Cert.KernelIdeal.Gen
open Cert.KernelIdeal.Column Cert.KernelIdeal.Body
open Cert.ReferenceIdeal.Row
open Idealize.ShloMosaic.Pointwise

variable (m : (ℓ : Loc nD τ sig) → Buf (Elt Ideal) ℓ)

section Kernel

variable (c : Dev nD) (A0 A1 : FVec Ideal S32x2048x512 .bf16) (A2 : FVec Ideal S32x4x8x128x256 .bf16)
  (A3 A4 A5 A6 : FVec Ideal S1x64 .f32) (A7 : FVec Ideal S1x128 .f32)
  (e0 : m ((c : Thread nD τ).loc main_arg0) = A0) (e1 : m ((c : Thread nD τ).loc main_arg1) = A1)
  (e2 : m ((c : Thread nD τ).loc main_arg2) = A2) (e3 : m ((c : Thread nD τ).loc main_arg3) = A3)
  (e4 : m ((c : Thread nD τ).loc main_arg4) = A4) (e5 : m ((c : Thread nD τ).loc main_arg5) = A5)
  (e6 : m ((c : Thread nD τ).loc main_arg6) = A6) (e7 : m ((c : Thread nD τ).loc main_arg7) = A7)
  (q k : Fin 32 → Fin 2048 → Fin 512 → ℝ) (v : Fin 32 → Fin 4 → Fin 128 → Fin 2048 → ℝ) (l : ℝ)
  (hq : ∀ b t e, (A0 (ix3 b t e) : EReal) = (q b t e : EReal)) (hk : ∀ b t e, (A1 (ix3 b t e) : EReal) = (k b t e : EReal))
  (hv : ∀ b h d (n : Fin 2048), (A2 (ix5 b h (tileOf n) d (inTile n)) : EReal) = (v b h d n : EReal))
  (hl : lamOf (fun e => A3 (ix2 (0 : Fin 1) e)) (fun e => A4 (ix2 (0 : Fin 1) e)) (fun e => A5 (ix2 (0 : Fin 1) e))
    (fun e => A6 (ix2 (0 : Fin 1) e)) = (l : EReal))

theorem headOf_lane (h : Fin 4) (d : Fin 128) : headOf (lane h d) = h := by
  apply Fin.ext
  show (128 * h.val + d.val) / 128 = h.val
  omega

theorem laneOf_lane (h : Fin 4) (d : Fin 128) : laneOf (lane h d) = d := by
  apply Fin.ext
  show (128 * h.val + d.val) % 128 = d.val
  omega

theorem lane_split (x : Fin 512) : lane (headOf x) (laneOf x) = x := by
  apply Fin.ext
  show 128 * (x.val / 128) + x.val % 128 = x.val
  omega

include e0 e1 e2 e3 e4 e5 e6 e7 hq hk hv hl in
theorem kernel_value (b : Fin 32) (t : Fin 2048) (h : Fin 4) (d : Fin 128) :
    ((result m c : Vec Ideal S32x2048x512 .f32) (ix3 b t (lane h d)) : EReal) = value q k v l (fun d => A7 (ix2 (0 : Fin 1) d)) b t h d := by
  have ht := t.isLt
  have hb := b.isLt
  have hp : 8 * b.val + t.val / 256 < cfg0.N := lt_of_lt_of_eq (by omega : _ < 256) N_0.symm
  let p : Fin cfg0.N := ⟨8 * b.val + t.val / 256, hp⟩
  let r : Fin 256 := ⟨t.val % 256, by omega⟩
  have hbp : bOf p = b := Fin.ext (show (8 * b.val + t.val / 256) / 8 = b.val by omega)
  have hn : (nOf p).val = t.val / 256 := show (8 * b.val + t.val / 256) % 8 = t.val / 256 by omega
  have hrow : rowOf (nOf p) r = t := Fin.ext (show 256 * (nOf p).val + t.val % 256 = t.val by omega)
  refine (result_at m c p (ix3 b t (lane h d)) r (lane h d) ?_ ?_ rfl).trans ?_
  · show b.val = (8 * b.val + t.val / 256) / 8
    omega
  · show t.val = (8 * b.val + t.val / 256) % 8 * 256 + t.val % 256
    omega
  rw [outsAt_eq]
  have hc : ((grid0.coords p) 1).val = t.val / 256 := (co1 p).trans hn
  rw [hc]
  show (headOut (iblk m c 0 p) (iblk m c 1 p) (iblk m c 2 p) (k0_pay118 (iblk m c 3 p) (iblk m c 4 p) (iblk m c 5 p) (iblk m c 6 p))
    (iblk m c 7 p) (headOf (lane h d)) (t.val / 256) (ix3 (0 : Fin 1) r (laneOf (lane h d))) : EReal) = _
  rw [headOf_lane, laneOf_lane, iblk3, iblk4, iblk5, iblk6, e3, e4, e5, e6]
  refine (head_apply (iblk m c 0 p) (iblk m c 1 p) (iblk m c 2 p) h
    (fun r e => q b (rowOf (nOf p) r) (lane h e))
    (fun n e => k b (wrap n) (lane h e))
    (fun x n => v b h x (wrap n)) ?_ ?_ ?_
    (k0_pay118 A3 A4 A5 A6) (iblk m c 7 p) l ?_ (t.val / 256) (by omega) r d).trans ?_
  · intro r e
    refine (iblk0 m c p r (lane h e)).trans ?_
    rw [e0, hbp, hq]
  · intro n r e
    refine (iblk1 m c p n r (lane h e)).trans ?_
    rw [e1, hbp, hk]
    have : rowOf n r = (wrap (256 * n.val + r.val)) :=
      Fin.ext (show 256 * n.val + r.val = (256 * n.val + r.val) % 2048 by omega)
    rw [this]
  · intro n x r
    refine (iblk2 m c p h n x r).trans ?_
    rw [e2, hbp]
    have e := hv b h x (wrap (256 * n.val + r.val))
    have i1 : tileOf (wrap (256 * n.val + r.val)) = n := Fin.ext (show (256 * n.val + r.val) % 2048 / 256 = n.val by omega)
    have i2 : inTile (wrap (256 * n.val + r.val)) = r := Fin.ext (show (256 * n.val + r.val) % 2048 % 256 = r.val by omega)
    rw [← e]
    exact congrArg₂ (fun a s => A2 (ix5 b h a x s)) i1.symm i2.symm
  · exact (pay118_apply A3 A4 A5 A6).trans hl
  · rw [iblk7, e7, hrow]
    have hrt : 256 * (t.val / 256) + r.val = t.val := show 256 * (t.val / 256) + t.val % 256 = t.val by omega
    rw [hrt]
    rfl

end Kernel

/-- From the same arguments, real but for the gains, the two results are one. -/
theorem agree [Cert.Pre_finite.Facts] (m' : (ℓ : Loc Cert.ReferenceIdeal.nD Cert.ReferenceIdeal.τ Cert.ReferenceIdeal.sig) → Buf (Elt Ideal) ℓ) (c : Dev nD)
    (A0 A1 : FVec Ideal S32x2048x512 .bf16) (A2 : FVec Ideal S32x4x8x128x256 .bf16)
    (A3 A4 A5 A6 : FVec Ideal S1x64 .f32) (A7 : FVec Ideal S1x128 .f32)
    (e0 : m ((c : Thread nD τ).loc main_arg0) = A0) (e1 : m ((c : Thread nD τ).loc main_arg1) = A1)
    (e2 : m ((c : Thread nD τ).loc main_arg2) = A2) (e3 : m ((c : Thread nD τ).loc main_arg3) = A3)
    (e4 : m ((c : Thread nD τ).loc main_arg4) = A4) (e5 : m ((c : Thread nD τ).loc main_arg5) = A5)
    (e6 : m ((c : Thread nD τ).loc main_arg6) = A6) (e7 : m ((c : Thread nD τ).loc main_arg7) = A7)
    (hpre : Cert.Pre_finite.fn (F := Ideal) A0 A1 A2 A3 A4 A5 A6 A7 = fun _ => 1#1) :
    (result m c : Vec Ideal S32x2048x512 .f32)
      = tailT (outT A2 (diffT (softT (expT (scoreT (dotT A0 A1)))) (lamT A3 A4 A5 A6))) A7 := by
  obtain ⟨h0, h1, h2, h3, h4, h5, h6⟩ := Cert.Finite.reals A0 A1 A2 A3 A4 A5 A6 A7 hpre
  choose q hq using h0
  choose k hk using h1
  choose v hv using h2
  choose x3 hx3 using h3
  choose x4 hx4 using h4
  choose x5 hx5 using h5
  choose x6 hx6 using h6
  obtain ⟨l, hl⟩ := lamOf_real (x3 := fun e => x3 (ix2 (0 : Fin 1) e)) (x4 := fun e => x4 (ix2 (0 : Fin 1) e))
    (x5 := fun e => x5 (ix2 (0 : Fin 1) e)) (x6 := fun e => x6 (ix2 (0 : Fin 1) e))
  have hl' : lamOf (fun e => A3 (ix2 (0 : Fin 1) e)) (fun e => A4 (ix2 (0 : Fin 1) e)) (fun e => A5 (ix2 (0 : Fin 1) e))
      (fun e => A6 (ix2 (0 : Fin 1) e)) = (l : EReal) := by
    rw [← hl]
    simp only [hx3, hx4, hx5, hx6]
  funext j
  idx_vars j
  have hx := lane_split j2
  generalize headOf j2 = h at hx
  generalize laneOf j2 = d at hx
  subst hx
  exact (kernel_value m c A0 A1 A2 A3 A4 A5 A6 A7 e0 e1 e2 e3 e4 e5 e6 e7 (fun b t e => q (ix3 b t e)) (fun b t e => k (ix3 b t e))
    (fun b h d n => v (ix5 b h (tileOf n) d (inTile n))) l
    (fun b t e => hq _) (fun b t e => hk _) (fun b h d n => hv _) hl' j0 j1 h d).trans
    (ref_value A0 A1 A2 A3 A4 A5 A6 A7 (fun b t e => q (ix3 b t e)) (fun b t e => k (ix3 b t e))
    (fun b h d n => v (ix5 b h (tileOf n) d (inTile n))) l
    (fun b t e => hq _) (fun b t e => hk _) (fun b h d n => hv _) hl' j0 j1 h d).symm

end Cert.Equal

end
-- ==== Proof.Block2.lean ====
module

public import proofs.«01_k».proof.Proof.Frame2Ideal
public import Idealize.ShloMosaic.Lib.Pointwise
public import Idealize.ShloMosaic.Lib.KernelVsHost
public import Idealize.ShloMosaic.Lib.Pipeline.ValueKit

@[expose] public section

set_option maxRecDepth 16384
set_option synthInstance.maxSize 4096

/-! The input projection's body: the vectors of one 128-lane block, and each output buffer over them. -/

noncomputable section

namespace Cert.Kernel2Ideal.Block

open Idealize.ShloMosaic Idealize.ShloMosaic.TcCoe Idealize.SL Idealize.SL.Sem
open Cert.Kernel2Ideal Cert.Kernel2Ideal.Gen
open Idealize.ShloMosaic.Pointwise

section Vectors

variable {F : FTy → Type} [FloatOps F]

/-- A block of 128 columns of the projection. -/
def projT (h : FVec F S512x1024 .bf16) (w : Vec F S1024x128 .bf16) : FVec F S512x128 .f32 :=
  matmul dot_S512x1024_S1024x128_S512x128_1_0_0_1_n_n none h (shapeCast S1024x128 w shapeCasts_S1024x128_S1024x128)
    (constant S512x128 .f32 0x00000000#32)

/-- A block of 512 columns of the projection. -/
def proj5T (h : FVec F S512x1024 .bf16) (w : Vec F S1024x512 .bf16) : FVec F S512x512 .f32 :=
  matmul dot_S512x1024_S1024x512_S512x512_1_0_0_1_n_n none h (shapeCast S1024x512 w shapeCasts_S1024x512_S1024x512)
    (constant S512x512 .f32 0x00000000#32)

/-- The mean square of a head's lanes, by the group matrix. -/
def msT (y : FVec F S512x128 .f32) (gm : Vec F S128x128 .bf16) : FVec F S512x128 .f32 :=
  addf (matmul dot_S512x128_S128x128_S512x128_1_0_0_1_n_n none (truncf .bf16 (mulf y y) bitsLt_bf16_f32) gm (constant S512x128 .f32 0x00000000#32))
    (matmul dot_S512x128_S128x128_S512x128_1_0_0_1_n_n none
      (truncf .bf16 (subf (mulf y y) (extf .f32 (truncf .bf16 (mulf y y) bitsLt_bf16_f32) bitsLt_bf16_f32)) bitsLt_bf16_f32) gm
      (constant S512x128 .f32 0x00000000#32))

/-- A head's lanes scaled by their root mean square and the gain. -/
def normT (y : FVec F S512x128 .f32) (gm : Vec F S128x128 .bf16) (g : Vec F S1x128 .f32) : FVec F S512x128 .f32 :=
  mulf (mulf y (rsqrt (addf (msT y gm) (broadcast S512x128 (Scalar.ofBits .f32 0x358637BD#32)))))
    (broadcastTo S512x128 (shapeCast S1x128 g shapeCasts_S1x128_S1x128) broadcasts_S1x128_S512x128)

/-- A block's lanes rotated by their positions. -/
def ropeT (y cs sn : FVec F S512x128 .f32) (first : IVec S512x128 1) : FVec F S512x128 .f32 :=
  addf (mulf y cs) (mulf (select first (dynamicRotate 1 96#32 none y rotates_S512x128_d1) (dynamicRotate 1 32#32 none y rotates_S512x128_d1)) sn)

/-- The scale of the queries. -/
def scaleT (y : FVec F S512x128 .f32) : FVec F S512x128 .f32 :=
  mulf y (broadcast S512x128 (Scalar.ofBits .f32 0x3E000000#32))

/-- A block as it is stored. -/
def storeT (y : FVec F S512x128 .f32) : FVec F S1x512x128 .bf16 :=
  shapeCast S1x512x128 (truncf .bf16 y bitsLt_bf16_f32) shapeCasts_S512x128_S1x512x128

/-- A block of the gates as it is stored. -/
def gateT (y : FVec F S512x512 .f32) : FVec F S1x512x512 .bf16 :=
  shapeCast S1x512x512 (truncf .bf16 (logistic y) bitsLt_bf16_f32) shapeCasts_S512x512_S1x512x512

variable (x0 : Vec F S1x512x1024 .f32) (x1 : Vec F S1x1x1024 .f32) (x2 : Vec F S1x1x1024 .f32) (x3 : Vec F S1x1024 .f32)
  (x4 : Vec F S1x512x1 .i32) (x5 : Vec F S1x128 .f32) (x6 : Vec F S1x128 .f32) (x7 x8 x9 : Vec F S1x512 .f32) (x10 : Vec F S1x128 .f32)
  (x11 : Vec F S128x128 .bf16) (x12 : Vec F S1024x5120 .bf16)

/-- The rows that the projection takes. -/
abbrev hidT : FVec F S512x1024 .bf16 := k0_pay67 x0 x1 x2 x3 x4 x5 x6 x7 x8 x9 x10 x11 x12
abbrev cosT : FVec F S512x128 .f32 := k0_pay68 x0 x1 x2 x3 x4 x5 x6 x7 x8 x9 x10 x11 x12
abbrev sinT : FVec F S512x128 .f32 := k0_pay69 x0 x1 x2 x3 x4 x5 x6 x7 x8 x9 x10 x11 x12
abbrev firstT : IVec S512x128 1 := k0_pay70 x0 x1 x2 x3 x4 x5 x6 x7 x8 x9 x10 x11 x12

/-- A block with the norm, rotated. -/
abbrev gainT (w : Vec F S1024x128 .bf16) (g : Vec F S1x128 .f32) : FVec F S512x128 .f32 :=
  ropeT (normT (projT (hidT x0 x1 x2 x3 x4 x5 x6 x7 x8 x9 x10 x11 x12) w) (View.ld x11 r0_5) g)
    (cosT x0 x1 x2 x3 x4 x5 x6 x7 x8 x9 x10 x11 x12) (sinT x0 x1 x2 x3 x4 x5 x6 x7 x8 x9 x10 x11 x12)
    (firstT x0 x1 x2 x3 x4 x5 x6 x7 x8 x9 x10 x11 x12)

/-- A block without a norm, rotated. -/
abbrev bareT (w : Vec F S1024x128 .bf16) : FVec F S512x128 .f32 :=
  ropeT (projT (hidT x0 x1 x2 x3 x4 x5 x6 x7 x8 x9 x10 x11 x12) w)
    (cosT x0 x1 x2 x3 x4 x5 x6 x7 x8 x9 x10 x11 x12) (sinT x0 x1 x2 x3 x4 x5 x6 x7 x8 x9 x10 x11 x12)
    (firstT x0 x1 x2 x3 x4 x5 x6 x7 x8 x9 x10 x11 x12)

theorem out13_eq : out0_13 x0 x1 x2 x3 x4 x5 x6 x7 x8 x9 x10 x11 x12 = View.canon
    [⟨r0_17, storeT (scaleT (gainT x0 x1 x2 x3 x4 x5 x6 x7 x8 x9 x10 x11 x12 (View.ld x12 r0_15) (View.ld x7 r0_16)))⟩,
     ⟨r0_14, storeT (scaleT (gainT x0 x1 x2 x3 x4 x5 x6 x7 x8 x9 x10 x11 x12 (View.ld x12 r0_12) (View.ld x7 r0_13)))⟩,
     ⟨r0_11, storeT (scaleT (gainT x0 x1 x2 x3 x4 x5 x6 x7 x8 x9 x10 x11 x12 (View.ld x12 r0_9) (View.ld x7 r0_10)))⟩,
     ⟨r0_8, storeT (scaleT (gainT x0 x1 x2 x3 x4 x5 x6 x7 x8 x9 x10 x11 x12 (View.ld x12 r0_6) (View.ld x7 r0_7)))⟩] := rfl

theorem out14_eq : out0_14 x0 x1 x2 x3 x4 x5 x6 x7 x8 x9 x10 x11 x12 = View.canon
    [⟨r0_17, storeT (gainT x0 x1 x2 x3 x4 x5 x6 x7 x8 x9 x10 x11 x12 (View.ld x12 r0_21) (View.ld x8 r0_16))⟩,
     ⟨r0_14, storeT (gainT x0 x1 x2 x3 x4 x5 x6 x7 x8 x9 x10 x11 x12 (View.ld x12 r0_20) (View.ld x8 r0_13))⟩,
     ⟨r0_11, storeT (gainT x0 x1 x2 x3 x4 x5 x6 x7 x8 x9 x10 x11 x12 (View.ld x12 r0_19) (View.ld x8 r0_10))⟩,
     ⟨r0_8, storeT (gainT x0 x1 x2 x3 x4 x5 x6 x7 x8 x9 x10 x11 x12 (View.ld x12 r0_18) (View.ld x8 r0_7))⟩] := rfl

theorem out16_eq : out0_16 x0 x1 x2 x3 x4 x5 x6 x7 x8 x9 x10 x11 x12 = View.canon
    [⟨r0_17, storeT (scaleT (gainT x0 x1 x2 x3 x4 x5 x6 x7 x8 x9 x10 x11 x12 (View.ld x12 r0_37) (View.ld x9 r0_16)))⟩,
     ⟨r0_14, storeT (scaleT (gainT x0 x1 x2 x3 x4 x5 x6 x7 x8 x9 x10 x11 x12 (View.ld x12 r0_36) (View.ld x9 r0_13)))⟩,
     ⟨r0_11, storeT (scaleT (gainT x0 x1 x2 x3 x4 x5 x6 x7 x8 x9 x10 x11 x12 (View.ld x12 r0_35) (View.ld x9 r0_10)))⟩,
     ⟨r0_8, storeT (scaleT (gainT x0 x1 x2 x3 x4 x5 x6 x7 x8 x9 x10 x11 x12 (View.ld x12 r0_34) (View.ld x9 r0_7)))⟩] := rfl

theorem out17_eq : out0_17 x0 x1 x2 x3 x4 x5 x6 x7 x8 x9 x10 x11 x12 = View.canon
    [⟨r0_17, storeT (bareT x0 x1 x2 x3 x4 x5 x6 x7 x8 x9 x10 x11 x12 (View.ld x12 r0_41))⟩,
     ⟨r0_14, storeT (bareT x0 x1 x2 x3 x4 x5 x6 x7 x8 x9 x10 x11 x12 (View.ld x12 r0_40))⟩,
     ⟨r0_11, storeT (bareT x0 x1 x2 x3 x4 x5 x6 x7 x8 x9 x10 x11 x12 (View.ld x12 r0_39))⟩,
     ⟨r0_8, storeT (bareT x0 x1 x2 x3 x4 x5 x6 x7 x8 x9 x10 x11 x12 (View.ld x12 r0_38))⟩] := rfl

theorem out18_eq : out0_18 x0 x1 x2 x3 x4 x5 x6 x7 x8 x9 x10 x11 x12 = View.canon
    [⟨r0_43, storeT (gainT x0 x1 x2 x3 x4 x5 x6 x7 x8 x9 x10 x11 x12 (View.ld x12 r0_42) (View.ld x10 r0_4))⟩] := rfl

theorem out19_eq : out0_19 x0 x1 x2 x3 x4 x5 x6 x7 x8 x9 x10 x11 x12 = View.canon
    [⟨r0_43, storeT (bareT x0 x1 x2 x3 x4 x5 x6 x7 x8 x9 x10 x11 x12 (View.ld x12 r0_44))⟩] := rfl

theorem out21_eq : out0_21 x0 x1 x2 x3 x4 x5 x6 x7 x8 x9 x10 x11 x12 = View.canon
    [⟨r0_43, shapeCast S1x512x128 (projT (hidT x0 x1 x2 x3 x4 x5 x6 x7 x8 x9 x10 x11 x12) (View.ld x12 r0_45)) shapeCasts_S512x128_S1x512x128⟩] := rfl

theorem out22_eq : out0_22 x0 x1 x2 x3 x4 x5 x6 x7 x8 x9 x10 x11 x12 = View.canon
    [⟨r0_53, gateT (proj5T (hidT x0 x1 x2 x3 x4 x5 x6 x7 x8 x9 x10 x11 x12) (View.ld x12 r0_52))⟩,
     ⟨r0_51, gateT (proj5T (hidT x0 x1 x2 x3 x4 x5 x6 x7 x8 x9 x10 x11 x12) (View.ld x12 r0_50))⟩,
     ⟨r0_49, gateT (proj5T (hidT x0 x1 x2 x3 x4 x5 x6 x7 x8 x9 x10 x11 x12) (View.ld x12 r0_48))⟩,
     ⟨r0_47, gateT (proj5T (hidT x0 x1 x2 x3 x4 x5 x6 x7 x8 x9 x10 x11 x12) (View.ld x12 r0_46))⟩] := rfl

end Vectors

/-! ## At an index -/

theorem projT_apply (h : FVec Ideal S512x1024 .bf16) (w : Vec Ideal S1024x128 .bf16) (r : Fin 512) (l : Fin 128) :
    (projT h w (ix2 r l) : EReal) = ∑ k : Fin 1024, (h (ix2 r k) : EReal) * (w (ix2 k l) : EReal) := by
  pointwise [projT]

theorem proj5T_apply (h : FVec Ideal S512x1024 .bf16) (w : Vec Ideal S1024x512 .bf16) (r : Fin 512) (l : Fin 512) :
    (proj5T h w (ix2 r l) : EReal) = ∑ k : Fin 1024, (h (ix2 r k) : EReal) * (w (ix2 k l) : EReal) := by
  pointwise [proj5T]

theorem msT_apply (y : FVec Ideal S512x128 .f32) (gm : Vec Ideal S128x128 .bf16) (r : Fin 512) (l : Fin 128) :
    (msT y gm (ix2 r l) : EReal) = (∑ j : Fin 128, ((y (ix2 r j) : EReal) * (y (ix2 r j) : EReal)) * (gm (ix2 j l) : EReal))
      + ∑ j : Fin 128, ((y (ix2 r j) : EReal) * (y (ix2 r j) : EReal) - (y (ix2 r j) : EReal) * (y (ix2 r j) : EReal)) * (gm (ix2 j l) : EReal) := by
  pointwise [msT]

theorem normT_apply (y : FVec Ideal S512x128 .f32) (gm : Vec Ideal S128x128 .bf16) (g : Vec Ideal S1x128 .f32) (r : Fin 512) (l : Fin 128) :
    (normT y gm g (ix2 r l) : EReal) = (y (ix2 r l) : EReal) * Ideal.rsqrt ((msT y gm (ix2 r l) : EReal) + Ideal.ofBits FTy.f32 0x358637BD#32)
      * (g (ix2 (0 : Fin 1) l) : EReal) := by
  pointwise [normT]

/-- The lane whose entry the rotation by 96 brings, and that of the rotation by 32. -/
def fwd (l : Fin 128) : Fin 128 := ⟨(l.val + 32) % 128, Nat.mod_lt _ (by decide)⟩
def bwd (l : Fin 128) : Fin 128 := ⟨(l.val + 96) % 128, Nat.mod_lt _ (by decide)⟩

theorem ropeT_apply (y cs sn : FVec Ideal S512x128 .f32) (first : IVec S512x128 1) (r : Fin 512) (l : Fin 128) :
    (ropeT y cs sn first (ix2 r l) : EReal) = (y (ix2 r l) : EReal) * (cs (ix2 r l) : EReal)
      + (Scalar.select (first (ix2 r l)) (y (ix2 r (fwd l)) : EReal) (y (ix2 r (bwd l)) : EReal)) * (sn (ix2 r l) : EReal) := by
  have e1 : dynamicRotate 1 96#32 none y rotates_S512x128_d1 (ix2 r l) = y (ix2 r (fwd l)) :=
    Idealize.ShloMosaic.dynamicRotate_apply 1 96#32 y _ _ _ fun b => by
      match b with
      | ⟨0, _⟩ => rfl
      | ⟨1, _⟩ =>
        show (l.val + 32) % 128 = (l.val + 128 - 96 % 128) % 128
        omega
  have e2 : dynamicRotate 1 32#32 none y rotates_S512x128_d1 (ix2 r l) = y (ix2 r (bwd l)) :=
    Idealize.ShloMosaic.dynamicRotate_apply 1 32#32 y _ _ _ fun b => by
      match b with
      | ⟨0, _⟩ => rfl
      | ⟨1, _⟩ =>
        show (l.val + 96) % 128 = (l.val + 128 - 32 % 128) % 128
        omega
  show (y (ix2 r l) : EReal) * (cs (ix2 r l) : EReal)
      + (Scalar.select (first (ix2 r l)) (dynamicRotate 1 96#32 none y rotates_S512x128_d1 (ix2 r l) : EReal)
        (dynamicRotate 1 32#32 none y rotates_S512x128_d1 (ix2 r l) : EReal)) * (sn (ix2 r l) : EReal) = _
  rw [e1, e2]

theorem scaleT_apply (y : FVec Ideal S512x128 .f32) (r : Fin 512) (l : Fin 128) :
    (scaleT y (ix2 r l) : EReal) = (y (ix2 r l) : EReal) * Ideal.ofBits FTy.f32 0x3E000000#32 := by
  pointwise [scaleT]

theorem storeT_apply (y : FVec Ideal S512x128 .f32) (r : Fin 512) (l : Fin 128) :
    (storeT y (ix3 (0 : Fin 1) r l) : EReal) = (y (ix2 r l) : EReal) := by
  pointwise [storeT]

theorem gateT_apply (y : FVec Ideal S512x512 .f32) (r : Fin 512) (l : Fin 512) :
    (gateT y (ix3 (0 : Fin 1) r l) : EReal) = Ideal.logistic (y (ix2 r l) : EReal) := by
  pointwise [gateT]

theorem hid_apply (x0 : Vec Ideal S1x512x1024 .f32) (x1 : Vec Ideal S1x1x1024 .f32) (x2 : Vec Ideal S1x1x1024 .f32) (x3 : Vec Ideal S1x1024 .f32)
    (r : Fin 512) (k : Fin 1024) :
    (k0_pay3 x0 x3 x1 x2 (ix2 r k) : EReal)
      = (x0 (ix3 (0 : Fin 1) r k) : EReal) * Ideal.rsqrt (Ideal.div (∑ j : Fin 1024, (x0 (ix3 (0 : Fin 1) r j) : EReal) * (x0 (ix3 (0 : Fin 1) r j) : EReal))
          (Ideal.ofBits FTy.f32 0x44800000#32) + Ideal.ofBits FTy.f32 0x358637BD#32) * (x3 (ix2 (0 : Fin 1) k) : EReal)
        * (Ideal.ofBits FTy.f32 0x3F800000#32 + (x1 (ix3 (0 : Fin 1) (0 : Fin 1) k) : EReal)) + (x2 (ix3 (0 : Fin 1) (0 : Fin 1) k) : EReal) := by
  pointwise [k0_pay3]

theorem cos_apply (x4 : Vec Ideal S1x512x1 .i32) (x5 : Vec Ideal S1x128 .f32) (r : Fin 512) (l : Fin 128) :
    (k0_pay5 x4 x5 (ix2 r l) : EReal) = Ideal.cos ((FloatOps.sitofp (F := Ideal) .f32 (x4 (ix3 (0 : Fin 1) r (0 : Fin 1))) : EReal) * (x5 (ix2 (0 : Fin 1) l) : EReal)) := by
  pointwise [k0_pay5, k0_pay4]

theorem sin_apply (x4 : Vec Ideal S1x512x1 .i32) (x5 x6 : Vec Ideal S1x128 .f32) (r : Fin 512) (l : Fin 128) :
    (k0_pay7 (k0_pay6 x4 x5) x6 (ix2 r l) : EReal)
      = Ideal.sin ((FloatOps.sitofp (F := Ideal) .f32 (x4 (ix3 (0 : Fin 1) r (0 : Fin 1))) : EReal) * (x5 (ix2 (0 : Fin 1) l) : EReal)) * (x6 (ix2 (0 : Fin 1) l) : EReal) := by
  pointwise [k0_pay7, k0_pay6, k0_pay4]

end Cert.Kernel2Ideal.Block

end
-- ==== Proof.Proj.lean ====
module

public import Idealize.ShloMosaic.PureOps.Ideal
public import Idealize.ShloMosaic.Lib.Pointwise

@[expose] public section

/-! The input projection's rows: the modulated norm, the columns, a head's norm and its rotation. -/

noncomputable section

namespace Cert.Proj

open Idealize.ShloMosaic

abbrev eps : EReal := Ideal.ofBits FTy.f32 0x358637BD#32
abbrev c1024 : EReal := Ideal.ofBits FTy.f32 0x44800000#32
abbrev c64 : EReal := Ideal.ofBits FTy.f32 0x42800000#32
abbrev one : EReal := Ideal.ofBits FTy.f32 0x3F800000#32
abbrev eighth : EReal := Ideal.ofBits FTy.f32 0x3E000000#32

/-- The rotation's frequencies. -/
def inv (i : Fin 32) : EReal :=
  Ideal.pow (Ideal.ofBits FTy.f32 0x461C4000#32) (-(Ideal.div (Ideal.ofBits FTy.f32 0x40000000#32 * (((BitVec.ofNat 32 i.val).toInt : ℝ) : EReal)) c64))

/-- A finite sequence continued by zeros. -/
def ext {n : ℕ} (f : Fin n → EReal) (i : ℕ) : EReal := if h : i < n then f ⟨i, h⟩ else 0

theorem ext_val {n : ℕ} (f : Fin n → EReal) (i : Fin n) : ext f i.val = f i := by
  unfold ext
  rw [dif_pos i.isLt]

theorem ext_of {n : ℕ} (f : Fin n → EReal) (i : ℕ) (h : i < n) : ext f i = f ⟨i, h⟩ := dif_pos h

/-- An entry of the normed and modulated row. -/
def hrow (x g sc sh : Fin 1024 → EReal) (k : Fin 1024) : EReal :=
  x k * Ideal.rsqrt (Ideal.div (∑ j : Fin 1024, x j * x j) c1024 + eps) * g k * (one + sc k) + sh k

/-- A column's product with a row. -/
def pr (H : Fin 1024 → EReal) (W : Fin 1024 → ℕ → EReal) (n : ℕ) : EReal := ∑ k : Fin 1024, H k * W k n

/-- A head's lane over the head's root mean square, times the gain. -/
def head (y g : ℕ → EReal) (e : ℕ) : EReal :=
  y e * Ideal.rsqrt (Ideal.div (∑ j : Fin 64, y j.val * y j.val) c64 + eps) * g e

/-- A head's lane rotated against its partner. -/
def rope (cs sn y : ℕ → EReal) (e : ℕ) : EReal :=
  if e < 32 then y e * cs e - y (e + 32) * sn e else y e * cs (e - 32) + y (e - 32) * sn (e - 32)

/-- A lane of a normed and rotated part that starts at column `o`, and of one without a norm. -/
def normed (H : Fin 1024 → EReal) (W : Fin 1024 → ℕ → EReal) (cs sn g : ℕ → EReal) (o L : ℕ) : EReal :=
  rope cs sn (head (fun e => pr H W (o + (L / 64 * 64 + e))) g) (L % 64)

def bare (H : Fin 1024 → EReal) (W : Fin 1024 → ℕ → EReal) (cs sn : ℕ → EReal) (o L : ℕ) : EReal :=
  rope cs sn (fun e => pr H W (o + (L / 64 * 64 + e))) (L % 64)

theorem rope_congr (cs sn y y' : ℕ → EReal) (e : ℕ) (he : e < 64) (h : ∀ j, j < 64 → y j = y' j) : rope cs sn y e = rope cs sn y' e := by
  unfold rope
  split
  · rw [h e he, h (e + 32) (by omega)]
  · rw [h e he, h (e - 32) (by omega)]

theorem head_congr (y y' g g' : ℕ → EReal) (e : ℕ) (he : e < 64) (h : ∀ j, j < 64 → y j = y' j) (hg : g e = g' e) : head y g e = head y' g' e := by
  unfold head
  rw [h e he, hg, Finset.sum_congr rfl fun j _ => by rw [h j.val j.isLt]]

/-- The mean square as two products with the group matrix. -/
def kms (y : ℕ → EReal) (gm : ℕ → ℕ → EReal) (l : ℕ) : EReal :=
  (∑ j : Fin 128, (y j.val * y j.val) * gm j.val l) + ∑ j : Fin 128, (y j.val * y j.val - y j.val * y j.val) * gm j.val l

def knorm (y : ℕ → EReal) (gm : ℕ → ℕ → EReal) (g : ℕ → EReal) (l : ℕ) : EReal :=
  y l * Ideal.rsqrt (kms y gm l + eps) * g l

def krope (cs sn y : ℕ → EReal) (l : ℕ) : EReal :=
  y l * cs l + (if l % 64 < 32 then y ((l + 32) % 128) else y ((l + 96) % 128)) * sn l

theorem c64_eq : c64 = ((64 : ℝ) : EReal) := by
  simp [c64, Ideal.ofBits, Ideal.ieee]
  rw [← EReal.coe_mul]
  norm_num

theorem c1024_eq : c1024 = ((1024 : ℝ) : EReal) := by
  simp [c1024, Ideal.ofBits, Ideal.ieee]
  rw [← EReal.coe_mul]
  norm_num

theorem one_eq : one = ((1 : ℝ) : EReal) := by
  simp [one, Ideal.ofBits, Ideal.ieee]
  rw [← EReal.coe_mul]
  norm_num

theorem coe_sum {ι : Type} (S : Finset ι) (f : ι → ℝ) : ((∑ k ∈ S, f k : ℝ) : EReal) = ∑ k ∈ S, (f k : EReal) := by
  classical
  induction S using Finset.induction_on with
  | empty => simp
  | insert a s ha ih => rw [Finset.sum_insert ha, Finset.sum_insert ha, EReal.coe_add, ih]

/-- A sum over 128 lanes that only a group of 64 takes part in. -/
theorem sum_group (f : ℕ → ℝ) (q : ℕ) (hq : q < 2) :
    (∑ j : Fin 128, f j.val * (if j.val / 64 = q then (1 / 64 : ℝ) else 0)) = (∑ j : Fin 64, f (64 * q + j.val)) * (1 / 64) := by
  rw [Fin.sum_univ_eq_sum_range (fun j => f j * (if j / 64 = q then (1 / 64 : ℝ) else 0)) 128,
    Fin.sum_univ_eq_sum_range (fun j => f (64 * q + j)) 64, Finset.sum_mul,
    show (128 : ℕ) = 64 + 64 from rfl, Finset.sum_range_add]
  have z : ∀ a b : ℕ, a ≠ b → (∑ x ∈ Finset.range 64, f (64 * a + x) * (if (64 * a + x) / 64 = b then (1 / 64 : ℝ) else 0)) = 0 := by
    intro a b hab
    refine Finset.sum_eq_zero fun x hx => ?_
    have := Finset.mem_range.mp hx
    rw [if_neg (by omega), mul_zero]
  have o : ∀ a : ℕ, (∑ x ∈ Finset.range 64, f (64 * a + x) * (if (64 * a + x) / 64 = a then (1 / 64 : ℝ) else 0))
      = ∑ x ∈ Finset.range 64, f (64 * a + x) * (1 / 64) := by
    intro a
    refine Finset.sum_congr rfl fun x hx => ?_
    have := Finset.mem_range.mp hx
    rw [if_pos (by omega)]
  have e0 := z 0 q
  have e1 := z 1 q
  have o0 := o 0
  have o1 := o 1
  simp only [Nat.mul_zero, Nat.zero_add, Nat.mul_one] at e0 e1 o0 o1 ⊢
  rcases (by omega : q = 0 ∨ q = 1) with rfl | rfl
  · rw [e1 (by decide), o0, add_zero]
    simp only [Nat.mul_zero, Nat.zero_add]
  · rw [e0 (by decide), o1, zero_add]

theorem kms_eq (y : ℕ → EReal) (gm : ℕ → ℕ → EReal) (l : ℕ) (hl : l < 128)
    (hy : ∀ j : Fin 128, ∃ r : ℝ, y j.val = (r : EReal))
    (hgm : ∀ j : Fin 128, gm j.val l = if j.val / 64 = l / 64 then (((1 / 64 : ℝ)) : EReal) else 0) :
    kms y gm l = Ideal.div (∑ j : Fin 64, y (64 * (l / 64) + j.val) * y (64 * (l / 64) + j.val)) c64 := by
  choose r hr using hy
  let f : ℕ → ℝ := fun n => if h : n < 128 then r ⟨n, h⟩ * r ⟨n, h⟩ else 0
  have hf : ∀ n : ℕ, n < 128 → y n * y n = ((f n : ℝ) : EReal) := by
    intro n h
    have := hr ⟨n, h⟩
    simp only [f, dif_pos h]
    rw [EReal.coe_mul, ← this]
  have hg : ∀ j : Fin 128, gm j.val l = (((if j.val / 64 = l / 64 then (1 / 64 : ℝ) else 0) : ℝ) : EReal) := by
    intro j
    rw [hgm j]
    split <;> rfl
  unfold kms
  have s1 : (∑ j : Fin 128, (y j.val * y j.val) * gm j.val l)
      = ((∑ j : Fin 128, f j.val * (if j.val / 64 = l / 64 then (1 / 64 : ℝ) else 0) : ℝ) : EReal) := by
    rw [coe_sum]
    refine Finset.sum_congr rfl fun j _ => ?_
    rw [hf _ j.isLt, hg j, EReal.coe_mul]
  have s2 : (∑ j : Fin 128, (y j.val * y j.val - y j.val * y j.val) * gm j.val l) = 0 := by
    refine Finset.sum_eq_zero fun j _ => ?_
    rw [hf _ j.isLt, ← EReal.coe_sub, sub_self, EReal.coe_zero, zero_mul]
  rw [s1, s2, add_zero, sum_group f (l / 64) (by omega), c64_eq, Ideal.div_coe (by norm_num), EReal.coe_mul, coe_sum]
  refine congrArg (· * _) (Finset.sum_congr rfl fun j _ => ?_)
  rw [hf _ (by omega)]

/-- The rotated lane, from the block's 128 lanes. -/
theorem krope_eq (cs sn y cs' sn' y' : ℕ → EReal) (l : ℕ) (hl : l < 128)
    (hy : ∀ e : ℕ, e < 64 → y' e = y (64 * (l / 64) + e))
    (hc : cs l = cs' (l % 32)) (hs : sn l = sn' (l % 32) * (if l % 64 < 32 then (-1 : EReal) else 1)) :
    krope cs sn y l = rope cs' sn' y' (l % 64) := by
  unfold krope rope
  have h0 : y' (l % 64) = y l := by rw [hy _ (by omega)]; exact congrArg y (by omega)
  by_cases h : l % 64 < 32
  · rw [if_pos h, if_pos h, hc, hs, if_pos h, h0]
    have h1 : y' (l % 64 + 32) = y ((l + 32) % 128) := by rw [hy _ (by omega)]; exact congrArg y (by omega)
    have h2 : l % 64 = l % 32 := by omega
    rw [h1, h2, mul_neg_one, mul_neg, ← sub_eq_add_neg]
  · rw [if_neg h, if_neg h, hc, hs, if_neg h, h0]
    have h1 : y' (l % 64 - 32) = y ((l + 96) % 128) := by rw [hy _ (by omega)]; exact congrArg y (by omega)
    have h2 : l % 64 - 32 = l % 32 := by omega
    rw [h1, h2, mul_one]

/-- A lane of a head of a 128-lane block: the norm, then the rotation. -/
theorem block_eq (cs sn y cs' sn' g g' : ℕ → EReal) (gm : ℕ → ℕ → EReal) (l : ℕ) (hl : l < 128)
    (hy : ∀ j : Fin 128, ∃ r : ℝ, y j.val = (r : EReal))
    (hgm : ∀ i j : Fin 128, gm j.val i.val = if j.val / 64 = i.val / 64 then (((1 / 64 : ℝ)) : EReal) else 0)
    (hg : ∀ i : Fin 128, g i.val = g' (i.val % 64))
    (hc : cs l = cs' (l % 32)) (hs : sn l = sn' (l % 32) * (if l % 64 < 32 then (-1 : EReal) else 1)) :
    krope cs sn (knorm y gm g) l = rope cs' sn' (head (fun e => y (64 * (l / 64) + e)) g') (l % 64) := by
  refine krope_eq _ _ _ _ _ _ l hl (fun e he => ?_) hc hs
  unfold knorm head
  have hb : 64 * (l / 64) + e < 128 := by omega
  rw [kms_eq y gm _ hb hy (fun j => hgm ⟨_, hb⟩ j), hg ⟨_, hb⟩]
  have e1 : (64 * (l / 64) + e) / 64 = l / 64 := by omega
  have e2 : (64 * (l / 64) + e) % 64 = e := by omega
  show _ = y (64 * (l / 64) + e) * Ideal.rsqrt (Ideal.div (∑ j : Fin 64, y (64 * ((64 * (l / 64) + e) / 64) + j.val) * y (64 * ((64 * (l / 64) + e) / 64) + j.val)) c64 + eps) * g' ((64 * (l / 64) + e) % 64)
  rw [e1, e2]

/-- A product of real rows and columns is real. -/
theorem pr_real (H : Fin 1024 → EReal) (W : Fin 1024 → ℕ → EReal) (n : ℕ) (hH : ∀ k, ∃ r : ℝ, H k = (r : EReal))
    (hW : ∀ k, ∃ r : ℝ, W k n = (r : EReal)) : ∃ r : ℝ, pr H W n = (r : EReal) := by
  choose a ha using hH
  choose b hb using hW
  refine ⟨∑ k, a k * b k, ?_⟩
  unfold pr
  rw [coe_sum]
  exact Finset.sum_congr rfl fun k _ => by rw [ha, hb, EReal.coe_mul]

theorem eps_pos : ∃ r : ℝ, 0 < r ∧ eps = (r : EReal) := by
  refine ⟨8796093 * (1 / 8796093022208), by norm_num, ?_⟩
  simp [eps, Ideal.ofBits, Ideal.ieee]
  rw [← EReal.coe_mul]
  exact congrArg Real.toEReal (by norm_num)

/-- A normed and modulated entry is real where its operands are. -/
theorem hrow_real (x g sc sh : Fin 1024 → EReal) (k : Fin 1024) (hx : ∀ j, ∃ r : ℝ, x j = (r : EReal))
    (hg : ∃ r : ℝ, g k = (r : EReal)) (hsc : ∃ r : ℝ, sc k = (r : EReal)) (hsh : ∃ r : ℝ, sh k = (r : EReal)) :
    ∃ r : ℝ, hrow x g sc sh k = (r : EReal) := by
  choose a ha using hx
  obtain ⟨b, hb⟩ := hg
  obtain ⟨s, hs⟩ := hsc
  obtain ⟨d, hd⟩ := hsh
  obtain ⟨e, he, he'⟩ := eps_pos
  have h1 : (∑ j : Fin 1024, x j * x j) = ((∑ j, a j * a j : ℝ) : EReal) := by
    rw [coe_sum]
    exact Finset.sum_congr rfl fun j _ => by rw [ha, EReal.coe_mul]
  have hp : 0 < (∑ j, a j * a j) * (1 / 1024) + e :=
    add_pos_of_nonneg_of_pos (mul_nonneg (Finset.sum_nonneg fun j _ => mul_self_nonneg _) (by norm_num)) he
  refine ⟨a k * (Real.sqrt ((∑ j, a j * a j) * (1 / 1024) + e))⁻¹ * b * (1 + s) + d, ?_⟩
  unfold hrow
  rw [h1, c1024_eq, Ideal.div_coe (by norm_num), he', ← EReal.coe_mul, ← EReal.coe_add, Ideal.rsqrt_coe, if_neg (not_lt.mpr hp.le),
    if_neg hp.ne', ha, hb, hs, hd, one_eq]
  push_cast
  rfl

end Cert.Proj

end
-- ==== Proof.Out2.lean ====
module

public import proofs.«01_k».proof.Proof.Block2
public import proofs.«01_k».proof.Proof.Proj

@[expose] public section

set_option maxRecDepth 16384
set_option synthInstance.maxSize 4096

/-! What the input projection's body leaves in each output buffer, entry by entry. -/

noncomputable section

namespace Cert.Kernel2Ideal.Block

open Idealize.ShloMosaic Idealize.ShloMosaic.TcCoe Idealize.SL Idealize.SL.Sem
open Cert.Kernel2Ideal Cert.Kernel2Ideal.Gen
open Idealize.ShloMosaic.Pointwise
open Cert.Proj (ext pr krope knorm kms eps eighth)

theorem first_lane (l : Fin 128) :
    (k0_pay8 (ix2 (0 : Fin 512) l)) = if l.val % 64 < 32 then 1#1 else 0#1 := by
  revert l
  unfold k0_pay8
  decide +kernel

theorem first_apply (r : Fin 512) (l : Fin 128) : k0_pay8 (ix2 r l) = if l.val % 64 < 32 then 1#1 else 0#1 := by
  rw [← first_lane l]
  rfl

theorem select_first {α : Type} (r : Fin 512) (l : Fin 128) (a b : α) :
    Scalar.select (k0_pay8 (ix2 r l)) a b = if l.val % 64 < 32 then a else b := by
  rw [first_apply]
  split <;> rfl

/-- The group matrix as a function of two numbers. -/
def gmN (gm : Vec Ideal S128x128 .bf16) (j l : ℕ) : EReal :=
  ext (fun j : Fin 128 => ext (fun l : Fin 128 => (gm (ix2 j l) : EReal)) l) j

theorem gmN_val (gm : Vec Ideal S128x128 .bf16) (j l : Fin 128) : gmN gm j.val l.val = (gm (ix2 j l) : EReal) := by
  unfold gmN
  rw [Proj.ext_val, Proj.ext_val]

section Lanes

variable (H : FVec Ideal S512x1024 .bf16) (w : Vec Ideal S1024x128 .bf16) (gm : Vec Ideal S128x128 .bf16) (g : Vec Ideal S1x128 .f32)
  (cs sn : FVec Ideal S512x128 .f32) (r : Fin 512) (W : Fin 1024 → ℕ → EReal) (G : ℕ → EReal) (cb gb : ℕ)

theorem proj_at (hw : ∀ (k : Fin 1024) (j : Fin 128), (w (ix2 k j) : EReal) = W k (cb + j.val)) (l : Fin 128) :
    (projT H w (ix2 r l) : EReal) = pr (fun k => (H (ix2 r k) : EReal)) W (cb + l.val) := by
  rw [projT_apply]
  unfold pr
  exact Finset.sum_congr rfl fun k _ => by rw [hw]

theorem norm_at (hw : ∀ (k : Fin 1024) (j : Fin 128), (w (ix2 k j) : EReal) = W k (cb + j.val))
    (hg : ∀ j : Fin 128, (g (ix2 (0 : Fin 1) j) : EReal) = G (gb + j.val)) (l : Fin 128) :
    (normT (projT H w) gm g (ix2 r l) : EReal)
      = knorm (fun j => pr (fun k => (H (ix2 r k) : EReal)) W (cb + j)) (gmN gm) (fun j => G (gb + j)) l.val := by
  rw [normT_apply, msT_apply, proj_at H w r W cb hw, hg]
  unfold knorm kms
  have e1 : ∀ j : Fin 128, (projT H w (ix2 r j) : EReal) = pr (fun k => (H (ix2 r k) : EReal)) W (cb + j.val) :=
    proj_at H w r W cb hw
  have s1 : (∑ j : Fin 128, ((projT H w (ix2 r j) : EReal) * (projT H w (ix2 r j) : EReal)) * (gm (ix2 j l) : EReal))
      = ∑ j : Fin 128, (pr (fun k => (H (ix2 r k) : EReal)) W (cb + j.val) * pr (fun k => (H (ix2 r k) : EReal)) W (cb + j.val)) * gmN gm j.val l.val :=
    Finset.sum_congr rfl fun j _ => by rw [e1 j, gmN_val]
  have s2 : (∑ j : Fin 128, ((projT H w (ix2 r j) : EReal) * (projT H w (ix2 r j) : EReal) - (projT H w (ix2 r j) : EReal) * (projT H w (ix2 r j) : EReal)) * (gm (ix2 j l) : EReal))
      = ∑ j : Fin 128, (pr (fun k => (H (ix2 r k) : EReal)) W (cb + j.val) * pr (fun k => (H (ix2 r k) : EReal)) W (cb + j.val)
        - pr (fun k => (H (ix2 r k) : EReal)) W (cb + j.val) * pr (fun k => (H (ix2 r k) : EReal)) W (cb + j.val)) * gmN gm j.val l.val :=
    Finset.sum_congr rfl fun j _ => by rw [e1 j, gmN_val]
  rw [s1, s2]

/-- A rotated block's lane, where the block's lanes are a sequence. -/
theorem rope_at (y : FVec Ideal S512x128 .f32) (Y : ℕ → EReal) (hY : ∀ l : Fin 128, (y (ix2 r l) : EReal) = Y l.val) (l : Fin 128) :
    (ropeT y cs sn k0_pay8 (ix2 r l) : EReal)
      = krope (ext fun l : Fin 128 => (cs (ix2 r l) : EReal)) (ext fun l : Fin 128 => (sn (ix2 r l) : EReal)) Y l.val := by
  rw [ropeT_apply, select_first, hY, hY, hY]
  unfold krope
  rw [Proj.ext_val, Proj.ext_val]
  rfl

end Lanes

section Outs

variable (x0 : Vec Ideal S1x512x1024 .f32) (x1 : Vec Ideal S1x1x1024 .f32) (x2 : Vec Ideal S1x1x1024 .f32) (x3 : Vec Ideal S1x1024 .f32)
  (x4 : Vec Ideal S1x512x1 .i32) (x5 : Vec Ideal S1x128 .f32) (x6 : Vec Ideal S1x128 .f32) (x7 x8 x9 : Vec Ideal S1x512 .f32) (x10 : Vec Ideal S1x128 .f32)
  (x11 : Vec Ideal S128x128 .bf16) (x12 : Vec Ideal S1024x5120 .bf16) (r : Fin 512)

/-- The row's entries, the columns, the rotation's factors and the gains, as sequences. -/
abbrev Hb : Fin 1024 → EReal := fun k => (hidT x0 x1 x2 x3 x4 x5 x6 x7 x8 x9 x10 x11 x12 (ix2 r k) : EReal)
abbrev Wb : Fin 1024 → ℕ → EReal := fun k => ext fun n : Fin 5120 => (x12 (ix2 k n) : EReal)
abbrev Cb : ℕ → EReal := ext fun l : Fin 128 => (cosT x0 x1 x2 x3 x4 x5 x6 x7 x8 x9 x10 x11 x12 (ix2 r l) : EReal)
abbrev Sb : ℕ → EReal := ext fun l : Fin 128 => (sinT x0 x1 x2 x3 x4 x5 x6 x7 x8 x9 x10 x11 x12 (ix2 r l) : EReal)
abbrev Gb (x : Vec Ideal S1x512 .f32) : ℕ → EReal := ext fun l : Fin 512 => (x (ix2 (0 : Fin 1) l) : EReal)
abbrev Gs (x : Vec Ideal S1x128 .f32) : ℕ → EReal := ext fun l : Fin 128 => (x (ix2 (0 : Fin 1) l) : EReal)

/-- A lane of a normed and rotated 512-lane part that starts at column `o`. -/
def gainE (x : Vec Ideal S1x512 .f32) (o L : ℕ) : EReal :=
  krope (Cb x0 x1 x2 x3 x4 x5 x6 x7 x8 x9 x10 x11 x12 r) (Sb x0 x1 x2 x3 x4 x5 x6 x7 x8 x9 x10 x11 x12 r)
    (knorm (fun j => pr (Hb x0 x1 x2 x3 x4 x5 x6 x7 x8 x9 x10 x11 x12 r) (Wb x12) (o + L / 128 * 128 + j)) (gmN x11) (fun j => Gb x (L / 128 * 128 + j))) (L % 128)

def bareE (o L : ℕ) : EReal :=
  krope (Cb x0 x1 x2 x3 x4 x5 x6 x7 x8 x9 x10 x11 x12 r) (Sb x0 x1 x2 x3 x4 x5 x6 x7 x8 x9 x10 x11 x12 r)
    (fun j => pr (Hb x0 x1 x2 x3 x4 x5 x6 x7 x8 x9 x10 x11 x12 r) (Wb x12) (o + L / 128 * 128 + j)) (L % 128)

/-- A block's load of 128 columns, and of 512, as columns of the sequence. -/
theorem ld_cols (off : Fin 2 → ℕ) (inb : ∀ a, off a + S1024x128.size a ≤ S1024x5120.size a) (h0 : off 0 = 0) (k : Fin 1024) (j : Fin 128) :
    ((View.ld x12 (Rect.unit (s := S1024x5120) off S1024x128.size inb) : Vec Ideal S1024x128 .bf16) (ix2 k j) : EReal)
      = Wb x12 k (off 1 + j.val) := by
  have h1 : off 1 + 128 ≤ 5120 := inb 1
  unfold Wb
  rw [Proj.ext_of _ _ (by omega)]
  refine congrArg x12 (funext fun a => Fin.ext ?_)
  match a with
  | ⟨0, _⟩ =>
    show off 0 + 1 * k.val = k.val
    omega
  | ⟨1, _⟩ =>
    show off 1 + 1 * j.val = off 1 + j.val
    omega

theorem ld_cols5 (off : Fin 2 → ℕ) (inb : ∀ a, off a + S1024x512.size a ≤ S1024x5120.size a) (h0 : off 0 = 0) (k : Fin 1024) (j : Fin 512) :
    ((View.ld x12 (Rect.unit (s := S1024x5120) off S1024x512.size inb) : Vec Ideal S1024x512 .bf16) (ix2 k j) : EReal)
      = Wb x12 k (off 1 + j.val) := by
  have h1 : off 1 + 512 ≤ 5120 := inb 1
  unfold Wb
  rw [Proj.ext_of _ _ (by omega)]
  refine congrArg x12 (funext fun a => Fin.ext ?_)
  match a with
  | ⟨0, _⟩ =>
    show off 0 + 1 * k.val = k.val
    omega
  | ⟨1, _⟩ =>
    show off 1 + 1 * j.val = off 1 + j.val
    omega

theorem ld_gain (x : Vec Ideal S1x512 .f32) (off : Fin 2 → ℕ) (inb : ∀ a, off a + S1x128.size a ≤ S1x512.size a) (h0 : off 0 = 0) (j : Fin 128) :
    ((View.ld x (Rect.unit (s := S1x512) off S1x128.size inb) : Vec Ideal S1x128 .f32) (ix2 (0 : Fin 1) j) : EReal)
      = Gb x (off 1 + j.val) := by
  have h1 : off 1 + 128 ≤ 512 := inb 1
  unfold Gb
  rw [Proj.ext_of _ _ (by omega)]
  refine congrArg x (funext fun a => Fin.ext ?_)
  match a with
  | ⟨0, _⟩ =>
    show off 0 + 1 * 0 = 0
    omega
  | ⟨1, _⟩ =>
    show off 1 + 1 * j.val = off 1 + j.val
    omega

theorem gm_ld : View.ld x11 r0_5 = x11 := by
  funext y
  refine congrArg x11 (funext fun a => Fin.ext ?_)
  match a with
  | ⟨0, _⟩ =>
    show 0 + 1 * (y 0).val = (y 0).val
    omega
  | ⟨1, _⟩ =>
    show 0 + 1 * (y 1).val = (y 1).val
    omega

theorem g10_ld : View.ld x10 r0_4 = x10 := by
  funext y
  refine congrArg x10 (funext fun a => Fin.ext ?_)
  match a with
  | ⟨0, _⟩ =>
    show 0 + 1 * (y 0).val = (y 0).val
    omega
  | ⟨1, _⟩ =>
    show 0 + 1 * (y 1).val = (y 1).val
    omega

/-- A stored block of a part, at the lane of the part that it lands on. -/
theorem gain_piece (x : Vec Ideal S1x512 .f32) (off : Fin 2 → ℕ) (inb : ∀ a, off a + S1024x128.size a ≤ S1024x5120.size a) (h0 : off 0 = 0)
    (goff : Fin 2 → ℕ) (ginb : ∀ a, goff a + S1x128.size a ≤ S1x512.size a) (g0 : goff 0 = 0) (o : ℕ) (ho : off 1 = o + goff 1)
    (hd : goff 1 % 128 = 0) (l : Fin 128) :
    (gainT x0 x1 x2 x3 x4 x5 x6 x7 x8 x9 x10 x11 x12 (View.ld x12 (Rect.unit (s := S1024x5120) off S1024x128.size inb))
        (View.ld x (Rect.unit (s := S1x512) goff S1x128.size ginb)) (ix2 r l) : EReal)
      = gainE x0 x1 x2 x3 x4 x5 x6 x7 x8 x9 x10 x11 x12 r x o (goff 1 + l.val) := by
  have d1 : (goff 1 + l.val) / 128 * 128 = goff 1 := by have := l.isLt; omega
  have d2 : (goff 1 + l.val) % 128 = l.val := by have := l.isLt; omega
  unfold gainE
  rw [d1, d2]
  refine (rope_at _ _ r _ _ (fun l => norm_at _ _ _ _ r (Wb x12) (Gb x) (off 1) (goff 1) (ld_cols x12 off inb h0) (ld_gain x goff ginb g0) l) l).trans ?_
  rw [gm_ld, ho]

theorem bare_piece (off : Fin 2 → ℕ) (inb : ∀ a, off a + S1024x128.size a ≤ S1024x5120.size a) (h0 : off 0 = 0)
    (o q : ℕ) (ho : off 1 = o + q) (hd : q % 128 = 0) (l : Fin 128) :
    (bareT x0 x1 x2 x3 x4 x5 x6 x7 x8 x9 x10 x11 x12 (View.ld x12 (Rect.unit (s := S1024x5120) off S1024x128.size inb)) (ix2 r l) : EReal)
      = bareE x0 x1 x2 x3 x4 x5 x6 x7 x8 x9 x10 x11 x12 r o (q + l.val) := by
  have d1 : (q + l.val) / 128 * 128 = q := by have := l.isLt; omega
  have d2 : (q + l.val) % 128 = l.val := by have := l.isLt; omega
  unfold bareE
  rw [d1, d2, ← ho]
  exact rope_at _ _ r _ _ (fun l => proj_at _ _ r (Wb x12) (off 1) (ld_cols x12 off inb h0) l) l

/-- The index of a stored block's lane. -/
theorem idx_lane (x : S1x512x128.Idx) (h1 : r.val = (x 1).val) : x = ix3 (0 : Fin 1) r (x 2) := by
  funext a
  match a with
  | ⟨0, _⟩ => exact Fin.ext (by have : (x 0).val < 1 := (x 0).isLt; show (x 0).val = 0; omega)
  | ⟨1, _⟩ => exact Fin.ext h1.symm
  | ⟨2, _⟩ => rfl

theorem gain_store (x : Vec Ideal S1x512 .f32) (off : Fin 2 → ℕ) (inb : ∀ a, off a + S1024x128.size a ≤ S1024x5120.size a) (h0 : off 0 = 0)
    (goff : Fin 2 → ℕ) (ginb : ∀ a, goff a + S1x128.size a ≤ S1x512.size a) (g0 : goff 0 = 0) (o : ℕ) (ho : off 1 = o + goff 1)
    (hd : goff 1 % 128 = 0) (L : ℕ) (z : S1x512x128.Idx) (h1 : r.val = (z 1).val) (h2 : L = goff 1 + (z 2).val) :
    (storeT (gainT x0 x1 x2 x3 x4 x5 x6 x7 x8 x9 x10 x11 x12 (View.ld x12 (Rect.unit (s := S1024x5120) off S1024x128.size inb))
        (View.ld x (Rect.unit (s := S1x512) goff S1x128.size ginb))) z : EReal)
      = gainE x0 x1 x2 x3 x4 x5 x6 x7 x8 x9 x10 x11 x12 r x o L := by
  subst h2
  refine (congrArg (storeT (gainT x0 x1 x2 x3 x4 x5 x6 x7 x8 x9 x10 x11 x12 (View.ld x12 (Rect.unit (s := S1024x5120) off S1024x128.size inb))
        (View.ld x (Rect.unit (s := S1x512) goff S1x128.size ginb)))) (idx_lane r z h1)).trans ?_
  exact (storeT_apply _ r (z 2)).trans (gain_piece x0 x1 x2 x3 x4 x5 x6 x7 x8 x9 x10 x11 x12 r x off inb h0 goff ginb g0 o ho hd (z 2))

theorem scaled_store (x : Vec Ideal S1x512 .f32) (off : Fin 2 → ℕ) (inb : ∀ a, off a + S1024x128.size a ≤ S1024x5120.size a) (h0 : off 0 = 0)
    (goff : Fin 2 → ℕ) (ginb : ∀ a, goff a + S1x128.size a ≤ S1x512.size a) (g0 : goff 0 = 0) (o : ℕ) (ho : off 1 = o + goff 1)
    (hd : goff 1 % 128 = 0) (L : ℕ) (z : S1x512x128.Idx) (h1 : r.val = (z 1).val) (h2 : L = goff 1 + (z 2).val) :
    (storeT (scaleT (gainT x0 x1 x2 x3 x4 x5 x6 x7 x8 x9 x10 x11 x12 (View.ld x12 (Rect.unit (s := S1024x5120) off S1024x128.size inb))
        (View.ld x (Rect.unit (s := S1x512) goff S1x128.size ginb)))) z : EReal)
      = gainE x0 x1 x2 x3 x4 x5 x6 x7 x8 x9 x10 x11 x12 r x o L * eighth := by
  subst h2
  refine (congrArg (storeT (scaleT (gainT x0 x1 x2 x3 x4 x5 x6 x7 x8 x9 x10 x11 x12 (View.ld x12 (Rect.unit (s := S1024x5120) off S1024x128.size inb))
        (View.ld x (Rect.unit (s := S1x512) goff S1x128.size ginb))))) (idx_lane r z h1)).trans ?_
  refine (storeT_apply _ r (z 2)).trans ((scaleT_apply _ r (z 2)).trans ?_)
  exact congrArg (· * eighth) (gain_piece x0 x1 x2 x3 x4 x5 x6 x7 x8 x9 x10 x11 x12 r x off inb h0 goff ginb g0 o ho hd (z 2))

theorem bare_store (off : Fin 2 → ℕ) (inb : ∀ a, off a + S1024x128.size a ≤ S1024x5120.size a) (h0 : off 0 = 0)
    (o q : ℕ) (ho : off 1 = o + q) (hd : q % 128 = 0) (L : ℕ) (z : S1x512x128.Idx) (h1 : r.val = (z 1).val) (h2 : L = q + (z 2).val) :
    (storeT (bareT x0 x1 x2 x3 x4 x5 x6 x7 x8 x9 x10 x11 x12 (View.ld x12 (Rect.unit (s := S1024x5120) off S1024x128.size inb))) z : EReal)
      = bareE x0 x1 x2 x3 x4 x5 x6 x7 x8 x9 x10 x11 x12 r o L := by
  subst h2
  refine (congrArg (storeT (bareT x0 x1 x2 x3 x4 x5 x6 x7 x8 x9 x10 x11 x12 (View.ld x12 (Rect.unit (s := S1024x5120) off S1024x128.size inb)))) (idx_lane r z h1)).trans ?_
  exact (storeT_apply _ r (z 2)).trans (bare_piece x0 x1 x2 x3 x4 x5 x6 x7 x8 x9 x10 x11 x12 r off inb h0 o q ho hd (z 2))

theorem out13_at (L : Fin 512) : (out0_13 x0 x1 x2 x3 x4 x5 x6 x7 x8 x9 x10 x11 x12 (ix3 (0 : Fin 1) r L) : EReal)
    = gainE x0 x1 x2 x3 x4 x5 x6 x7 x8 x9 x10 x11 x12 r x7 0 L.val * eighth := by
  rw [out13_eq]
  canon_tiles x h
  · exact scaled_store x0 x1 x2 x3 x4 x5 x6 x7 x8 x9 x10 x11 x12 r x7 _ _ rfl _ _ rfl 0 rfl rfl L.val x h1 h2
  · exact scaled_store x0 x1 x2 x3 x4 x5 x6 x7 x8 x9 x10 x11 x12 r x7 _ _ rfl _ _ rfl 0 rfl rfl L.val x h1 h2
  · exact scaled_store x0 x1 x2 x3 x4 x5 x6 x7 x8 x9 x10 x11 x12 r x7 _ _ rfl _ _ rfl 0 rfl rfl L.val x h1 h2
  · exact scaled_store x0 x1 x2 x3 x4 x5 x6 x7 x8 x9 x10 x11 x12 r x7 _ _ rfl _ _ rfl 0 rfl rfl L.val x h1 (h2.trans (Nat.zero_add _).symm)

theorem out14_at (L : Fin 512) : (out0_14 x0 x1 x2 x3 x4 x5 x6 x7 x8 x9 x10 x11 x12 (ix3 (0 : Fin 1) r L) : EReal)
    = gainE x0 x1 x2 x3 x4 x5 x6 x7 x8 x9 x10 x11 x12 r x8 512 L.val := by
  rw [out14_eq]
  canon_tiles x h
  · exact gain_store x0 x1 x2 x3 x4 x5 x6 x7 x8 x9 x10 x11 x12 r x8 _ _ rfl _ _ rfl 512 rfl rfl L.val x h1 h2
  · exact gain_store x0 x1 x2 x3 x4 x5 x6 x7 x8 x9 x10 x11 x12 r x8 _ _ rfl _ _ rfl 512 rfl rfl L.val x h1 h2
  · exact gain_store x0 x1 x2 x3 x4 x5 x6 x7 x8 x9 x10 x11 x12 r x8 _ _ rfl _ _ rfl 512 rfl rfl L.val x h1 h2
  · exact gain_store x0 x1 x2 x3 x4 x5 x6 x7 x8 x9 x10 x11 x12 r x8 _ _ rfl _ _ rfl 512 rfl rfl L.val x h1 (h2.trans (Nat.zero_add _).symm)

theorem out16_at (L : Fin 512) : (out0_16 x0 x1 x2 x3 x4 x5 x6 x7 x8 x9 x10 x11 x12 (ix3 (0 : Fin 1) r L) : EReal)
    = gainE x0 x1 x2 x3 x4 x5 x6 x7 x8 x9 x10 x11 x12 r x9 1536 L.val * eighth := by
  rw [out16_eq]
  canon_tiles x h
  · exact scaled_store x0 x1 x2 x3 x4 x5 x6 x7 x8 x9 x10 x11 x12 r x9 _ _ rfl _ _ rfl 1536 rfl rfl L.val x h1 h2
  · exact scaled_store x0 x1 x2 x3 x4 x5 x6 x7 x8 x9 x10 x11 x12 r x9 _ _ rfl _ _ rfl 1536 rfl rfl L.val x h1 h2
  · exact scaled_store x0 x1 x2 x3 x4 x5 x6 x7 x8 x9 x10 x11 x12 r x9 _ _ rfl _ _ rfl 1536 rfl rfl L.val x h1 h2
  · exact scaled_store x0 x1 x2 x3 x4 x5 x6 x7 x8 x9 x10 x11 x12 r x9 _ _ rfl _ _ rfl 1536 rfl rfl L.val x h1 (h2.trans (Nat.zero_add _).symm)

theorem out17_at (L : Fin 512) : (out0_17 x0 x1 x2 x3 x4 x5 x6 x7 x8 x9 x10 x11 x12 (ix3 (0 : Fin 1) r L) : EReal)
    = bareE x0 x1 x2 x3 x4 x5 x6 x7 x8 x9 x10 x11 x12 r 2048 L.val := by
  rw [out17_eq]
  canon_tiles x h
  · exact bare_store x0 x1 x2 x3 x4 x5 x6 x7 x8 x9 x10 x11 x12 r _ _ rfl 2048 384 rfl rfl L.val x h1 h2
  · exact bare_store x0 x1 x2 x3 x4 x5 x6 x7 x8 x9 x10 x11 x12 r _ _ rfl 2048 256 rfl rfl L.val x h1 h2
  · exact bare_store x0 x1 x2 x3 x4 x5 x6 x7 x8 x9 x10 x11 x12 r _ _ rfl 2048 128 rfl rfl L.val x h1 h2
  · exact bare_store x0 x1 x2 x3 x4 x5 x6 x7 x8 x9 x10 x11 x12 r _ _ rfl 2048 0 rfl rfl L.val x h1 (h2.trans (Nat.zero_add _).symm)

/-- The two parts of 128 lanes: a head's lanes twice. -/
theorem out18_at (l : Fin 128) : (out0_18 x0 x1 x2 x3 x4 x5 x6 x7 x8 x9 x10 x11 x12 (ix3 (0 : Fin 1) r l) : EReal)
    = krope (Cb x0 x1 x2 x3 x4 x5 x6 x7 x8 x9 x10 x11 x12 r) (Sb x0 x1 x2 x3 x4 x5 x6 x7 x8 x9 x10 x11 x12 r)
        (knorm (fun j => pr (Hb x0 x1 x2 x3 x4 x5 x6 x7 x8 x9 x10 x11 x12 r) (Wb x12) (2560 + j)) (gmN x11) (Gs x10)) l.val := by
  rw [out18_eq]
  canon_tiles x h
  have e : x = ix3 (0 : Fin 1) r l := by
    rw [idx_lane r x h1]
    exact congrArg (ix3 (0 : Fin 1) r) (Fin.ext h2.symm)
  rw [e, g10_ld]
  refine (storeT_apply _ r l).trans ?_
  refine (rope_at _ _ r _ _ (fun l => norm_at _ _ _ _ r (Wb x12) (Gs x10) 2560 0 (ld_cols x12 _ _ rfl) (fun j => ?_) l) l).trans ?_
  · rw [Nat.zero_add]
    exact (Proj.ext_val (fun l : Fin 128 => (x10 (ix2 (0 : Fin 1) l) : EReal)) j).symm
  · rw [gm_ld]
    simp only [Nat.zero_add]

theorem out19_at (l : Fin 128) : (out0_19 x0 x1 x2 x3 x4 x5 x6 x7 x8 x9 x10 x11 x12 (ix3 (0 : Fin 1) r l) : EReal)
    = krope (Cb x0 x1 x2 x3 x4 x5 x6 x7 x8 x9 x10 x11 x12 r) (Sb x0 x1 x2 x3 x4 x5 x6 x7 x8 x9 x10 x11 x12 r)
        (fun j => pr (Hb x0 x1 x2 x3 x4 x5 x6 x7 x8 x9 x10 x11 x12 r) (Wb x12) (2688 + j)) l.val := by
  rw [out19_eq]
  canon_tiles x h
  have e : x = ix3 (0 : Fin 1) r l := by
    rw [idx_lane r x h1]
    exact congrArg (ix3 (0 : Fin 1) r) (Fin.ext h2.symm)
  rw [e]
  refine (storeT_apply _ r l).trans ?_
  exact rope_at _ _ r _ _ (fun l => proj_at _ _ r (Wb x12) 2688 (ld_cols x12 _ _ rfl) l) l

theorem cast_apply (y : FVec Ideal S512x128 .f32) (r : Fin 512) (l : Fin 128) :
    (shapeCast S1x512x128 y shapeCasts_S512x128_S1x512x128 (ix3 (0 : Fin 1) r l) : EReal) = (y (ix2 r l) : EReal) := by
  pointwise []

theorem out21_at (l : Fin 128) : (out0_21 x0 x1 x2 x3 x4 x5 x6 x7 x8 x9 x10 x11 x12 (ix3 (0 : Fin 1) r l) : EReal)
    = pr (Hb x0 x1 x2 x3 x4 x5 x6 x7 x8 x9 x10 x11 x12 r) (Wb x12) (2944 + l.val) := by
  rw [out21_eq]
  canon_tiles x h
  have e : x = ix3 (0 : Fin 1) r l := by
    rw [idx_lane r x h1]
    exact congrArg (ix3 (0 : Fin 1) r) (Fin.ext h2.symm)
  rw [e]
  refine (cast_apply _ r l).trans ?_
  exact proj_at _ _ r (Wb x12) 2944 (ld_cols x12 _ _ rfl) l

/-- 512 columns of the projection. -/
theorem proj5_at (H : FVec Ideal S512x1024 .bf16) (w : Vec Ideal S1024x512 .bf16) (W : Fin 1024 → ℕ → EReal) (cb : ℕ)
    (hw : ∀ (k : Fin 1024) (j : Fin 512), (w (ix2 k j) : EReal) = W k (cb + j.val)) (l : Fin 512) :
    (proj5T H w (ix2 r l) : EReal) = pr (fun k => (H (ix2 r k) : EReal)) W (cb + l.val) := by
  rw [proj5T_apply]
  unfold pr
  exact Finset.sum_congr rfl fun k _ => by rw [hw]

theorem idx_lane5 (x : S1x512x512.Idx) (h1 : r.val = (x 1).val) : x = ix3 (0 : Fin 1) r (x 2) := by
  funext a
  match a with
  | ⟨0, _⟩ => exact Fin.ext (by have : (x 0).val < 1 := (x 0).isLt; show (x 0).val = 0; omega)
  | ⟨1, _⟩ => exact Fin.ext h1.symm
  | ⟨2, _⟩ => rfl

theorem gate_store (off : Fin 2 → ℕ) (inb : ∀ a, off a + S1024x512.size a ≤ S1024x5120.size a) (h0 : off 0 = 0)
    (q : ℕ) (ho : off 1 = 3072 + q) (L : ℕ) (z : S1x512x512.Idx) (h1 : r.val = (z 1).val) (h2 : L = q + (z 2).val) :
    (gateT (proj5T (hidT x0 x1 x2 x3 x4 x5 x6 x7 x8 x9 x10 x11 x12) (View.ld x12 (Rect.unit (s := S1024x5120) off S1024x512.size inb))) z : EReal)
      = Ideal.logistic (pr (Hb x0 x1 x2 x3 x4 x5 x6 x7 x8 x9 x10 x11 x12 r) (Wb x12) (3072 + L)) := by
  subst h2
  refine (congrArg (gateT (proj5T (hidT x0 x1 x2 x3 x4 x5 x6 x7 x8 x9 x10 x11 x12) (View.ld x12 (Rect.unit (s := S1024x5120) off S1024x512.size inb)))) (idx_lane5 r z h1)).trans ?_
  refine (gateT_apply _ r (z 2)).trans (congrArg Ideal.logistic ?_)
  refine (proj5_at r _ _ (Wb x12) (off 1) (ld_cols5 x12 off inb h0) (z 2)).trans ?_
  rw [ho, Nat.add_assoc]

theorem out22_at (L : Fin 2048) : (out0_22 x0 x1 x2 x3 x4 x5 x6 x7 x8 x9 x10 x11 x12 (ix3 (0 : Fin 1) r L) : EReal)
    = Ideal.logistic (pr (Hb x0 x1 x2 x3 x4 x5 x6 x7 x8 x9 x10 x11 x12 r) (Wb x12) (3072 + L.val)) := by
  rw [out22_eq]
  canon_tiles x h
  · exact gate_store x0 x1 x2 x3 x4 x5 x6 x7 x8 x9 x10 x11 x12 r _ _ rfl 1536 rfl L.val x h1 h2
  · exact gate_store x0 x1 x2 x3 x4 x5 x6 x7 x8 x9 x10 x11 x12 r _ _ rfl 1024 rfl L.val x h1 h2
  · exact gate_store x0 x1 x2 x3 x4 x5 x6 x7 x8 x9 x10 x11 x12 r _ _ rfl 512 rfl L.val x h1 h2
  · exact gate_store x0 x1 x2 x3 x4 x5 x6 x7 x8 x9 x10 x11 x12 r _ _ rfl 0 rfl L.val x h1 (h2.trans (Nat.zero_add _).symm)

theorem pay32_apply (H : FVec Ideal S512x1024 .bf16) (w : Vec Ideal S1024x512 .bf16) (d : Fin 128) (s : Fin 256) :
    (k0_pay32 H w (ix5 (0 : Fin 1) (0 : Fin 1) (0 : Fin 1) d s) : EReal) = (proj5T H w (ix2 (⟨0 + s.val, by omega⟩ : Fin 512) (⟨0 + d.val, by omega⟩ : Fin 512)) : EReal) := by
  pointwise [k0_pay32, k0_pay30, proj5T]

theorem pay34_apply (H : FVec Ideal S512x1024 .bf16) (w : Vec Ideal S1024x512 .bf16) (d : Fin 128) (s : Fin 256) :
    (k0_pay34 (k0_pay33 H w) (ix5 (0 : Fin 1) (0 : Fin 1) (0 : Fin 1) d s) : EReal) = (proj5T H w (ix2 (⟨0 + s.val, by omega⟩ : Fin 512) (⟨128 + d.val, by omega⟩ : Fin 512)) : EReal) := by
  pointwise [k0_pay34, k0_pay33, k0_pay30, proj5T]

theorem pay35_apply (P : FVec Ideal S512x512 .f32) (d : Fin 128) (s : Fin 256) :
    (k0_pay35 P (ix5 (0 : Fin 1) (0 : Fin 1) (0 : Fin 1) d s) : EReal) = (P (ix2 (⟨0 + s.val, by omega⟩ : Fin 512) (⟨256 + d.val, by omega⟩ : Fin 512)) : EReal) := by
  pointwise [k0_pay35]

theorem pay36_apply (P : FVec Ideal S512x512 .f32) (d : Fin 128) (s : Fin 256) :
    (k0_pay36 P (ix5 (0 : Fin 1) (0 : Fin 1) (0 : Fin 1) d s) : EReal) = (P (ix2 (⟨0 + s.val, by omega⟩ : Fin 512) (⟨384 + d.val, by omega⟩ : Fin 512)) : EReal) := by
  pointwise [k0_pay36]

theorem pay38_apply (P : FVec Ideal S512x512 .f32) (d : Fin 128) (s : Fin 256) :
    (k0_pay38 P (ix5 (0 : Fin 1) (0 : Fin 1) (0 : Fin 1) d s) : EReal) = (P (ix2 (⟨256 + s.val, by omega⟩ : Fin 512) (⟨0 + d.val, by omega⟩ : Fin 512)) : EReal) := by
  pointwise [k0_pay38]

theorem pay40_apply (P : FVec Ideal S512x512 .f32) (d : Fin 128) (s : Fin 256) :
    (k0_pay40 (k0_pay39 P) (ix5 (0 : Fin 1) (0 : Fin 1) (0 : Fin 1) d s) : EReal) = (P (ix2 (⟨256 + s.val, by omega⟩ : Fin 512) (⟨128 + d.val, by omega⟩ : Fin 512)) : EReal) := by
  pointwise [k0_pay40, k0_pay39]

theorem pay41_apply (P : FVec Ideal S512x512 .f32) (d : Fin 128) (s : Fin 256) :
    (k0_pay41 P (ix5 (0 : Fin 1) (0 : Fin 1) (0 : Fin 1) d s) : EReal) = (P (ix2 (⟨256 + s.val, by omega⟩ : Fin 512) (⟨256 + d.val, by omega⟩ : Fin 512)) : EReal) := by
  pointwise [k0_pay41]

theorem pay42_apply (P : FVec Ideal S512x512 .f32) (d : Fin 128) (s : Fin 256) :
    (k0_pay42 P (ix5 (0 : Fin 1) (0 : Fin 1) (0 : Fin 1) d s) : EReal) = (P (ix2 (⟨256 + s.val, by omega⟩ : Fin 512) (⟨384 + d.val, by omega⟩ : Fin 512)) : EReal) := by
  pointwise [k0_pay42]

theorem pay37_apply (P : FVec Ideal S512x128 .f32) (d : Fin 64) (s : Fin 256) :
    (k0_pay37 P (ix4 (0 : Fin 1) (0 : Fin 1) d s) : EReal) = (P (ix2 (⟨0 + s.val, by omega⟩ : Fin 512) (⟨d.val, by omega⟩ : Fin 128)) : EReal) := by
  pointwise [k0_pay37]

theorem pay43_apply (P : FVec Ideal S512x128 .f32) (d : Fin 64) (s : Fin 256) :
    (k0_pay43 P (ix4 (0 : Fin 1) (0 : Fin 1) d s) : EReal) = (P (ix2 (⟨256 + s.val, by omega⟩ : Fin 512) (⟨d.val, by omega⟩ : Fin 128)) : EReal) := by
  pointwise [k0_pay43]

/-- A transposed tile of the values, as it is stored. -/
theorem dv_store (P : Vec Ideal S1x1x1x128x256 .bf16) (n h : ℕ) (hn : n < 2) (hh : h < 4)
    (hP : ∀ (d : Fin 128) (s : Fin 256), (P (ix5 (0 : Fin 1) (0 : Fin 1) (0 : Fin 1) d s) : EReal)
      = (proj5T (hidT x0 x1 x2 x3 x4 x5 x6 x7 x8 x9 x10 x11 x12) (View.ld x12 r0_22) (ix2 (⟨256 * n + s.val, by omega⟩ : Fin 512) (⟨128 * h + d.val, by omega⟩ : Fin 512)) : EReal))
    (n' : Fin 2) (h' : Fin 4) (d : Fin 128) (s : Fin 256) (en : n'.val = n) (eh : h'.val = h) (z : S1x1x1x128x256.Idx)
    (h3 : d.val = (z 3).val) (h4 : s.val = (z 4).val) :
    (P z : EReal) = pr (Hb x0 x1 x2 x3 x4 x5 x6 x7 x8 x9 x10 x11 x12 (⟨n'.val * 256 + s.val, by omega⟩ : Fin 512)) (Wb x12) (1024 + (h'.val * 128 + d.val)) := by
  have ez : z = ix5 (0 : Fin 1) (0 : Fin 1) (0 : Fin 1) d s := by
    funext a
    match a with
    | ⟨0, _⟩ => exact Fin.ext (by have : (z 0).val < 1 := (z 0).isLt; show (z 0).val = 0; omega)
    | ⟨1, _⟩ => exact Fin.ext (by have : (z 1).val < 1 := (z 1).isLt; show (z 1).val = 0; omega)
    | ⟨2, _⟩ => exact Fin.ext (by have : (z 2).val < 1 := (z 2).isLt; show (z 2).val = 0; omega)
    | ⟨3, _⟩ => exact Fin.ext h3.symm
    | ⟨4, _⟩ => exact Fin.ext h4.symm
  subst en eh
  refine (congrArg P ez).trans ((hP d s).trans ?_)
  refine (proj5_at _ _ _ (Wb x12) 1024 (ld_cols5 x12 _ _ rfl) _).trans ?_
  have e1 : (⟨256 * n'.val + s.val, by omega⟩ : Fin 512) = ⟨n'.val * 256 + s.val, by omega⟩ := Fin.ext (by show 256 * n'.val + s.val = n'.val * 256 + s.val; omega)
  have e2 : 1024 + (128 * h'.val + d.val) = 1024 + (h'.val * 128 + d.val) := by omega
  show pr (Hb x0 x1 x2 x3 x4 x5 x6 x7 x8 x9 x10 x11 x12 (⟨256 * n'.val + s.val, by omega⟩ : Fin 512)) (Wb x12) (1024 + (128 * h'.val + d.val)) = _
  rw [e1, e2]

theorem out15_at (h : Fin 4) (n : Fin 2) (d : Fin 128) (s : Fin 256) :
    (out0_15 x0 x1 x2 x3 x4 x5 x6 x7 x8 x9 x10 x11 x12 (ix5 (0 : Fin 1) h n d s) : EReal)
      = pr (Hb x0 x1 x2 x3 x4 x5 x6 x7 x8 x9 x10 x11 x12 (⟨n.val * 256 + s.val, by omega⟩ : Fin 512)) (Wb x12) (1024 + (h.val * 128 + d.val)) := by
  unfold out0_15
  canon_tiles x k
  · refine dv_store x0 x1 x2 x3 x4 x5 x6 x7 x8 x9 x10 x11 x12 _ 1 3 (by decide) (by decide) (fun d s => pay42_apply _ d s) n h d s ?_ ?_ x k3 k4
    · have := k2; change n.val = _ at this; omega
    · have := k1; change h.val = _ at this; omega
  · refine dv_store x0 x1 x2 x3 x4 x5 x6 x7 x8 x9 x10 x11 x12 _ 1 2 (by decide) (by decide) (fun d s => pay41_apply _ d s) n h d s ?_ ?_ x k3 k4
    · have := k2; change n.val = _ at this; omega
    · have := k1; change h.val = _ at this; omega
  · refine dv_store x0 x1 x2 x3 x4 x5 x6 x7 x8 x9 x10 x11 x12 _ 1 1 (by decide) (by decide) (fun d s => pay40_apply _ d s) n h d s ?_ ?_ x k3 k4
    · have := k2; change n.val = _ at this; omega
    · have := k1; change h.val = _ at this; omega
  · refine dv_store x0 x1 x2 x3 x4 x5 x6 x7 x8 x9 x10 x11 x12 _ 1 0 (by decide) (by decide) (fun d s => pay38_apply _ d s) n h d s ?_ ?_ x k3 k4
    · have := k2; change n.val = _ at this; omega
    · have := k1; change h.val = _ at this; omega
  · refine dv_store x0 x1 x2 x3 x4 x5 x6 x7 x8 x9 x10 x11 x12 _ 0 3 (by decide) (by decide) (fun d s => pay36_apply _ d s) n h d s ?_ ?_ x k3 k4
    · have := k2; change n.val = _ at this; omega
    · have := k1; change h.val = _ at this; omega
  · refine dv_store x0 x1 x2 x3 x4 x5 x6 x7 x8 x9 x10 x11 x12 _ 0 2 (by decide) (by decide) (fun d s => pay35_apply _ d s) n h d s ?_ ?_ x k3 k4
    · have := k2; change n.val = _ at this; omega
    · have := k1; change h.val = _ at this; omega
  · refine dv_store x0 x1 x2 x3 x4 x5 x6 x7 x8 x9 x10 x11 x12 _ 0 1 (by decide) (by decide) (fun d s => pay34_apply _ _ d s) n h d s ?_ ?_ x k3 k4
    · have := k2; change n.val = _ at this; omega
    · have := k1; change h.val = _ at this; omega
  · refine dv_store x0 x1 x2 x3 x4 x5 x6 x7 x8 x9 x10 x11 x12 _ 0 0 (by decide) (by decide) (fun d s => pay32_apply _ _ d s) n h d s ?_ ?_ x k3 k4
    · have := k2; change n.val = _ at this; omega
    · have := k1; change h.val = _ at this; omega

theorem sv_store (P : Vec Ideal S1x1x64x256 .bf16) (n : ℕ) (hn : n < 2)
    (hP : ∀ (d : Fin 64) (s : Fin 256), (P (ix4 (0 : Fin 1) (0 : Fin 1) d s) : EReal)
      = (projT (hidT x0 x1 x2 x3 x4 x5 x6 x7 x8 x9 x10 x11 x12) (View.ld x12 r0_23) (ix2 (⟨256 * n + s.val, by omega⟩ : Fin 512) (⟨d.val, by omega⟩ : Fin 128)) : EReal))
    (n' : Fin 2) (d : Fin 64) (s : Fin 256) (en : n'.val = n) (z : S1x1x64x256.Idx)
    (h3 : d.val = (z 2).val) (h4 : s.val = (z 3).val) :
    (P z : EReal) = pr (Hb x0 x1 x2 x3 x4 x5 x6 x7 x8 x9 x10 x11 x12 (⟨n'.val * 256 + s.val, by omega⟩ : Fin 512)) (Wb x12) (2816 + d.val) := by
  have ez : z = ix4 (0 : Fin 1) (0 : Fin 1) d s := by
    funext a
    match a with
    | ⟨0, _⟩ => exact Fin.ext (by have : (z 0).val < 1 := (z 0).isLt; show (z 0).val = 0; omega)
    | ⟨1, _⟩ => exact Fin.ext (by have : (z 1).val < 1 := (z 1).isLt; show (z 1).val = 0; omega)
    | ⟨2, _⟩ => exact Fin.ext h3.symm
    | ⟨3, _⟩ => exact Fin.ext h4.symm
  subst en
  refine (congrArg P ez).trans ((hP d s).trans ?_)
  refine (proj_at _ _ _ (Wb x12) 2816 (ld_cols x12 _ _ rfl) _).trans ?_
  have e1 : (⟨256 * n'.val + s.val, by omega⟩ : Fin 512) = ⟨n'.val * 256 + s.val, by omega⟩ := Fin.ext (by show 256 * n'.val + s.val = n'.val * 256 + s.val; omega)
  show pr (Hb x0 x1 x2 x3 x4 x5 x6 x7 x8 x9 x10 x11 x12 (⟨256 * n'.val + s.val, by omega⟩ : Fin 512)) (Wb x12) (2816 + d.val) = _
  rw [e1]

theorem out20_at (n : Fin 2) (d : Fin 64) (s : Fin 256) :
    (out0_20 x0 x1 x2 x3 x4 x5 x6 x7 x8 x9 x10 x11 x12 (ix4 (0 : Fin 1) n d s) : EReal)
      = pr (Hb x0 x1 x2 x3 x4 x5 x6 x7 x8 x9 x10 x11 x12 (⟨n.val * 256 + s.val, by omega⟩ : Fin 512)) (Wb x12) (2816 + d.val) := by
  unfold out0_20
  canon_tiles x k
  · refine sv_store x0 x1 x2 x3 x4 x5 x6 x7 x8 x9 x10 x11 x12 _ 1 (by decide) (fun d s => pay43_apply _ d s) n d s ?_ x k2 k3
    have := k1; change n.val = _ at this; omega
  · refine sv_store x0 x1 x2 x3 x4 x5 x6 x7 x8 x9 x10 x11 x12 _ 0 (by decide) (fun d s => pay37_apply _ d s) n d s ?_ x k2 k3
    have := k1; change n.val = _ at this; omega

end Outs

end Cert.Kernel2Ideal.Block

end
-- ==== Proof.Host2.lean ====
module

public import proofs.«01_k».proof.Proof.Frame2Ideal
public import proofs.«01_k».proof.Proof.Proj
public import Idealize.ShloMosaic.Lib.Pointwise
public import Idealize.ShloMosaic.Lib.Pipeline.Value
public import Idealize.ShloMosaic.Lib.StableHlo.Run

@[expose] public section

set_option maxRecDepth 16384
set_option synthInstance.maxSize 4096

/-! What the host leaves in the input projection's windows. -/

noncomputable section

namespace Cert.Kernel2Ideal.Block

open Idealize.ShloMosaic Idealize.ShloMosaic.TcCoe Idealize.SL Idealize.SL.Sem
open Cert.Kernel2Ideal Cert.Kernel2Ideal.Gen
open Idealize.ShloMosaic.Pointwise
open Idealize.ShloMosaic.Pipeline (Dat)

variable (m : (ℓ : Loc nD τ sig) → Buf (Elt Ideal) ℓ) (ρ : Dev nD → PrngReg)

/-- The projection's columns in the kernel's order. -/
def catT (B : FVec Ideal S1024x4808 .f32) : FVec Ideal S1024x5120 .f32 :=
  concatenate S1024x5120 1 [⟨S1024x512, extractStridedSlice S1024x512 ![0, 0] B slices_S1024x4808_S1024x512_0_0⟩, ⟨S1024x512, extractStridedSlice S1024x512 ![0, 512] B slices_S1024x4808_S1024x512_0_512⟩, ⟨S1024x512, extractStridedSlice S1024x512 ![0, 1024] B slices_S1024x4808_S1024x512_0_1024⟩, ⟨S1024x512, extractStridedSlice S1024x512 ![0, 1536] B slices_S1024x4808_S1024x512_0_1536⟩, ⟨S1024x512, extractStridedSlice S1024x512 ![0, 2176] B slices_S1024x4808_S1024x512_0_2176⟩, ⟨S1024x64, extractStridedSlice S1024x64 ![0, 2048] B slices_S1024x4808_S1024x64_0_2048⟩, ⟨S1024x64, extractStridedSlice S1024x64 ![0, 2048] B slices_S1024x4808_S1024x64_0_2048⟩, ⟨S1024x64, extractStridedSlice S1024x64 ![0, 2688] B slices_S1024x4808_S1024x64_0_2688⟩, ⟨S1024x64, extractStridedSlice S1024x64 ![0, 2688] B slices_S1024x4808_S1024x64_0_2688⟩, ⟨S1024x64, extractStridedSlice S1024x64 ![0, 2112] B slices_S1024x4808_S1024x64_0_2112⟩, ⟨S1024x64, extractStridedSlice S1024x64 ![0, 2112] B slices_S1024x4808_S1024x64_0_2112⟩, ⟨S1024x8, extractStridedSlice S1024x8 ![0, 2752] B slices_S1024x4808_S1024x8_0_2752⟩, ⟨S1024x120, broadcastInDim S1024x120 ![] bcast_S_S1024x120 (constant S_ .f32 0x00000000#32)⟩, ⟨S1024x2048, extractStridedSlice S1024x2048 ![0, 2760] B slices_S1024x4808_S1024x2048_0_2760⟩] concatenates_S1024x512_S1024x512_S1024x512_S1024x512_S1024x512_S1024x64_S1024x64_S1024x64_S1024x64_S1024x64_S1024x64_S1024x8_S1024x120_S1024x2048_S1024x5120_d1

def colsT (A : FVec Ideal S1x1024x4808 .f32) : FVec Ideal S1024x5120 .bf16 :=
  truncf .bf16 (catT (shapeCast S1024x4808 A shapeCasts_S1x1024x4808_S1024x4808)) bitsLt_bf16_f32

def freqT : FVec Ideal S32 .f32 :=
  Host.powf (broadcastInDim S32 ![] bcast_S_S32 (constant S_ .f32 0x461C4000#32))
    (Host.negf (Host.divf (addf (broadcastInDim S32 ![] bcast_S_S32 (constant S_ .f32 0x00000000#32))
      (mulf (broadcastInDim S32 ![] bcast_S_S32 (constant S_ .f32 0x40000000#32)) (sitofp .f32 (iotaInDim S32 32 0))))
      (broadcastInDim S32 ![] bcast_S_S32 (constant S_ .f32 0x42800000#32))))

def lanesT : FVec Ideal S1x128 .f32 :=
  shapeCast S1x128 (shapeCast S128 (broadcastInDim S4x32 ![0, 1] bcast_S1x32_S4x32_0_1 (shapeCast S1x32 freqT shapeCasts_S32_S1x32)) shapeCasts_S4x32_S128) shapeCasts_S128_S1x128

def tile8T (g : FVec Ideal S1x64 .f32) : FVec Ideal S1x512 .f32 :=
  shapeCast S1x512 (shapeCast S512 (broadcastInDim S8x64 ![0, 1] bcast_S1x64_S8x64_0_1 (shapeCast S1x64 (shapeCast S64 g shapeCasts_S1x64_S64) shapeCasts_S64_S1x64)) shapeCasts_S8x64_S512) shapeCasts_S512_S1x512

def tile2T (g : FVec Ideal S1x64 .f32) : FVec Ideal S1x128 .f32 :=
  shapeCast S1x128 (shapeCast S128 (broadcastInDim S2x64 ![0, 1] bcast_S1x64_S2x64_0_1 (shapeCast S1x64 (shapeCast S64 g shapeCasts_S1x64_S64) shapeCasts_S64_S1x64)) shapeCasts_S2x64_S128) shapeCasts_S128_S1x128

theorem V_v0 (c : Dev nD) : (V m c main_v0 : Vec Ideal S32x1x1024 .f32) = shapeCast S32x1x1024 (m ((c : Thread nD τ).loc main_arg1) : Vec Ideal S32x1024 .f32) shapeCasts_S32x1024_S32x1x1024 := by
  unfold V hostOps0
  after_results
  rfl

theorem V_v1 (c : Dev nD) : (V m c main_v1 : Vec Ideal S32x1x1024 .f32) = shapeCast S32x1x1024 (m ((c : Thread nD τ).loc main_arg2) : Vec Ideal S32x1024 .f32) shapeCasts_S32x1024_S32x1x1024 := by
  unfold V hostOps0
  after_results
  rfl

theorem V_v50 (c : Dev nD) : (V m c main_v50 : Vec Ideal S32x2048x1 .i32) = shapeCast S32x2048x1 (m ((c : Thread nD τ).loc main_arg4) : Vec Ideal S32x2048 .i32) shapeCasts_S32x2048_S32x2048x1 := by
  unfold V hostOps0
  after_results
  rfl

theorem V_v19 (c : Dev nD) : (V m c main_v19 : Vec Ideal S1x128 .f32) = lanesT := by
  unfold V hostOps0
  after_results
  rfl

theorem V_cst_0 (c : Dev nD) : (V m c main_cst_0 : Vec Ideal S1x128 .f32) = (fun i => FloatOps.ofBits (F := Ideal) .f32 (lit1 (S1x128.rowMajor i))) := by
  unfold V hostOps0
  after_results
  rfl

theorem V_cst (c : Dev nD) : (V m c main_cst : Vec Ideal S128x128 .bf16) = (fun i => FloatOps.ofBits (F := Ideal) .bf16 (lit0 (S128x128.rowMajor i))) := by
  unfold V hostOps0
  after_results
  rfl

theorem V_v23 (c : Dev nD) : (V m c main_v23 : Vec Ideal S1x512 .f32) = tile8T (m ((c : Thread nD τ).loc main_arg6)) := by
  unfold V hostOps0
  after_results
  rfl

theorem V_v27 (c : Dev nD) : (V m c main_v27 : Vec Ideal S1x512 .f32) = tile8T (m ((c : Thread nD τ).loc main_arg7)) := by
  unfold V hostOps0
  after_results
  rfl

theorem V_v31 (c : Dev nD) : (V m c main_v31 : Vec Ideal S1x512 .f32) = tile8T (m ((c : Thread nD τ).loc main_arg8)) := by
  unfold V hostOps0
  after_results
  rfl

theorem V_v35 (c : Dev nD) : (V m c main_v35 : Vec Ideal S1x128 .f32) = tile2T (m ((c : Thread nD τ).loc main_arg9)) := by
  unfold V hostOps0
  after_results
  rfl

theorem V_v49 (c : Dev nD) : (V m c main_v49 : Vec Ideal S1024x5120 .bf16) = colsT (m ((c : Thread nD τ).loc main_arg5)) := by
  unfold V hostOps0
  after_results
  rfl

theorem lanesT_apply (l : Fin 128) : (lanesT (ix2 (0 : Fin 1) l) : EReal) = Proj.inv ⟨l.val % 32, by omega⟩ := by
  pointwise [lanesT, freqT, Proj.inv]
  rfl

theorem tile8T_apply (g : FVec Ideal S1x64 .f32) (l : Fin 512) : (tile8T g (ix2 (0 : Fin 1) l) : EReal) = (g (ix2 (0 : Fin 1) (⟨l.val % 64, by omega⟩ : Fin 64)) : EReal) := by
  pointwise [tile8T]

theorem tile2T_apply (g : FVec Ideal S1x64 .f32) (l : Fin 128) : (tile2T g (ix2 (0 : Fin 1) l) : EReal) = (g (ix2 (0 : Fin 1) (⟨l.val % 64, by omega⟩ : Fin 64)) : EReal) := by
  pointwise [tile2T]

/-- The kernel's column `n` as a column of the given weights, where it has one. -/
def colOf (n : ℕ) : ℕ :=
  if n < 2048 then n else if n < 2560 then n + 128 else if n < 2688 then 2048 + n % 64 else if n < 2816 then 2688 + n % 64
    else if n < 2944 then 2112 + n % 64 else if n < 2952 then n - 192 else n - 312

theorem cat0 (B : FVec Ideal S1024x4808 .f32) (k : Fin 1024) (n : Fin 5120) (h1 : 0 ≤ n.val) (h2 : n.val < 512) :
    (catT B (ix2 k n) : EReal) = Proj.ext (fun j : Fin 4808 => (B (ix2 k j) : EReal)) (0 + (n.val - 0)) := by
  rw [Proj.ext_of _ _ (by omega)]
  refine (concatenate_apply_piece (1 : Fin S1024x5120.rank) _ _ (ix2 k n) 0 (by show 0 < 14; decide) S1024x512 _ rfl rfl 0 (by rfl)
    (ix2 k (⟨n.val - 0, by omega⟩ : Fin 512)) (fun b hb => ?_) ?_).trans ?_
  · match b with
    | ⟨0, _⟩ => rfl
    | ⟨1, _⟩ => exact absurd rfl hb
  · show 0 + (n.val - 0) = n.val
    omega
  · refine congrArg B (funext fun a => Fin.ext ?_)
    match a with
    | ⟨0, _⟩ =>
      show 0 + k.val = k.val
      omega
    | ⟨1, _⟩ =>
      show 0 + (n.val - 0) = 0 + (n.val - 0)
      rfl

theorem cat1 (B : FVec Ideal S1024x4808 .f32) (k : Fin 1024) (n : Fin 5120) (h1 : 512 ≤ n.val) (h2 : n.val < 1024) :
    (catT B (ix2 k n) : EReal) = Proj.ext (fun j : Fin 4808 => (B (ix2 k j) : EReal)) (512 + (n.val - 512)) := by
  rw [Proj.ext_of _ _ (by omega)]
  refine (concatenate_apply_piece (1 : Fin S1024x5120.rank) _ _ (ix2 k n) 1 (by show 1 < 14; decide) S1024x512 _ rfl rfl 512 (by rfl)
    (ix2 k (⟨n.val - 512, by omega⟩ : Fin 512)) (fun b hb => ?_) ?_).trans ?_
  · match b with
    | ⟨0, _⟩ => rfl
    | ⟨1, _⟩ => exact absurd rfl hb
  · show 512 + (n.val - 512) = n.val
    omega
  · refine congrArg B (funext fun a => Fin.ext ?_)
    match a with
    | ⟨0, _⟩ =>
      show 0 + k.val = k.val
      omega
    | ⟨1, _⟩ =>
      show 512 + (n.val - 512) = 512 + (n.val - 512)
      rfl

theorem cat2 (B : FVec Ideal S1024x4808 .f32) (k : Fin 1024) (n : Fin 5120) (h1 : 1024 ≤ n.val) (h2 : n.val < 1536) :
    (catT B (ix2 k n) : EReal) = Proj.ext (fun j : Fin 4808 => (B (ix2 k j) : EReal)) (1024 + (n.val - 1024)) := by
  rw [Proj.ext_of _ _ (by omega)]
  refine (concatenate_apply_piece (1 : Fin S1024x5120.rank) _ _ (ix2 k n) 2 (by show 2 < 14; decide) S1024x512 _ rfl rfl 1024 (by rfl)
    (ix2 k (⟨n.val - 1024, by omega⟩ : Fin 512)) (fun b hb => ?_) ?_).trans ?_
  · match b with
    | ⟨0, _⟩ => rfl
    | ⟨1, _⟩ => exact absurd rfl hb
  · show 1024 + (n.val - 1024) = n.val
    omega
  · refine congrArg B (funext fun a => Fin.ext ?_)
    match a with
    | ⟨0, _⟩ =>
      show 0 + k.val = k.val
      omega
    | ⟨1, _⟩ =>
      show 1024 + (n.val - 1024) = 1024 + (n.val - 1024)
      rfl

theorem cat3 (B : FVec Ideal S1024x4808 .f32) (k : Fin 1024) (n : Fin 5120) (h1 : 1536 ≤ n.val) (h2 : n.val < 2048) :
    (catT B (ix2 k n) : EReal) = Proj.ext (fun j : Fin 4808 => (B (ix2 k j) : EReal)) (1536 + (n.val - 1536)) := by
  rw [Proj.ext_of _ _ (by omega)]
  refine (concatenate_apply_piece (1 : Fin S1024x5120.rank) _ _ (ix2 k n) 3 (by show 3 < 14; decide) S1024x512 _ rfl rfl 1536 (by rfl)
    (ix2 k (⟨n.val - 1536, by omega⟩ : Fin 512)) (fun b hb => ?_) ?_).trans ?_
  · match b with
    | ⟨0, _⟩ => rfl
    | ⟨1, _⟩ => exact absurd rfl hb
  · show 1536 + (n.val - 1536) = n.val
    omega
  · refine congrArg B (funext fun a => Fin.ext ?_)
    match a with
    | ⟨0, _⟩ =>
      show 0 + k.val = k.val
      omega
    | ⟨1, _⟩ =>
      show 1536 + (n.val - 1536) = 1536 + (n.val - 1536)
      rfl

theorem cat4 (B : FVec Ideal S1024x4808 .f32) (k : Fin 1024) (n : Fin 5120) (h1 : 2048 ≤ n.val) (h2 : n.val < 2560) :
    (catT B (ix2 k n) : EReal) = Proj.ext (fun j : Fin 4808 => (B (ix2 k j) : EReal)) (2176 + (n.val - 2048)) := by
  rw [Proj.ext_of _ _ (by omega)]
  refine (concatenate_apply_piece (1 : Fin S1024x5120.rank) _ _ (ix2 k n) 4 (by show 4 < 14; decide) S1024x512 _ rfl rfl 2048 (by rfl)
    (ix2 k (⟨n.val - 2048, by omega⟩ : Fin 512)) (fun b hb => ?_) ?_).trans ?_
  · match b with
    | ⟨0, _⟩ => rfl
    | ⟨1, _⟩ => exact absurd rfl hb
  · show 2048 + (n.val - 2048) = n.val
    omega
  · refine congrArg B (funext fun a => Fin.ext ?_)
    match a with
    | ⟨0, _⟩ =>
      show 0 + k.val = k.val
      omega
    | ⟨1, _⟩ =>
      show 2176 + (n.val - 2048) = 2176 + (n.val - 2048)
      rfl

theorem cat5 (B : FVec Ideal S1024x4808 .f32) (k : Fin 1024) (n : Fin 5120) (h1 : 2560 ≤ n.val) (h2 : n.val < 2624) :
    (catT B (ix2 k n) : EReal) = Proj.ext (fun j : Fin 4808 => (B (ix2 k j) : EReal)) (2048 + (n.val - 2560)) := by
  rw [Proj.ext_of _ _ (by omega)]
  refine (concatenate_apply_piece (1 : Fin S1024x5120.rank) _ _ (ix2 k n) 5 (by show 5 < 14; decide) S1024x64 _ rfl rfl 2560 (by rfl)
    (ix2 k (⟨n.val - 2560, by omega⟩ : Fin 64)) (fun b hb => ?_) ?_).trans ?_
  · match b with
    | ⟨0, _⟩ => rfl
    | ⟨1, _⟩ => exact absurd rfl hb
  · show 2560 + (n.val - 2560) = n.val
    omega
  · refine congrArg B (funext fun a => Fin.ext ?_)
    match a with
    | ⟨0, _⟩ =>
      show 0 + k.val = k.val
      omega
    | ⟨1, _⟩ =>
      show 2048 + (n.val - 2560) = 2048 + (n.val - 2560)
      rfl

theorem cat6 (B : FVec Ideal S1024x4808 .f32) (k : Fin 1024) (n : Fin 5120) (h1 : 2624 ≤ n.val) (h2 : n.val < 2688) :
    (catT B (ix2 k n) : EReal) = Proj.ext (fun j : Fin 4808 => (B (ix2 k j) : EReal)) (2048 + (n.val - 2624)) := by
  rw [Proj.ext_of _ _ (by omega)]
  refine (concatenate_apply_piece (1 : Fin S1024x5120.rank) _ _ (ix2 k n) 6 (by show 6 < 14; decide) S1024x64 _ rfl rfl 2624 (by rfl)
    (ix2 k (⟨n.val - 2624, by omega⟩ : Fin 64)) (fun b hb => ?_) ?_).trans ?_
  · match b with
    | ⟨0, _⟩ => rfl
    | ⟨1, _⟩ => exact absurd rfl hb
  · show 2624 + (n.val - 2624) = n.val
    omega
  · refine congrArg B (funext fun a => Fin.ext ?_)
    match a with
    | ⟨0, _⟩ =>
      show 0 + k.val = k.val
      omega
    | ⟨1, _⟩ =>
      show 2048 + (n.val - 2624) = 2048 + (n.val - 2624)
      rfl

theorem cat7 (B : FVec Ideal S1024x4808 .f32) (k : Fin 1024) (n : Fin 5120) (h1 : 2688 ≤ n.val) (h2 : n.val < 2752) :
    (catT B (ix2 k n) : EReal) = Proj.ext (fun j : Fin 4808 => (B (ix2 k j) : EReal)) (2688 + (n.val - 2688)) := by
  rw [Proj.ext_of _ _ (by omega)]
  refine (concatenate_apply_piece (1 : Fin S1024x5120.rank) _ _ (ix2 k n) 7 (by show 7 < 14; decide) S1024x64 _ rfl rfl 2688 (by rfl)
    (ix2 k (⟨n.val - 2688, by omega⟩ : Fin 64)) (fun b hb => ?_) ?_).trans ?_
  · match b with
    | ⟨0, _⟩ => rfl
    | ⟨1, _⟩ => exact absurd rfl hb
  · show 2688 + (n.val - 2688) = n.val
    omega
  · refine congrArg B (funext fun a => Fin.ext ?_)
    match a with
    | ⟨0, _⟩ =>
      show 0 + k.val = k.val
      omega
    | ⟨1, _⟩ =>
      show 2688 + (n.val - 2688) = 2688 + (n.val - 2688)
      rfl

theorem cat8 (B : FVec Ideal S1024x4808 .f32) (k : Fin 1024) (n : Fin 5120) (h1 : 2752 ≤ n.val) (h2 : n.val < 2816) :
    (catT B (ix2 k n) : EReal) = Proj.ext (fun j : Fin 4808 => (B (ix2 k j) : EReal)) (2688 + (n.val - 2752)) := by
  rw [Proj.ext_of _ _ (by omega)]
  refine (concatenate_apply_piece (1 : Fin S1024x5120.rank) _ _ (ix2 k n) 8 (by show 8 < 14; decide) S1024x64 _ rfl rfl 2752 (by rfl)
    (ix2 k (⟨n.val - 2752, by omega⟩ : Fin 64)) (fun b hb => ?_) ?_).trans ?_
  · match b with
    | ⟨0, _⟩ => rfl
    | ⟨1, _⟩ => exact absurd rfl hb
  · show 2752 + (n.val - 2752) = n.val
    omega
  · refine congrArg B (funext fun a => Fin.ext ?_)
    match a with
    | ⟨0, _⟩ =>
      show 0 + k.val = k.val
      omega
    | ⟨1, _⟩ =>
      show 2688 + (n.val - 2752) = 2688 + (n.val - 2752)
      rfl

theorem cat9 (B : FVec Ideal S1024x4808 .f32) (k : Fin 1024) (n : Fin 5120) (h1 : 2816 ≤ n.val) (h2 : n.val < 2880) :
    (catT B (ix2 k n) : EReal) = Proj.ext (fun j : Fin 4808 => (B (ix2 k j) : EReal)) (2112 + (n.val - 2816)) := by
  rw [Proj.ext_of _ _ (by omega)]
  refine (concatenate_apply_piece (1 : Fin S1024x5120.rank) _ _ (ix2 k n) 9 (by show 9 < 14; decide) S1024x64 _ rfl rfl 2816 (by rfl)
    (ix2 k (⟨n.val - 2816, by omega⟩ : Fin 64)) (fun b hb => ?_) ?_).trans ?_
  · match b with
    | ⟨0, _⟩ => rfl
    | ⟨1, _⟩ => exact absurd rfl hb
  · show 2816 + (n.val - 2816) = n.val
    omega
  · refine congrArg B (funext fun a => Fin.ext ?_)
    match a with
    | ⟨0, _⟩ =>
      show 0 + k.val = k.val
      omega
    | ⟨1, _⟩ =>
      show 2112 + (n.val - 2816) = 2112 + (n.val - 2816)
      rfl

theorem cat10 (B : FVec Ideal S1024x4808 .f32) (k : Fin 1024) (n : Fin 5120) (h1 : 2880 ≤ n.val) (h2 : n.val < 2944) :
    (catT B (ix2 k n) : EReal) = Proj.ext (fun j : Fin 4808 => (B (ix2 k j) : EReal)) (2112 + (n.val - 2880)) := by
  rw [Proj.ext_of _ _ (by omega)]
  refine (concatenate_apply_piece (1 : Fin S1024x5120.rank) _ _ (ix2 k n) 10 (by show 10 < 14; decide) S1024x64 _ rfl rfl 2880 (by rfl)
    (ix2 k (⟨n.val - 2880, by omega⟩ : Fin 64)) (fun b hb => ?_) ?_).trans ?_
  · match b with
    | ⟨0, _⟩ => rfl
    | ⟨1, _⟩ => exact absurd rfl hb
  · show 2880 + (n.val - 2880) = n.val
    omega
  · refine congrArg B (funext fun a => Fin.ext ?_)
    match a with
    | ⟨0, _⟩ =>
      show 0 + k.val = k.val
      omega
    | ⟨1, _⟩ =>
      show 2112 + (n.val - 2880) = 2112 + (n.val - 2880)
      rfl

theorem cat11 (B : FVec Ideal S1024x4808 .f32) (k : Fin 1024) (n : Fin 5120) (h1 : 2944 ≤ n.val) (h2 : n.val < 2952) :
    (catT B (ix2 k n) : EReal) = Proj.ext (fun j : Fin 4808 => (B (ix2 k j) : EReal)) (2752 + (n.val - 2944)) := by
  rw [Proj.ext_of _ _ (by omega)]
  refine (concatenate_apply_piece (1 : Fin S1024x5120.rank) _ _ (ix2 k n) 11 (by show 11 < 14; decide) S1024x8 _ rfl rfl 2944 (by rfl)
    (ix2 k (⟨n.val - 2944, by omega⟩ : Fin 8)) (fun b hb => ?_) ?_).trans ?_
  · match b with
    | ⟨0, _⟩ => rfl
    | ⟨1, _⟩ => exact absurd rfl hb
  · show 2944 + (n.val - 2944) = n.val
    omega
  · refine congrArg B (funext fun a => Fin.ext ?_)
    match a with
    | ⟨0, _⟩ =>
      show 0 + k.val = k.val
      omega
    | ⟨1, _⟩ =>
      show 2752 + (n.val - 2944) = 2752 + (n.val - 2944)
      rfl

theorem cat12 (B : FVec Ideal S1024x4808 .f32) (k : Fin 1024) (n : Fin 5120) (h1 : 2952 ≤ n.val) (h2 : n.val < 3072) :
    (catT B (ix2 k n) : EReal) = 0 := by
  refine (concatenate_apply_piece (1 : Fin S1024x5120.rank) _ _ (ix2 k n) 12 (by show 12 < 14; decide) S1024x120 _ rfl rfl 2952 (by rfl)
    (ix2 k (⟨n.val - 2952, by omega⟩ : Fin 120)) (fun b hb => ?_) ?_).trans ?_
  · match b with
    | ⟨0, _⟩ => rfl
    | ⟨1, _⟩ => exact absurd rfl hb
  · show 2952 + (n.val - 2952) = n.val
    omega
  · pointwise []

set_option maxHeartbeats 2000000 in
theorem cat13 (B : FVec Ideal S1024x4808 .f32) (k : Fin 1024) (n : Fin 5120) (h1 : 3072 ≤ n.val) (h2 : n.val < 5120) :
    (catT B (ix2 k n) : EReal) = Proj.ext (fun j : Fin 4808 => (B (ix2 k j) : EReal)) (2760 + (n.val - 3072)) := by
  rw [Proj.ext_of _ _ (by omega)]
  refine (concatenate_apply_piece (1 : Fin S1024x5120.rank) _ _ (ix2 k n) 13 (by show 13 < 14; decide) S1024x2048 _ rfl rfl 3072 (by rfl)
    (ix2 k (⟨n.val - 3072, by omega⟩ : Fin 2048)) (fun b hb => ?_) ?_).trans ?_
  · match b with
    | ⟨0, _⟩ => rfl
    | ⟨1, _⟩ => exact absurd rfl hb
  · show 3072 + (n.val - 3072) = n.val
    omega
  · refine congrArg B (funext fun a => Fin.ext ?_)
    match a with
    | ⟨0, _⟩ =>
      show 0 + k.val = k.val
      omega
    | ⟨1, _⟩ =>
      show 2760 + (n.val - 3072) = 2760 + (n.val - 3072)
      rfl

theorem catT_apply (B : FVec Ideal S1024x4808 .f32) (k : Fin 1024) (n : Fin 5120) :
    (catT B (ix2 k n) : EReal) = if 2952 ≤ n.val ∧ n.val < 3072 then 0 else Proj.ext (fun j : Fin 4808 => (B (ix2 k j) : EReal)) (colOf n.val) := by
  have hn := n.isLt
  by_cases hz : 2952 ≤ n.val ∧ n.val < 3072
  · rw [if_pos hz]
    exact cat12 B k n hz.1 hz.2
  rw [if_neg hz]
  by_cases c0 : n.val < 512
  · rw [cat0 B k n (by omega) c0]
    refine congrArg _ ?_
    unfold colOf
    split_ifs <;> omega
  by_cases c1 : n.val < 1024
  · rw [cat1 B k n (by omega) c1]
    refine congrArg _ ?_
    unfold colOf
    split_ifs <;> omega
  by_cases c2 : n.val < 1536
  · rw [cat2 B k n (by omega) c2]
    refine congrArg _ ?_
    unfold colOf
    split_ifs <;> omega
  by_cases c3 : n.val < 2048
  · rw [cat3 B k n (by omega) c3]
    refine congrArg _ ?_
    unfold colOf
    split_ifs <;> omega
  by_cases c4 : n.val < 2560
  · rw [cat4 B k n (by omega) c4]
    refine congrArg _ ?_
    unfold colOf
    split_ifs <;> omega
  by_cases c5 : n.val < 2624
  · rw [cat5 B k n (by omega) c5]
    refine congrArg _ ?_
    unfold colOf
    split_ifs <;> omega
  by_cases c6 : n.val < 2688
  · rw [cat6 B k n (by omega) c6]
    refine congrArg _ ?_
    unfold colOf
    split_ifs <;> omega
  by_cases c7 : n.val < 2752
  · rw [cat7 B k n (by omega) c7]
    refine congrArg _ ?_
    unfold colOf
    split_ifs <;> omega
  by_cases c8 : n.val < 2816
  · rw [cat8 B k n (by omega) c8]
    refine congrArg _ ?_
    unfold colOf
    split_ifs <;> omega
  by_cases c9 : n.val < 2880
  · rw [cat9 B k n (by omega) c9]
    refine congrArg _ ?_
    unfold colOf
    split_ifs <;> omega
  by_cases c10 : n.val < 2944
  · rw [cat10 B k n (by omega) c10]
    refine congrArg _ ?_
    unfold colOf
    split_ifs <;> omega
  by_cases c11 : n.val < 2952
  · rw [cat11 B k n (by omega) c11]
    refine congrArg _ ?_
    unfold colOf
    split_ifs <;> omega
  rw [cat13 B k n (by omega) (by omega)]
  refine congrArg _ ?_
  unfold colOf
  split_ifs <;> omega

theorem colsT_apply (A : FVec Ideal S1x1024x4808 .f32) (k : Fin 1024) (n : Fin 5120) :
    (colsT A (ix2 k n) : EReal) = if 2952 ≤ n.val ∧ n.val < 3072 then 0 else Proj.ext (fun j : Fin 4808 => (A (ix3 (0 : Fin 1) k j) : EReal)) (colOf n.val) := by
  have e : ∀ j : Fin 4808, shapeCast S1024x4808 A shapeCasts_S1x1024x4808_S1024x4808 (ix2 k j) = A (ix3 (0 : Fin 1) k j) := by
    intro j
    pointwise []
  refine (catT_apply _ k n).trans ?_
  rw [show (fun j : Fin 4808 => (shapeCast S1024x4808 A shapeCasts_S1x1024x4808_S1024x4808 (ix2 k j) : EReal)) = fun j => (A (ix3 (0 : Fin 1) k j) : EReal) from funext e]

end Cert.Kernel2Ideal.Block

end
-- ==== Proof.Equal2.lean ====
module

public import proofs.«01_k».proof.Proof.Out2
public import proofs.«01_k».proof.Proof.Host2

@[expose] public section

set_option maxRecDepth 16384
set_option synthInstance.maxSize 4096

/-! The kernel's parts as the reference's, from what the windows hold. -/

noncomputable section

namespace Cert.Equal2

open Idealize.ShloMosaic Idealize.ShloMosaic.TcCoe
open Cert.Kernel2Ideal.Block (colOf)
open Cert.Proj

variable (H hs : Fin 1024 → EReal) (W ws : Fin 1024 → ℕ → EReal) (C S cs sn : ℕ → EReal) (GM : ℕ → ℕ → EReal)

/-- What the windows hold, beside the reference's sequences. -/
structure Holds : Prop where
  row : H = hs
  col : ∀ k n, n < 5120 → W k n = if 2952 ≤ n ∧ n < 3072 then 0 else ws k (colOf n)
  cos : ∀ l, l < 128 → C l = cs (l % 32)
  sin : ∀ l, l < 128 → S l = sn (l % 32) * (if l % 64 < 32 then (-1 : EReal) else 1)
  group : ∀ i j : Fin 128, GM j.val i.val = if j.val / 64 = i.val / 64 then (((1 / 64 : ℝ)) : EReal) else 0
  real : ∀ n, n < 4808 → ∃ r : ℝ, pr hs ws n = (r : EReal)

variable (A : Holds H hs W ws C S cs sn GM)

include A in
theorem pr_col (n : ℕ) (hn : n < 5120) (hz : ¬(2952 ≤ n ∧ n < 3072)) : pr H W n = pr hs ws (colOf n) := by
  unfold pr
  rw [A.row]
  exact Finset.sum_congr rfl fun k _ => by rw [A.col k n hn, if_neg hz]

include A in
theorem pr_pad (n : ℕ) (hn : n < 5120) (hz : 2952 ≤ n ∧ n < 3072) : pr H W n = 0 := by
  unfold pr
  refine Finset.sum_eq_zero fun k _ => ?_
  rw [A.col k n hn, if_pos hz, mul_zero]

/-- A part of 512 columns that the kernel keeps together. -/
def Part (o o' : ℕ) : Prop := ∀ e, e < 512 → o + e < 5120 ∧ ¬(2952 ≤ o + e ∧ o + e < 3072) ∧ colOf (o + e) = o' + e ∧ o' + e < 4808

/-- A head's 64 columns that the kernel has twice. -/
def Twice (o o' : ℕ) : Prop := ∀ l e, l < 128 → e < 64 →
  o + (64 * (l / 64) + e) < 5120 ∧ ¬(2952 ≤ o + (64 * (l / 64) + e) ∧ o + (64 * (l / 64) + e) < 3072)
    ∧ colOf (o + (64 * (l / 64) + e)) = o' + e ∧ o' + e < 4808

theorem part0 : Part 0 0 := by unfold Part colOf; intro e he; split_ifs <;> omega
theorem part512 : Part 512 512 := by unfold Part colOf; intro e he; split_ifs <;> omega
theorem part1536 : Part 1536 1536 := by unfold Part colOf; intro e he; split_ifs <;> omega
theorem part2048 : Part 2048 2176 := by unfold Part colOf; intro e he; split_ifs <;> omega
theorem twice2560 : Twice 2560 2048 := by unfold Twice colOf; intro l e hl he; split_ifs <;> omega
theorem twice2688 : Twice 2688 2688 := by unfold Twice colOf; intro l e hl he; split_ifs <;> omega

include A in
theorem gain_part (o o' L : ℕ) (hL : L < 512) (hp : Part o o') (G g' : ℕ → EReal) (hG : ∀ n, n < 512 → G n = g' (n % 64)) :
    krope C S (knorm (fun j => pr H W (o + L / 128 * 128 + j)) GM (fun j => G (L / 128 * 128 + j))) (L % 128)
      = normed hs ws cs sn g' o' L := by
  have e : ∀ j, j < 128 → pr H W (o + L / 128 * 128 + j) = pr hs ws (o' + (L / 128 * 128 + j)) := by
    intro j hj
    obtain ⟨h1, h2, h3, h4⟩ := hp (L / 128 * 128 + j) (by omega)
    rw [Nat.add_assoc, pr_col H hs W ws C S cs sn GM A _ h1 h2, h3]
  rw [block_eq C S _ cs sn _ g' GM (L % 128) (by omega)
    (fun j => by
      show ∃ r : ℝ, pr H W (o + L / 128 * 128 + j.val) = (r : EReal)
      rw [e j.val j.isLt]
      exact A.real _ (hp (L / 128 * 128 + j.val) (by omega)).2.2.2)
    A.group
    (fun i => by
      show G (L / 128 * 128 + i.val) = _
      rw [hG _ (by omega)]
      exact congrArg g' (by omega))
    (A.cos _ (by omega)) (A.sin _ (by omega))]
  have e1 : L % 128 % 64 = L % 64 := by omega
  unfold normed
  rw [e1]
  refine rope_congr _ _ _ _ _ (by omega) fun j hj => ?_
  refine head_congr _ _ _ _ _ hj (fun i hi => ?_) rfl
  show pr H W (o + L / 128 * 128 + (64 * (L % 128 / 64) + i)) = _
  rw [e _ (by omega)]
  exact congrArg (pr hs ws) (by omega)

include A in
theorem bare_part (o o' L : ℕ) (hL : L < 512) (hp : Part o o') :
    krope C S (fun j => pr H W (o + L / 128 * 128 + j)) (L % 128) = bare hs ws cs sn o' L := by
  have e : ∀ j, j < 128 → pr H W (o + L / 128 * 128 + j) = pr hs ws (o' + (L / 128 * 128 + j)) := by
    intro j hj
    obtain ⟨h1, h2, h3, h4⟩ := hp (L / 128 * 128 + j) (by omega)
    rw [Nat.add_assoc, pr_col H hs W ws C S cs sn GM A _ h1 h2, h3]
  have e1 : L % 128 % 64 = L % 64 := by omega
  rw [krope_eq C S _ cs sn (fun e => pr hs ws (o' + (L / 64 * 64 + e))) (L % 128) (by omega)
    (fun i hi => by
      show _ = pr H W (o + L / 128 * 128 + (64 * (L % 128 / 64) + i))
      rw [e _ (by omega)]
      exact congrArg (pr hs ws) (by omega))
    (A.cos _ (by omega)) (A.sin _ (by omega)), e1]
  rfl

include A in
theorem gain_twice (o o' l : ℕ) (hl : l < 128) (hp : Twice o o') (G g' : ℕ → EReal) (hG : ∀ n, n < 128 → G n = g' (n % 64)) :
    krope C S (knorm (fun j => pr H W (o + j)) GM G) l = normed hs ws cs sn g' o' (l % 64) := by
  have e : ∀ l j, l < 128 → j < 64 → pr H W (o + (64 * (l / 64) + j)) = pr hs ws (o' + j) := by
    intro l j hl hj
    obtain ⟨h1, h2, h3, h4⟩ := hp l j hl hj
    rw [pr_col H hs W ws C S cs sn GM A _ h1 h2, h3]
  have e0 : l % 64 / 64 = 0 := by omega
  have e1 : l % 64 % 64 = l % 64 := by omega
  rw [block_eq C S _ cs sn _ g' GM l hl
    (fun j => by
      have h := e j.val (j.val % 64) j.isLt (by omega)
      have hj : 64 * (j.val / 64) + j.val % 64 = j.val := by omega
      rw [hj] at h
      show ∃ r : ℝ, pr H W (o + j.val) = (r : EReal)
      rw [h]
      exact A.real _ (hp j.val (j.val % 64) j.isLt (by omega)).2.2.2)
    A.group (fun i => hG _ i.isLt) (A.cos _ hl) (A.sin _ hl)]
  unfold normed
  rw [e0, e1]
  refine rope_congr _ _ _ _ _ (by omega) fun j hj => ?_
  refine head_congr _ _ _ _ _ hj (fun i hi => ?_) rfl
  show pr H W (o + (64 * (l / 64) + i)) = _
  rw [e l i hl hi, Nat.zero_mul, Nat.zero_add]

include A in
theorem bare_twice (o o' l : ℕ) (hl : l < 128) (hp : Twice o o') :
    krope C S (fun j => pr H W (o + j)) l = bare hs ws cs sn o' (l % 64) := by
  have e0 : l % 64 / 64 = 0 := by omega
  have e1 : l % 64 % 64 = l % 64 := by omega
  unfold bare
  rw [e0, e1]
  refine krope_eq C S _ cs sn _ l hl (fun i hi => ?_) (A.cos _ hl) (A.sin _ hl)
  obtain ⟨h1, h2, h3, h4⟩ := hp l i hl hi
  show pr hs ws (o' + (0 * 64 + i)) = pr H W (o + (64 * (l / 64) + i))
  rw [pr_col H hs W ws C S cs sn GM A _ h1 h2, h3, Nat.zero_mul, Nat.zero_add]

include A in
theorem pr_dv (n : ℕ) (hn : n < 512) : pr H W (1024 + n) = pr hs ws (1024 + n) := by
  rw [pr_col H hs W ws C S cs sn GM A _ (by omega) (by omega)]
  exact congrArg (pr hs ws) (by unfold colOf; split_ifs <;> omega)

include A in
theorem pr_sv (n : ℕ) (hn : n < 64) : pr H W (2816 + n) = pr hs ws (2112 + n) := by
  rw [pr_col H hs W ws C S cs sn GM A _ (by omega) (by omega)]
  exact congrArg (pr hs ws) (by unfold colOf; split_ifs <;> omega)

include A in
theorem pr_iw (n : ℕ) (hn : n < 128) : pr H W (2944 + n) = if n < 8 then pr hs ws (2752 + n) else 0 := by
  split
  · rw [pr_col H hs W ws C S cs sn GM A _ (by omega) (by omega)]
    exact congrArg (pr hs ws) (by unfold colOf; split_ifs <;> omega)
  · exact pr_pad H hs W ws C S cs sn GM A _ (by omega) (by omega)

include A in
theorem pr_gate (n : ℕ) (hn : n < 2048) : pr H W (3072 + n) = pr hs ws (2760 + n) := by
  rw [pr_col H hs W ws C S cs sn GM A _ (by omega) (by omega)]
  exact congrArg (pr hs ws) (by unfold colOf; split_ifs <;> omega)

end Cert.Equal2

end
-- ==== Proof.Read2.lean ====
module

public import proofs.«01_k».proof.Proof.Frame2Ideal
public import Idealize.ShloMosaic.Lib.Pointwise
public import Idealize.ShloMosaic.Lib.Pipeline.Value
public import Idealize.ShloMosaic.Lib.StableHlo.Run

@[expose] public section

set_option maxRecDepth 16384
set_option synthInstance.maxSize 4096

/-! The input projection's result arrays block by block, and its windows' reads. -/

noncomputable section

namespace Cert.Kernel2Ideal.Block

open Idealize.ShloMosaic Idealize.ShloMosaic.TcCoe Idealize.SL Idealize.SL.Sem
open Cert.Kernel2Ideal Cert.Kernel2Ideal.Gen
open Idealize.ShloMosaic.Pointwise
open Idealize.ShloMosaic.Pipeline (Dat)

variable (m : (ℓ : Loc nD τ sig) → Buf (Elt Ideal) ℓ) (ρ : Dev nD → PrngReg)

theorem co0 (t : Fin cfg0.N) : ((grid0.coords t) 0).val = t.val / 4 := by
  have h : t.val < 128 := lt_of_lt_of_eq t.isLt N_0
  have := Pipeline.Grid.coords_val (G := grid0) t 0 (S := 4) (B := 32) (by decide) (by decide)
  omega

theorem co1 (t : Fin cfg0.N) : ((grid0.coords t) 1).val = t.val % 4 := by
  have := Pipeline.Grid.coords_val (G := grid0) t 1 (S := 1) (B := 4) (by decide) (by decide)
  omega

theorem toN (n : ℕ) (h : n < 128) : (BitVec.ofNat 32 n).toNat = n := by
  rw [BitVec.toNat_ofNat]; omega

/-- A point's batch entry, a row of the point's block, and the block's two tiles of 256 rows. -/
def bOf (t : Fin cfg0.N) : Fin 32 := ⟨t.val / 4, by have h : t.val < 128 := lt_of_lt_of_eq t.isLt N_0; omega⟩
def rowOf (t : Fin cfg0.N) (r : Fin 512) : Fin 2048 := ⟨t.val % 4 * 512 + r.val, by omega⟩
def tileOf (t : Fin cfg0.N) (n : Fin 2) : Fin 8 := ⟨t.val % 4 * 2 + n.val, by omega⟩

theorem idx_inj13 : ∀ t t' : Fin cfg0.N, win0_13.index t = win0_13.index t' → t = t' :=
  (by decide +kernel : ∀ t t' : Fin grid0.N, win0_13.index t = win0_13.index t' → t = t')

theorem block13 (c : Dev nD) (t : Fin cfg0.N) :
    ((cfg0.win 13).blk t).view.read (Elt Ideal) ((dats m 0 c).arrAt 13 cfg0.N)
      = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 13 (fun t t' _ _ hne => (cfg0.win 13).disjoint_blk fun h => hne (idx_inj13 t t' h))
    cfg0.N t t.isLt (flush0_13 t)).trans ?_
  show (cfg0.win 13).cut (grid0.coords t) ((dats m 0 c).after 13 t) = _
  rw [after0_13]

theorem arr13 (c : Dev nD) (t : Fin cfg0.N) (r : Fin 512) (l : Fin 512) :
    ((dats m 0 c).arrAt 13 cfg0.N : Vec Ideal S32x2048x512 .bf16) (ix3 (bOf t) (rowOf t r) l)
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block13 m c t) (ix3 (0 : Fin 1) r l)
  rw [View.read_apply] at e
  refine Eq.trans (congrArg ((dats m 0 c).arrAt 13 cfg0.N : Vec Ideal S32x2048x512 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 512 + 1 * l.val
    omega

theorem idx_inj14 : ∀ t t' : Fin cfg0.N, win0_14.index t = win0_14.index t' → t = t' :=
  (by decide +kernel : ∀ t t' : Fin grid0.N, win0_14.index t = win0_14.index t' → t = t')

theorem block14 (c : Dev nD) (t : Fin cfg0.N) :
    ((cfg0.win 14).blk t).view.read (Elt Ideal) ((dats m 0 c).arrAt 14 cfg0.N)
      = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 14 (fun t t' _ _ hne => (cfg0.win 14).disjoint_blk fun h => hne (idx_inj14 t t' h))
    cfg0.N t t.isLt (flush0_14 t)).trans ?_
  show (cfg0.win 14).cut (grid0.coords t) ((dats m 0 c).after 14 t) = _
  rw [after0_14]

theorem arr14 (c : Dev nD) (t : Fin cfg0.N) (r : Fin 512) (l : Fin 512) :
    ((dats m 0 c).arrAt 14 cfg0.N : Vec Ideal S32x2048x512 .bf16) (ix3 (bOf t) (rowOf t r) l)
      = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block14 m c t) (ix3 (0 : Fin 1) r l)
  rw [View.read_apply] at e
  refine Eq.trans (congrArg ((dats m 0 c).arrAt 14 cfg0.N : Vec Ideal S32x2048x512 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 512 + 1 * l.val
    omega

theorem idx_inj15 : ∀ t t' : Fin cfg0.N, win0_15.index t = win0_15.index t' → t = t' :=
  (by decide +kernel : ∀ t t' : Fin grid0.N, win0_15.index t = win0_15.index t' → t = t')

theorem block15 (c : Dev nD) (t : Fin cfg0.N) :
    ((cfg0.win 15).blk t).view.read (Elt Ideal) ((dats m 0 c).arrAt 15 cfg0.N)
      = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 15 (fun t t' _ _ hne => (cfg0.win 15).disjoint_blk fun h => hne (idx_inj15 t t' h))
    cfg0.N t t.isLt (flush0_15 t)).trans ?_
  show (cfg0.win 15).cut (grid0.coords t) ((dats m 0 c).after 15 t) = _
  rw [after0_15]

theorem arr15 (c : Dev nD) (t : Fin cfg0.N) (h : Fin 4) (n : Fin 2) (d : Fin 128) (s : Fin 256) :
    ((dats m 0 c).arrAt 15 cfg0.N : Vec Ideal S32x4x8x128x256 .bf16) (ix5 (bOf t) h (tileOf t n) d s)
      = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix5 (0 : Fin 1) h n d s) := by
  have e := congrFun (block15 m c t) (ix5 (0 : Fin 1) h n d s)
  rw [View.read_apply] at e
  refine Eq.trans (congrArg ((dats m 0 c).arrAt 15 cfg0.N : Vec Ideal S32x4x8x128x256 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show h.val = 0 * 4 + 1 * h.val
    omega
  | ⟨2, _⟩ =>
    show t.val % 4 * 2 + n.val = (BitVec.ofNat 32 ((grid0.coords t) 1).val).toNat * 2 + 1 * n.val
    rw [co1, toN _ (by omega)]; omega
  | ⟨3, _⟩ =>
    show d.val = 0 * 128 + 1 * d.val
    omega
  | ⟨4, _⟩ =>
    show s.val = 0 * 256 + 1 * s.val
    omega

theorem idx_inj16 : ∀ t t' : Fin cfg0.N, win0_16.index t = win0_16.index t' → t = t' :=
  (by decide +kernel : ∀ t t' : Fin grid0.N, win0_16.index t = win0_16.index t' → t = t')

theorem block16 (c : Dev nD) (t : Fin cfg0.N) :
    ((cfg0.win 16).blk t).view.read (Elt Ideal) ((dats m 0 c).arrAt 16 cfg0.N)
      = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 16 (fun t t' _ _ hne => (cfg0.win 16).disjoint_blk fun h => hne (idx_inj16 t t' h))
    cfg0.N t t.isLt (flush0_16 t)).trans ?_
  show (cfg0.win 16).cut (grid0.coords t) ((dats m 0 c).after 16 t) = _
  rw [after0_16]

theorem arr16 (c : Dev nD) (t : Fin cfg0.N) (r : Fin 512) (l : Fin 512) :
    ((dats m 0 c).arrAt 16 cfg0.N : Vec Ideal S32x2048x512 .bf16) (ix3 (bOf t) (rowOf t r) l)
      = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block16 m c t) (ix3 (0 : Fin 1) r l)
  rw [View.read_apply] at e
  refine Eq.trans (congrArg ((dats m 0 c).arrAt 16 cfg0.N : Vec Ideal S32x2048x512 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 512 + 1 * l.val
    omega

theorem idx_inj17 : ∀ t t' : Fin cfg0.N, win0_17.index t = win0_17.index t' → t = t' :=
  (by decide +kernel : ∀ t t' : Fin grid0.N, win0_17.index t = win0_17.index t' → t = t')

theorem block17 (c : Dev nD) (t : Fin cfg0.N) :
    ((cfg0.win 17).blk t).view.read (Elt Ideal) ((dats m 0 c).arrAt 17 cfg0.N)
      = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 17 (fun t t' _ _ hne => (cfg0.win 17).disjoint_blk fun h => hne (idx_inj17 t t' h))
    cfg0.N t t.isLt (flush0_17 t)).trans ?_
  show (cfg0.win 17).cut (grid0.coords t) ((dats m 0 c).after 17 t) = _
  rw [after0_17]

theorem arr17 (c : Dev nD) (t : Fin cfg0.N) (r : Fin 512) (l : Fin 512) :
    ((dats m 0 c).arrAt 17 cfg0.N : Vec Ideal S32x2048x512 .bf16) (ix3 (bOf t) (rowOf t r) l)
      = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block17 m c t) (ix3 (0 : Fin 1) r l)
  rw [View.read_apply] at e
  refine Eq.trans (congrArg ((dats m 0 c).arrAt 17 cfg0.N : Vec Ideal S32x2048x512 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 512 + 1 * l.val
    omega

theorem idx_inj18 : ∀ t t' : Fin cfg0.N, win0_18.index t = win0_18.index t' → t = t' :=
  (by decide +kernel : ∀ t t' : Fin grid0.N, win0_18.index t = win0_18.index t' → t = t')

theorem block18 (c : Dev nD) (t : Fin cfg0.N) :
    ((cfg0.win 18).blk t).view.read (Elt Ideal) ((dats m 0 c).arrAt 18 cfg0.N)
      = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 18 (fun t t' _ _ hne => (cfg0.win 18).disjoint_blk fun h => hne (idx_inj18 t t' h))
    cfg0.N t t.isLt (flush0_18 t)).trans ?_
  show (cfg0.win 18).cut (grid0.coords t) ((dats m 0 c).after 18 t) = _
  rw [after0_18]

theorem arr18 (c : Dev nD) (t : Fin cfg0.N) (r : Fin 512) (l : Fin 128) :
    ((dats m 0 c).arrAt 18 cfg0.N : Vec Ideal S32x2048x128 .bf16) (ix3 (bOf t) (rowOf t r) l)
      = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block18 m c t) (ix3 (0 : Fin 1) r l)
  rw [View.read_apply] at e
  refine Eq.trans (congrArg ((dats m 0 c).arrAt 18 cfg0.N : Vec Ideal S32x2048x128 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 128 + 1 * l.val
    omega

theorem idx_inj19 : ∀ t t' : Fin cfg0.N, win0_19.index t = win0_19.index t' → t = t' :=
  (by decide +kernel : ∀ t t' : Fin grid0.N, win0_19.index t = win0_19.index t' → t = t')

theorem block19 (c : Dev nD) (t : Fin cfg0.N) :
    ((cfg0.win 19).blk t).view.read (Elt Ideal) ((dats m 0 c).arrAt 19 cfg0.N)
      = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 19 (fun t t' _ _ hne => (cfg0.win 19).disjoint_blk fun h => hne (idx_inj19 t t' h))
    cfg0.N t t.isLt (flush0_19 t)).trans ?_
  show (cfg0.win 19).cut (grid0.coords t) ((dats m 0 c).after 19 t) = _
  rw [after0_19]

theorem arr19 (c : Dev nD) (t : Fin cfg0.N) (r : Fin 512) (l : Fin 128) :
    ((dats m 0 c).arrAt 19 cfg0.N : Vec Ideal S32x2048x128 .bf16) (ix3 (bOf t) (rowOf t r) l)
      = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block19 m c t) (ix3 (0 : Fin 1) r l)
  rw [View.read_apply] at e
  refine Eq.trans (congrArg ((dats m 0 c).arrAt 19 cfg0.N : Vec Ideal S32x2048x128 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 128 + 1 * l.val
    omega

theorem idx_inj20 : ∀ t t' : Fin cfg0.N, win0_20.index t = win0_20.index t' → t = t' :=
  (by decide +kernel : ∀ t t' : Fin grid0.N, win0_20.index t = win0_20.index t' → t = t')

theorem block20 (c : Dev nD) (t : Fin cfg0.N) :
    ((cfg0.win 20).blk t).view.read (Elt Ideal) ((dats m 0 c).arrAt 20 cfg0.N)
      = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 20 (fun t t' _ _ hne => (cfg0.win 20).disjoint_blk fun h => hne (idx_inj20 t t' h))
    cfg0.N t t.isLt (flush0_20 t)).trans ?_
  show (cfg0.win 20).cut (grid0.coords t) ((dats m 0 c).after 20 t) = _
  rw [after0_20]

theorem arr20 (c : Dev nD) (t : Fin cfg0.N) (n : Fin 2) (d : Fin 64) (s : Fin 256) :
    ((dats m 0 c).arrAt 20 cfg0.N : Vec Ideal S32x8x64x256 .bf16) (ix4 (bOf t) (tileOf t n) d s)
      = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 (0 : Fin 1) n d s) := by
  have e := congrFun (block20 m c t) (ix4 (0 : Fin 1) n d s)
  rw [View.read_apply] at e
  refine Eq.trans (congrArg ((dats m 0 c).arrAt 20 cfg0.N : Vec Ideal S32x8x64x256 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 2 + n.val = (BitVec.ofNat 32 ((grid0.coords t) 1).val).toNat * 2 + 1 * n.val
    rw [co1, toN _ (by omega)]; omega
  | ⟨2, _⟩ =>
    show d.val = 0 * 64 + 1 * d.val
    omega
  | ⟨3, _⟩ =>
    show s.val = 0 * 256 + 1 * s.val
    omega

theorem idx_inj21 : ∀ t t' : Fin cfg0.N, win0_21.index t = win0_21.index t' → t = t' :=
  (by decide +kernel : ∀ t t' : Fin grid0.N, win0_21.index t = win0_21.index t' → t = t')

theorem block21 (c : Dev nD) (t : Fin cfg0.N) :
    ((cfg0.win 21).blk t).view.read (Elt Ideal) ((dats m 0 c).arrAt 21 cfg0.N)
      = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 21 (fun t t' _ _ hne => (cfg0.win 21).disjoint_blk fun h => hne (idx_inj21 t t' h))
    cfg0.N t t.isLt (flush0_21 t)).trans ?_
  show (cfg0.win 21).cut (grid0.coords t) ((dats m 0 c).after 21 t) = _
  rw [after0_21]

theorem arr21 (c : Dev nD) (t : Fin cfg0.N) (r : Fin 512) (l : Fin 128) :
    ((dats m 0 c).arrAt 21 cfg0.N : Vec Ideal S32x2048x128 .f32) (ix3 (bOf t) (rowOf t r) l)
      = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block21 m c t) (ix3 (0 : Fin 1) r l)
  rw [View.read_apply] at e
  refine Eq.trans (congrArg ((dats m 0 c).arrAt 21 cfg0.N : Vec Ideal S32x2048x128 .f32) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 128 + 1 * l.val
    omega

theorem idx_inj22 : ∀ t t' : Fin cfg0.N, win0_22.index t = win0_22.index t' → t = t' :=
  (by decide +kernel : ∀ t t' : Fin grid0.N, win0_22.index t = win0_22.index t' → t = t')

theorem block22 (c : Dev nD) (t : Fin cfg0.N) :
    ((cfg0.win 22).blk t).view.read (Elt Ideal) ((dats m 0 c).arrAt 22 cfg0.N)
      = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  refine ((dats m 0 c).read_blk_arrAt_eq_flushed 22 (fun t t' _ _ hne => (cfg0.win 22).disjoint_blk fun h => hne (idx_inj22 t t' h))
    cfg0.N t t.isLt (flush0_22 t)).trans ?_
  show (cfg0.win 22).cut (grid0.coords t) ((dats m 0 c).after 22 t) = _
  rw [after0_22]

theorem arr22 (c : Dev nD) (t : Fin cfg0.N) (r : Fin 512) (l : Fin 2048) :
    ((dats m 0 c).arrAt 22 cfg0.N : Vec Ideal S32x2048x2048 .bf16) (ix3 (bOf t) (rowOf t r) l)
      = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r l) := by
  have e := congrFun (block22 m c t) (ix3 (0 : Fin 1) r l)
  rw [View.read_apply] at e
  refine Eq.trans (congrArg ((dats m 0 c).arrAt 22 cfg0.N : Vec Ideal S32x2048x2048 .bf16) (funext fun a => Fin.ext ?_)) e
  match a with
  | ⟨0, _⟩ =>
    show t.val / 4 = (BitVec.ofNat 32 ((grid0.coords t) 0).val).toNat * 1 + 1 * 0
    rw [co0, toN _ (by have h : t.val < 128 := lt_of_lt_of_eq t.isLt N_0; omega)]; omega
  | ⟨1, _⟩ =>
    show t.val % 4 * 512 + r.val = (BitVec.ofNat 32 ((grid0.coords t) 1).val).toNat * 512 + 1 * r.val
    rw [co1, toN _ (by omega)]; omega
  | ⟨2, _⟩ =>
    show l.val = 0 * 2048 + 1 * l.val
    omega

/-! ## The windows' reads -/

theorem iblk0 (c : Dev nD) (t : Fin cfg0.N) (r : Fin 512) (l : Fin 1024) :
    (iblk m c 0 t : Vec Ideal S1x512x1024 .f32) (ix3 (0 : Fin 1) r l)
      = (m ((c : Thread nD τ).loc main_arg0) : Vec Ideal S32x2048x1024 .f32) (ix3 (bOf t) (rowOf t r) l) := by
  unfold iblk
  rw [View.read_apply]
  show V m c main_arg0 _ = _
  rw [V_main_arg0]
  refine congrArg (m ((c : Thread nD τ).loc main_arg0)) (funext fun a => Fin.ext ?_)
  match a with
  | ⟨0, _⟩ =>
    show (BitVec.ofNat 32 ((grid0.coords t) 0).val).toNat * 1 + 1 * 0 = t.val / 4
    rw [co0, toN _ (by have h : t.val < 128 := lt_of_lt_of_eq t.isLt N_0; omega)]; omega
  | ⟨1, _⟩ =>
    show (BitVec.ofNat 32 ((grid0.coords t) 1).val).toNat * 512 + 1 * r.val = t.val % 4 * 512 + r.val
    rw [co1, toN _ (by omega)]; omega
  | ⟨2, _⟩ =>
    show 0 * 1024 + 1 * l.val = l.val
    omega

theorem read1 (c : Dev nD) (t : Fin cfg0.N) (l : Fin 1024) :
    (iblk m c 1 t : Vec Ideal S1x1x1024 .f32) (ix3 (0 : Fin 1) (0 : Fin 1) l)
      = (V m c main_v0 : Vec Ideal S32x1x1024 .f32) (ix3 (bOf t) (0 : Fin 1) l) := by
  unfold iblk
  rw [View.read_apply]
  refine congrArg (V m c main_v0) (funext fun a => Fin.ext ?_)
  match a with
  | ⟨0, _⟩ =>
    show (BitVec.ofNat 32 ((grid0.coords t) 0).val).toNat * 1 + 1 * 0 = t.val / 4
    rw [co0, toN _ (by have h : t.val < 128 := lt_of_lt_of_eq t.isLt N_0; omega)]; omega
  | ⟨1, _⟩ => rfl
  | ⟨2, _⟩ =>
    show 0 * 1024 + 1 * l.val = l.val
    omega

theorem read2 (c : Dev nD) (t : Fin cfg0.N) (l : Fin 1024) :
    (iblk m c 2 t : Vec Ideal S1x1x1024 .f32) (ix3 (0 : Fin 1) (0 : Fin 1) l)
      = (V m c main_v1 : Vec Ideal S32x1x1024 .f32) (ix3 (bOf t) (0 : Fin 1) l) := by
  unfold iblk
  rw [View.read_apply]
  refine congrArg (V m c main_v1) (funext fun a => Fin.ext ?_)
  match a with
  | ⟨0, _⟩ =>
    show (BitVec.ofNat 32 ((grid0.coords t) 0).val).toNat * 1 + 1 * 0 = t.val / 4
    rw [co0, toN _ (by have h : t.val < 128 := lt_of_lt_of_eq t.isLt N_0; omega)]; omega
  | ⟨1, _⟩ => rfl
  | ⟨2, _⟩ =>
    show 0 * 1024 + 1 * l.val = l.val
    omega

theorem read4 (c : Dev nD) (t : Fin cfg0.N) (r : Fin 512) :
    (iblk m c 4 t : Vec Ideal S1x512x1 .i32) (ix3 (0 : Fin 1) r (0 : Fin 1))
      = (V m c main_v50 : Vec Ideal S32x2048x1 .i32) (ix3 (bOf t) (rowOf t r) (0 : Fin 1)) := by
  unfold iblk
  rw [View.read_apply]
  refine congrArg (V m c main_v50) (funext fun a => Fin.ext ?_)
  match a with
  | ⟨0, _⟩ =>
    show (BitVec.ofNat 32 ((grid0.coords t) 0).val).toNat * 1 + 1 * 0 = t.val / 4
    rw [co0, toN _ (by have h : t.val < 128 := lt_of_lt_of_eq t.isLt N_0; omega)]; omega
  | ⟨1, _⟩ =>
    show (BitVec.ofNat 32 ((grid0.coords t) 1).val).toNat * 512 + 1 * r.val = t.val % 4 * 512 + r.val
    rw [co1, toN _ (by omega)]; omega
  | ⟨2, _⟩ => rfl

theorem read3 (c : Dev nD) (t : Fin cfg0.N) : (iblk m c 3 t : Vec Ideal S1x1024 .f32) = V m c main_arg3 := by
  unfold iblk
  generalize V m c main_arg3 = A
  funext y
  rw [View.read_apply]
  refine congrArg A (funext fun a => Fin.ext ?_)
  match a with
  | ⟨0, _⟩ =>
    show 0 * 1 + 1 * (y 0).val = (y 0).val
    omega
  | ⟨1, _⟩ =>
    show 0 * 1024 + 1 * (y 1).val = (y 1).val
    omega

theorem read5 (c : Dev nD) (t : Fin cfg0.N) : (iblk m c 5 t : Vec Ideal S1x128 .f32) = V m c main_v19 := by
  unfold iblk
  generalize V m c main_v19 = A
  funext y
  rw [View.read_apply]
  refine congrArg A (funext fun a => Fin.ext ?_)
  match a with
  | ⟨0, _⟩ =>
    show 0 * 1 + 1 * (y 0).val = (y 0).val
    omega
  | ⟨1, _⟩ =>
    show 0 * 128 + 1 * (y 1).val = (y 1).val
    omega

theorem read6 (c : Dev nD) (t : Fin cfg0.N) : (iblk m c 6 t : Vec Ideal S1x128 .f32) = V m c main_cst_0 := by
  unfold iblk
  generalize V m c main_cst_0 = A
  funext y
  rw [View.read_apply]
  refine congrArg A (funext fun a => Fin.ext ?_)
  match a with
  | ⟨0, _⟩ =>
    show 0 * 1 + 1 * (y 0).val = (y 0).val
    omega
  | ⟨1, _⟩ =>
    show 0 * 128 + 1 * (y 1).val = (y 1).val
    omega

theorem read7 (c : Dev nD) (t : Fin cfg0.N) : (iblk m c 7 t : Vec Ideal S1x512 .f32) = V m c main_v23 := by
  unfold iblk
  generalize V m c main_v23 = A
  funext y
  rw [View.read_apply]
  refine congrArg A (funext fun a => Fin.ext ?_)
  match a with
  | ⟨0, _⟩ =>
    show 0 * 1 + 1 * (y 0).val = (y 0).val
    omega
  | ⟨1, _⟩ =>
    show 0 * 512 + 1 * (y 1).val = (y 1).val
    omega

theorem read8 (c : Dev nD) (t : Fin cfg0.N) : (iblk m c 8 t : Vec Ideal S1x512 .f32) = V m c main_v27 := by
  unfold iblk
  generalize V m c main_v27 = A
  funext y
  rw [View.read_apply]
  refine congrArg A (funext fun a => Fin.ext ?_)
  match a with
  | ⟨0, _⟩ =>
    show 0 * 1 + 1 * (y 0).val = (y 0).val
    omega
  | ⟨1, _⟩ =>
    show 0 * 512 + 1 * (y 1).val = (y 1).val
    omega

theorem read9 (c : Dev nD) (t : Fin cfg0.N) : (iblk m c 9 t : Vec Ideal S1x512 .f32) = V m c main_v31 := by
  unfold iblk
  generalize V m c main_v31 = A
  funext y
  rw [View.read_apply]
  refine congrArg A (funext fun a => Fin.ext ?_)
  match a with
  | ⟨0, _⟩ =>
    show 0 * 1 + 1 * (y 0).val = (y 0).val
    omega
  | ⟨1, _⟩ =>
    show 0 * 512 + 1 * (y 1).val = (y 1).val
    omega

theorem read10 (c : Dev nD) (t : Fin cfg0.N) : (iblk m c 10 t : Vec Ideal S1x128 .f32) = V m c main_v35 := by
  unfold iblk
  generalize V m c main_v35 = A
  funext y
  rw [View.read_apply]
  refine congrArg A (funext fun a => Fin.ext ?_)
  match a with
  | ⟨0, _⟩ =>
    show 0 * 1 + 1 * (y 0).val = (y 0).val
    omega
  | ⟨1, _⟩ =>
    show 0 * 128 + 1 * (y 1).val = (y 1).val
    omega

theorem read11 (c : Dev nD) (t : Fin cfg0.N) : (iblk m c 11 t : Vec Ideal S128x128 .bf16) = V m c main_cst := by
  unfold iblk
  generalize V m c main_cst = A
  funext y
  rw [View.read_apply]
  refine congrArg A (funext fun a => Fin.ext ?_)
  match a with
  | ⟨0, _⟩ =>
    show 0 * 128 + 1 * (y 0).val = (y 0).val
    omega
  | ⟨1, _⟩ =>
    show 0 * 128 + 1 * (y 1).val = (y 1).val
    omega

theorem read12 (c : Dev nD) (t : Fin cfg0.N) : (iblk m c 12 t : Vec Ideal S1024x5120 .bf16) = V m c main_v49 := by
  unfold iblk
  generalize V m c main_v49 = A
  funext y
  rw [View.read_apply]
  refine congrArg A (funext fun a => Fin.ext ?_)
  match a with
  | ⟨0, _⟩ =>
    show 0 * 1024 + 1 * (y 0).val = (y 0).val
    omega
  | ⟨1, _⟩ =>
    show 0 * 5120 + 1 * (y 1).val = (y 1).val
    omega

end Cert.Kernel2Ideal.Block

end
-- ==== Proof.Tables2.lean ====
module

public import proofs.«01_k».proof.Proof.Frame2Ideal
public import proofs.«01_k».proof.Proof.Proj
public import Idealize.ShloMosaic.Lib.Pointwise
public import Idealize.ShloMosaic.Lib.Pipeline.Value
public import Idealize.ShloMosaic.Lib.StableHlo.Run

@[expose] public section

set_option maxRecDepth 16384
set_option synthInstance.maxSize 4096

/-! The two constant tables of the input projection. -/

noncomputable section

namespace Cert.Kernel2Ideal.Block

open Idealize.ShloMosaic Idealize.ShloMosaic.TcCoe Idealize.SL Idealize.SL.Sem
open Cert.Kernel2Ideal Cert.Kernel2Ideal.Gen
open Idealize.ShloMosaic.Pointwise
open Idealize.ShloMosaic.Pipeline (Dat)

/-- An entry of the group matrix's table. -/
theorem lit0_eq : ∀ a b : Fin 128, lit0t (a.val * 128 + b.val) = if a.val / 64 = b.val / 64 then 0x3C80#16 else 0#16 := by
  decide +kernel

theorem lit1_eq : ∀ l : Fin 128, lit1 l = if l.val % 64 < 32 then 0xBF800000#32 else 0x3F800000#32 := by
  decide +kernel

/-- The group matrix's entries. -/
theorem gm_apply (j l : Fin 128) :
    (FloatOps.ofBits (F := Ideal) .bf16 (lit0 (S128x128.rowMajor (ix2 j l))) : EReal) = if j.val / 64 = l.val / 64 then (((1 / 64 : ℝ)) : EReal) else 0 := by
  have e : (S128x128.rowMajor (ix2 j l)).val = j.val * 128 + l.val := Shape.rowMajor_val_two _
  have e2 : lit0 (S128x128.rowMajor (ix2 j l)) = lit0t (S128x128.rowMajor (ix2 j l)).val := rfl
  rw [e2, e, lit0_eq]
  show Ideal.ofBits .bf16 _ = _
  split
  · simp [Ideal.ofBits, Ideal.ieee]
    rw [← EReal.coe_mul]
    exact congrArg Real.toEReal (by norm_num)
  · simp [Ideal.ofBits, Ideal.ieee]

/-- The rotation's signs. -/
theorem sgn_apply (l : Fin 128) :
    (FloatOps.ofBits (F := Ideal) .f32 (lit1 (S1x128.rowMajor (ix2 (0 : Fin 1) l))) : EReal) = if l.val % 64 < 32 then (-1 : EReal) else 1 := by
  have e : S1x128.rowMajor (ix2 (0 : Fin 1) l) = l := Fin.ext ((Shape.rowMajor_val_two _).trans (by show 0 * 128 + l.val = l.val; omega))
  rw [e, lit1_eq]
  show Ideal.ofBits .f32 _ = _
  split
  · simp [Ideal.ofBits, Ideal.ieee]
    rw [← EReal.coe_mul]
    exact congrArg Real.toEReal (by norm_num)
  · simp [Ideal.ofBits, Ideal.ieee]
    rw [← EReal.coe_mul]
    exact congrArg Real.toEReal (by norm_num)

end Cert.Kernel2Ideal.Block

end
-- ==== Proof.Ref2.lean ====
module

public import proofs.«01_k».proof.Proof.Gen.Reference2Ideal.Run
public import proofs.«01_k».proof.Proof.Proj

@[expose] public section

set_option maxRecDepth 16384
set_option synthInstance.maxSize 4096

/-! The input projection's reference: its parts as functions of the arguments, and each entry of them. -/

noncomputable section

namespace Cert.Reference2Ideal.Parts

open Idealize.ShloMosaic Idealize.ShloMosaic.TcCoe Idealize.SL Idealize.SL.Sem
open Cert.Reference2Ideal Cert.Reference2Ideal.Gen Cert.Reference2Ideal.Value
open Idealize.ShloMosaic.Pointwise

section Terms

variable {F : FTy → Type} [FloatOps F]

/-- The frequencies. -/
def invT : FVec F S32 .f32 :=
  Host.powf (broadcastInDim S32 ![] bcast_S_S32 (constant S_ .f32 0x461C4000#32)) (Host.negf (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))

/-- The angles. -/
def angT (A4 : IVec S32x2048 32) : FVec F S32x2048x32 .f32 :=
  mulf (broadcastInDim S32x2048x32 ![0, 1, 2] bcast_S32x2048x1_S32x2048x32_0_1_2 (broadcastInDim S32x2048x1 ![0, 1] bcast_S32x2048_S32x2048x1_0_1 (sitofp .f32 A4))) (broadcastInDim S32x2048x32 ![0, 1, 2] bcast_S1x1x32_S32x2048x32_0_1_2 (broadcastInDim S1x1x32 ![2] bcast_S32_S1x1x32_2 invT))

/-- The normed and modulated rows. -/
def rowsT (A0 : FVec F S32x2048x1024 .f32) (A1 A2 : FVec F S32x1024 .f32) (A3 : FVec F S1x1024 .f32) : FVec F S32x2048x1024 .f32 :=
  addf (mulf (mulf (mulf A0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf A0 A0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ A3 shapeCasts_S1x1024_S1024)))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 A1)))) (broadcastInDim S32x2048x1024 ![0, 1, 2] bcast_S32x1x1024_S32x2048x1024_0_1_2 (broadcastInDim S32x1x1024 ![0, 2] bcast_S32x1024_S32x1x1024_0_2 A2))

/-- The projection. -/
def projT (A0 : FVec F S32x2048x1024 .f32) (A1 A2 : FVec F S32x1024 .f32) (A3 : FVec F S1x1024 .f32)
    (A5 : FVec F S1x1024x4808 .f32) : FVec F S32x2048x4808 .f32 :=
  Host.dotGeneral dot_S32x2048x1024_S1024x4808_S32x2048x4808_2_0_01_1_n_n none (rowsT A0 A1 A2 A3) (shapeCast _ A5 shapeCasts_S1x1024x4808_S1024x4808)

/-- The heads' norm, for eight heads and for one. -/
def normT8 (y : FVec F S32x2048x8x64 .f32) (g : FVec F S1x64 .f32) : FVec F S32x2048x8x64 .f32 :=
  mulf (mulf y (broadcastInDim S32x2048x8x64 ![0, 1, 2, 3] bcast_S32x2048x8x1_S32x2048x8x64_0_1_2_3 (Host.rsqrt (addf (Host.divf (broadcastInDim S32x2048x8x1 ![0, 1, 2] bcast_S32x2048x8_S32x2048x8x1_0_1_2 (Host.reduceAdd (mulf y y) (constant S_ .f32 0x00000000#32) reducesTo_S32x2048x8x64_S32x2048x8_d3 h_S_)) (broadcastInDim S32x2048x8x1 ![] bcast_S_S32x2048x8x1 (constant S_ .f32 0x42800000#32))) (broadcastInDim S32x2048x8x1 ![] bcast_S_S32x2048x8x1 (constant S_ .f32 0x358637BD#32)))))) (broadcastInDim S32x2048x8x64 ![0, 1, 2, 3] bcast_S1x1x1x64_S32x2048x8x64_0_1_2_3 (broadcastInDim S1x1x1x64 ![3] bcast_S64_S1x1x1x64_3 (shapeCast _ g shapeCasts_S1x64_S64)))

def normT1 (y : FVec F S32x2048x1x64 .f32) (g : FVec F S1x64 .f32) : FVec F S32x2048x1x64 .f32 :=
  mulf (mulf y (broadcastInDim S32x2048x1x64 ![0, 1, 2, 3] bcast_S32x2048x1x1_S32x2048x1x64_0_1_2_3 (Host.rsqrt (addf (Host.divf (broadcastInDim S32x2048x1x1 ![0, 1, 2] bcast_S32x2048x1_S32x2048x1x1_0_1_2 (Host.reduceAdd (mulf y y) (constant S_ .f32 0x00000000#32) reducesTo_S32x2048x1x64_S32x2048x1_d3 h_S_)) (broadcastInDim S32x2048x1x1 ![] bcast_S_S32x2048x1x1 (constant S_ .f32 0x42800000#32))) (broadcastInDim S32x2048x1x1 ![] bcast_S_S32x2048x1x1 (constant S_ .f32 0x358637BD#32)))))) (broadcastInDim S32x2048x1x64 ![0, 1, 2, 3] bcast_S1x1x1x64_S32x2048x1x64_0_1_2_3 (broadcastInDim S1x1x1x64 ![3] bcast_S64_S1x1x1x64_3 (shapeCast _ g shapeCasts_S1x64_S64)))

/-- The rotation, for eight heads and for one. -/
def ropeT8 (y : FVec F S32x2048x8x64 .f32) (a : FVec F S32x2048x32 .f32) : FVec F S32x2048x8x64 .f32 :=
  concatenate S32x2048x8x64 3 [⟨S32x2048x8x32, (subf (mulf (extractStridedSlice S32x2048x8x32 ![0, 0, 0, 0] y slices_S32x2048x8x64_S32x2048x8x32_0_0_0_0) (broadcastInDim S32x2048x8x32 ![0, 1, 2, 3] bcast_S32x2048x1x32_S32x2048x8x32_0_1_2_3 (broadcastInDim S32x2048x1x32 ![0, 1, 3] bcast_S32x2048x32_S32x2048x1x32_0_1_3 (Host.cos a)))) (mulf (extractStridedSlice S32x2048x8x32 ![0, 0, 0, 32] y slices_S32x2048x8x64_S32x2048x8x32_0_0_0_32) (broadcastInDim S32x2048x8x32 ![0, 1, 2, 3] bcast_S32x2048x1x32_S32x2048x8x32_0_1_2_3 (broadcastInDim S32x2048x1x32 ![0, 1, 3] bcast_S32x2048x32_S32x2048x1x32_0_1_3 (Host.sin a)))))⟩,
    ⟨S32x2048x8x32, (addf (mulf (extractStridedSlice S32x2048x8x32 ![0, 0, 0, 32] y slices_S32x2048x8x64_S32x2048x8x32_0_0_0_32) (broadcastInDim S32x2048x8x32 ![0, 1, 2, 3] bcast_S32x2048x1x32_S32x2048x8x32_0_1_2_3 (broadcastInDim S32x2048x1x32 ![0, 1, 3] bcast_S32x2048x32_S32x2048x1x32_0_1_3 (Host.cos a)))) (mulf (extractStridedSlice S32x2048x8x32 ![0, 0, 0, 0] y slices_S32x2048x8x64_S32x2048x8x32_0_0_0_0) (broadcastInDim S32x2048x8x32 ![0, 1, 2, 3] bcast_S32x2048x1x32_S32x2048x8x32_0_1_2_3 (broadcastInDim S32x2048x1x32 ![0, 1, 3] bcast_S32x2048x32_S32x2048x1x32_0_1_3 (Host.sin a)))))⟩] concatenates_S32x2048x8x32_S32x2048x8x32_S32x2048x8x64_d3

def ropeT1 (y : FVec F S32x2048x1x64 .f32) (a : FVec F S32x2048x32 .f32) : FVec F S32x2048x64 .f32 :=
  shapeCast _ (concatenate S32x2048x1x64 3 [⟨S32x2048x1x32, (subf (mulf (extractStridedSlice S32x2048x1x32 ![0, 0, 0, 0] y slices_S32x2048x1x64_S32x2048x1x32_0_0_0_0) (broadcastInDim S32x2048x1x32 ![0, 1, 3] bcast_S32x2048x32_S32x2048x1x32_0_1_3 (Host.cos a))) (mulf (extractStridedSlice S32x2048x1x32 ![0, 0, 0, 32] y slices_S32x2048x1x64_S32x2048x1x32_0_0_0_32) (broadcastInDim S32x2048x1x32 ![0, 1, 3] bcast_S32x2048x32_S32x2048x1x32_0_1_3 (Host.sin a))))⟩,
    ⟨S32x2048x1x32, (addf (mulf (extractStridedSlice S32x2048x1x32 ![0, 0, 0, 32] y slices_S32x2048x1x64_S32x2048x1x32_0_0_0_32) (broadcastInDim S32x2048x1x32 ![0, 1, 3] bcast_S32x2048x32_S32x2048x1x32_0_1_3 (Host.cos a))) (mulf (extractStridedSlice S32x2048x1x32 ![0, 0, 0, 0] y slices_S32x2048x1x64_S32x2048x1x32_0_0_0_0) (broadcastInDim S32x2048x1x32 ![0, 1, 3] bcast_S32x2048x32_S32x2048x1x32_0_1_3 (Host.sin a))))⟩] concatenates_S32x2048x1x32_S32x2048x1x32_S32x2048x1x64_d3) shapeCasts_S32x2048x1x64_S32x2048x64

/-- A 512-column part of the projection as eight heads. -/
def headsT (o : ℕ) (p : FVec F S32x2048x4808 .f32) (h : S32x2048x4808.Slices ![0, 0, o] S32x2048x512) : FVec F S32x2048x8x64 .f32 :=
  shapeCast _ (extractStridedSlice S32x2048x512 ![0, 0, o] p h) shapeCasts_S32x2048x512_S32x2048x8x64

def headT (o : ℕ) (p : FVec F S32x2048x4808 .f32) (h : S32x2048x4808.Slices ![0, 0, o] S32x2048x64) : FVec F S32x2048x1x64 .f32 :=
  broadcastInDim S32x2048x1x64 ![0, 1, 3] bcast_S32x2048x64_S32x2048x1x64_0_1_3 (extractStridedSlice S32x2048x64 ![0, 0, o] p h)

def scaleT (y : FVec F S32x2048x8x64 .f32) : FVec F S32x2048x8x64 .f32 :=
  mulf y (broadcastInDim S32x2048x8x64 ![] bcast_S_S32x2048x8x64 (constant S_ .f32 0x3E000000#32))

def flatT (y : FVec F S32x2048x8x64 .f32) : FVec F S32x2048x512 .bf16 :=
  truncf .bf16 (shapeCast _ y shapeCasts_S32x2048x8x64_S32x2048x512) bitsLt_bf16_f32

def twiceT (y : FVec F S32x2048x64 .f32) : FVec F S32x2048x128 .bf16 :=
  truncf .bf16 (concatenate S32x2048x128 2 [⟨S32x2048x64, y⟩, ⟨S32x2048x64, y⟩] concatenates_S32x2048x64_S32x2048x64_S32x2048x128_d2) bitsLt_bf16_f32

variable (V0 : Valuation τ sig (Elt F))

abbrev A0 : FVec F S32x2048x1024 .f32 := V0 (Proc.devRef .tc main_arg0)
abbrev A1 : FVec F S32x1024 .f32 := V0 (Proc.devRef .tc main_arg1)
abbrev A2 : FVec F S32x1024 .f32 := V0 (Proc.devRef .tc main_arg2)
abbrev A3 : FVec F S1x1024 .f32 := V0 (Proc.devRef .tc main_arg3)
abbrev A4 : IVec S32x2048 32 := V0 (Proc.devRef .tc main_arg4)
abbrev A5 : FVec F S1x1024x4808 .f32 := V0 (Proc.devRef .tc main_arg5)
abbrev A6 : FVec F S1x64 .f32 := V0 (Proc.devRef .tc main_arg6)
abbrev A7 : FVec F S1x64 .f32 := V0 (Proc.devRef .tc main_arg7)
abbrev A8 : FVec F S1x64 .f32 := V0 (Proc.devRef .tc main_arg8)
abbrev A9 : FVec F S1x64 .f32 := V0 (Proc.devRef .tc main_arg9)

abbrev ang : FVec F S32x2048x32 .f32 := angT (A4 V0)
abbrev proj : FVec F S32x2048x4808 .f32 := projT (A0 V0) (A1 V0) (A2 V0) (A3 V0) (A5 V0)

theorem ang_eq : res_main_v15 V0 = ang V0 := rfl
theorem proj_eq : res_main_v41 V0 = proj V0 := rfl
theorem v66_eq : res_main_v66 V0 = normT8 (headsT 0 (proj V0) slices_S32x2048x4808_S32x2048x512_0_0_0) (A6 V0) := rfl
theorem v99_eq : res_main_v99 V0 = normT8 (headsT 512 (proj V0) slices_S32x2048x4808_S32x2048x512_0_0_512) (A7 V0) := rfl
theorem v130_eq : res_main_v130 V0 = normT8 (headsT 1536 (proj V0) slices_S32x2048x4808_S32x2048x512_0_0_1536) (A8 V0) := rfl
theorem v176_eq : res_main_v176 V0 = headsT 2176 (proj V0) slices_S32x2048x4808_S32x2048x512_0_0_2176 := rfl
theorem v175_eq : res_main_v175 V0 = ropeT1 (normT1 (headT 2048 (proj V0) slices_S32x2048x4808_S32x2048x64_0_0_2048) (A9 V0)) (ang V0) := rfl
theorem v205_eq : res_main_v205 V0 = ropeT1 (headT 2688 (proj V0) slices_S32x2048x4808_S32x2048x64_0_0_2688) (ang V0) := rfl

end Terms

/-! ## Entries -/

open Cert.Proj (eps c1024 c64 one eighth ext pr hrow head rope)

theorem inv_apply (i : Fin 32) : (invT (F := Ideal) (ix1 i) : EReal) = Proj.inv i := by
  unfold Proj.inv
  pointwise [invT]
  rfl

theorem ang_apply (A4 : IVec S32x2048 32) (b : Fin 32) (t : Fin 2048) (i : Fin 32) :
    (angT (F := Ideal) A4 (ix3 b t i) : EReal) = (((A4 (ix2 b t)).toInt : ℝ) : EReal) * Proj.inv i := by
  rw [← inv_apply]
  pointwise [angT]
  rfl

theorem rows_apply (A0 : FVec Ideal S32x2048x1024 .f32) (A1 A2 : FVec Ideal S32x1024 .f32) (A3 : FVec Ideal S1x1024 .f32)
    (b : Fin 32) (t : Fin 2048) (k : Fin 1024) :
    (rowsT A0 A1 A2 A3 (ix3 b t k) : EReal) = hrow (fun j => (A0 (ix3 b t j) : EReal)) (fun j => (A3 (ix2 (0 : Fin 1) j) : EReal))
      (fun j => (A1 (ix2 b j) : EReal)) (fun j => (A2 (ix2 b j) : EReal)) k := by
  unfold hrow
  pointwise [rowsT]

theorem proj_apply (A0 : FVec Ideal S32x2048x1024 .f32) (A1 A2 : FVec Ideal S32x1024 .f32) (A3 : FVec Ideal S1x1024 .f32)
    (A5 : FVec Ideal S1x1024x4808 .f32) (b : Fin 32) (t : Fin 2048) (n : Fin 4808) :
    (projT A0 A1 A2 A3 A5 (ix3 b t n) : EReal) = ∑ k : Fin 1024, (rowsT A0 A1 A2 A3 (ix3 b t k) : EReal) * (A5 (ix3 (0 : Fin 1) k n) : EReal) := by
  pointwise [projT]

theorem norm8_apply (y : FVec Ideal S32x2048x8x64 .f32) (g : FVec Ideal S1x64 .f32) (b : Fin 32) (t : Fin 2048) (h : Fin 8) (e : Fin 64) :
    (normT8 y g (ix4 b t h e) : EReal) = (y (ix4 b t h e) : EReal) * Ideal.rsqrt (Ideal.div (∑ j : Fin 64, (y (ix4 b t h j) : EReal) * (y (ix4 b t h j) : EReal)) c64 + eps)
      * (g (ix2 (0 : Fin 1) e) : EReal) := by
  pointwise [normT8]

theorem norm1_apply (y : FVec Ideal S32x2048x1x64 .f32) (g : FVec Ideal S1x64 .f32) (b : Fin 32) (t : Fin 2048) (e : Fin 64) :
    (normT1 y g (ix4 b t (0 : Fin 1) e) : EReal) = (y (ix4 b t (0 : Fin 1) e) : EReal) * Ideal.rsqrt (Ideal.div (∑ j : Fin 64, (y (ix4 b t (0 : Fin 1) j) : EReal) * (y (ix4 b t (0 : Fin 1) j) : EReal)) c64 + eps)
      * (g (ix2 (0 : Fin 1) e) : EReal) := by
  pointwise [normT1]

theorem rope8_apply (y : FVec Ideal S32x2048x8x64 .f32) (a : FVec Ideal S32x2048x32 .f32) (b : Fin 32) (t : Fin 2048) (h : Fin 8) (e : Fin 64) :
    (ropeT8 y a (ix4 b t h e) : EReal) = rope (ext fun i : Fin 32 => Ideal.cos (a (ix3 b t i) : EReal)) (ext fun i : Fin 32 => Ideal.sin (a (ix3 b t i) : EReal))
      (ext fun j : Fin 64 => (y (ix4 b t h j) : EReal)) e.val := by
  unfold rope
  pointwise [ropeT8]
  by_cases hlt : e.val < 32
  · rw [dif_pos hlt, if_pos hlt, Proj.ext_of _ _ e.isLt, Proj.ext_of _ _ hlt, Proj.ext_of _ _ (show e.val + 32 < 64 by omega), Proj.ext_of _ _ hlt]
    have e1 : (⟨32 + e.val, by omega⟩ : Fin 64) = ⟨e.val + 32, by omega⟩ := Fin.ext (Nat.add_comm _ _)
    rw [← e1]
  · have h32 : e.val - 32 < 32 := by omega
    rw [dif_neg hlt, if_neg hlt, Proj.ext_of _ _ e.isLt, Proj.ext_of _ _ h32, Proj.ext_of _ _ (show e.val - 32 < 64 by omega), Proj.ext_of _ _ h32]
    have e1 : (⟨32 + (e.val - 32), by omega⟩ : Fin 64) = e := Fin.ext (by show 32 + (e.val - 32) = e.val; omega)
    rw [e1]

theorem rope1_apply (y : FVec Ideal S32x2048x1x64 .f32) (a : FVec Ideal S32x2048x32 .f32) (b : Fin 32) (t : Fin 2048) (e : Fin 64) :
    (ropeT1 y a (ix3 b t e) : EReal) = rope (ext fun i : Fin 32 => Ideal.cos (a (ix3 b t i) : EReal)) (ext fun i : Fin 32 => Ideal.sin (a (ix3 b t i) : EReal))
      (ext fun j : Fin 64 => (y (ix4 b t (0 : Fin 1) j) : EReal)) e.val := by
  unfold rope
  pointwise [ropeT1]
  by_cases hlt : e.val < 32
  · rw [dif_pos hlt, if_pos hlt, Proj.ext_of _ _ e.isLt, Proj.ext_of _ _ hlt, Proj.ext_of _ _ (show e.val + 32 < 64 by omega), Proj.ext_of _ _ hlt]
    have e1 : (⟨32 + e.val, by omega⟩ : Fin 64) = ⟨e.val + 32, by omega⟩ := Fin.ext (Nat.add_comm _ _)
    rw [← e1]
  · have h32 : e.val - 32 < 32 := by omega
    rw [dif_neg hlt, if_neg hlt, Proj.ext_of _ _ e.isLt, Proj.ext_of _ _ h32, Proj.ext_of _ _ (show e.val - 32 < 64 by omega), Proj.ext_of _ _ h32]
    have e1 : (⟨32 + (e.val - 32), by omega⟩ : Fin 64) = e := Fin.ext (by show 32 + (e.val - 32) = e.val; omega)
    rw [e1]

theorem flat_apply (y : FVec Ideal S32x2048x8x64 .f32) (b : Fin 32) (t : Fin 2048) (l : Fin 512) :
    (flatT y (ix3 b t l) : EReal) = (y (ix4 b t (⟨l.val / 64, by omega⟩ : Fin 8) (⟨l.val % 64, by omega⟩ : Fin 64)) : EReal) := by
  pointwise [flatT]

theorem heads_apply (o : ℕ) (p : FVec Ideal S32x2048x4808 .f32) (hs) (ho : o + 512 ≤ 4808) (b : Fin 32) (t : Fin 2048) (h : Fin 8) (e : Fin 64) :
    (headsT o p hs (ix4 b t h e) : EReal) = (p (ix3 b t (⟨o + (h.val * 64 + e.val), by omega⟩ : Fin 4808)) : EReal) := by
  pointwise [headsT]

theorem head_apply (o : ℕ) (p : FVec Ideal S32x2048x4808 .f32) (hs) (ho : o + 64 ≤ 4808) (b : Fin 32) (t : Fin 2048) (e : Fin 64) :
    (headT o p hs (ix4 b t (0 : Fin 1) e) : EReal) = (p (ix3 b t (⟨o + e.val, by omega⟩ : Fin 4808)) : EReal) := by
  pointwise [headT]

theorem scale_apply (y : FVec Ideal S32x2048x8x64 .f32) (b : Fin 32) (t : Fin 2048) (h : Fin 8) (e : Fin 64) :
    (scaleT y (ix4 b t h e) : EReal) = (y (ix4 b t h e) : EReal) * eighth := by
  pointwise [scaleT]

theorem twice_apply (y : FVec Ideal S32x2048x64 .f32) (b : Fin 32) (t : Fin 2048) (l : Fin 128) :
    (twiceT y (ix3 b t l) : EReal) = (y (ix3 b t (⟨l.val % 64, by omega⟩ : Fin 64)) : EReal) := by
  pointwise [twiceT]
  have hl := l.isLt
  split
  · rename_i h
    exact congrArg (fun z => y (ix3 b t z)) (Fin.ext (by show l.val = l.val % 64; omega))
  · rename_i h
    exact congrArg (fun z => y (ix3 b t z)) (Fin.ext (by show l.val - 64 = l.val % 64; omega))

/-! ## The parts' entries from the arguments -/

section Results

variable (B0 : FVec Ideal S32x2048x1024 .f32) (B1 B2 : FVec Ideal S32x1024 .f32) (B3 : FVec Ideal S1x1024 .f32) (B4 : IVec S32x2048 32)
  (B5 : FVec Ideal S1x1024x4808 .f32) (g : FVec Ideal S1x64 .f32) (b : Fin 32) (t : Fin 2048)

/-- The row, the columns, the rotation's factors and a gain, as sequences. -/
abbrev hs : Fin 1024 → EReal := hrow (fun j => (B0 (ix3 b t j) : EReal)) (fun j => (B3 (ix2 (0 : Fin 1) j) : EReal))
  (fun j => (B1 (ix2 b j) : EReal)) (fun j => (B2 (ix2 b j) : EReal))
abbrev ws : Fin 1024 → ℕ → EReal := fun k => ext fun n : Fin 4808 => (B5 (ix3 (0 : Fin 1) k n) : EReal)
abbrev cs : ℕ → EReal := ext fun i : Fin 32 => Ideal.cos ((((B4 (ix2 b t)).toInt : ℝ) : EReal) * Proj.inv i)
abbrev sn : ℕ → EReal := ext fun i : Fin 32 => Ideal.sin ((((B4 (ix2 b t)).toInt : ℝ) : EReal) * Proj.inv i)
abbrev gs : ℕ → EReal := ext fun e : Fin 64 => (g (ix2 (0 : Fin 1) e) : EReal)

theorem proj_at (n : ℕ) (h : n < 4808) :
    (projT B0 B1 B2 B3 B5 (ix3 b t (⟨n, h⟩ : Fin 4808)) : EReal) = pr (hs B0 B1 B2 B3 b t) (ws B5) n := by
  rw [proj_apply]
  unfold pr
  refine Finset.sum_congr rfl fun k _ => ?_
  rw [rows_apply]
  exact congrArg (_ * ·) (Proj.ext_of (fun n : Fin 4808 => (B5 (ix3 (0 : Fin 1) k n) : EReal)) n h).symm

theorem cs_eq : (ext fun i : Fin 32 => Ideal.cos (angT (F := Ideal) B4 (ix3 b t i) : EReal)) = cs B4 b t := by
  unfold cs
  exact congrArg ext (funext fun i => by rw [ang_apply])

theorem sn_eq : (ext fun i : Fin 32 => Ideal.sin (angT (F := Ideal) B4 (ix3 b t i) : EReal)) = sn B4 b t := by
  unfold sn
  exact congrArg ext (funext fun i => by rw [ang_apply])

theorem normed_apply (o : ℕ) (hsl) (ho : o + 512 ≤ 4808) (l : Fin 512) :
    (flatT (ropeT8 (normT8 (headsT o (projT B0 B1 B2 B3 B5) hsl) g) (angT B4)) (ix3 b t l) : EReal)
      = Proj.normed (hs B0 B1 B2 B3 b t) (ws B5) (cs B4 b t) (sn B4 b t) (gs g) o l.val := by
  rw [flat_apply, rope8_apply, cs_eq, sn_eq]
  unfold Proj.normed
  refine Proj.rope_congr _ _ _ _ _ (by show l.val % 64 < 64; omega) fun j hj => ?_
  rw [Proj.ext_of _ j hj, norm8_apply]
  unfold head
  have hp : ∀ e : Fin 64, (headsT o (projT B0 B1 B2 B3 B5) hsl (ix4 b t (⟨l.val / 64, by omega⟩ : Fin 8) e) : EReal)
      = pr (hs B0 B1 B2 B3 b t) (ws B5) (o + (l.val / 64 * 64 + e.val)) := fun e => by
    rw [heads_apply o _ hsl ho, proj_at]
  rw [hp, Finset.sum_congr rfl fun e _ => by rw [hp e]]
  exact congrArg (_ * ·) (Proj.ext_of (fun e : Fin 64 => (g (ix2 (0 : Fin 1) e) : EReal)) j hj).symm

theorem scaled_apply (o : ℕ) (hsl) (ho : o + 512 ≤ 4808) (l : Fin 512) :
    (flatT (scaleT (ropeT8 (normT8 (headsT o (projT B0 B1 B2 B3 B5) hsl) g) (angT B4))) (ix3 b t l) : EReal)
      = Proj.normed (hs B0 B1 B2 B3 b t) (ws B5) (cs B4 b t) (sn B4 b t) (gs g) o l.val * eighth := by
  have h := normed_apply B0 B1 B2 B3 B4 B5 g b t o hsl ho l
  rw [flat_apply] at h
  rw [flat_apply, scale_apply, h]

theorem bare_apply (o : ℕ) (hsl) (ho : o + 512 ≤ 4808) (l : Fin 512) :
    (flatT (ropeT8 (headsT o (projT B0 B1 B2 B3 B5) hsl) (angT B4)) (ix3 b t l) : EReal)
      = Proj.bare (hs B0 B1 B2 B3 b t) (ws B5) (cs B4 b t) (sn B4 b t) o l.val := by
  rw [flat_apply, rope8_apply, cs_eq, sn_eq]
  unfold Proj.bare
  refine Proj.rope_congr _ _ _ _ _ (by show l.val % 64 < 64; omega) fun j hj => ?_
  rw [Proj.ext_of _ j hj, heads_apply o _ hsl ho, proj_at]

theorem normed1_apply (o : ℕ) (hsl) (ho : o + 64 ≤ 4808) (l : Fin 128) :
    (twiceT (ropeT1 (normT1 (headT o (projT B0 B1 B2 B3 B5) hsl) g) (angT B4)) (ix3 b t l) : EReal)
      = Proj.normed (hs B0 B1 B2 B3 b t) (ws B5) (cs B4 b t) (sn B4 b t) (gs g) o (l.val % 64) := by
  have e0 : l.val % 64 / 64 = 0 := by omega
  have e1 : l.val % 64 % 64 = l.val % 64 := by omega
  rw [twice_apply, rope1_apply, cs_eq, sn_eq]
  unfold Proj.normed
  rw [e0, e1]
  refine Proj.rope_congr _ _ _ _ _ (by show l.val % 64 < 64; omega) fun j hj => ?_
  rw [Proj.ext_of _ j hj, norm1_apply]
  unfold head
  have hp : ∀ e : Fin 64, (headT o (projT B0 B1 B2 B3 B5) hsl (ix4 b t (0 : Fin 1) e) : EReal)
      = pr (hs B0 B1 B2 B3 b t) (ws B5) (o + (0 * 64 + e.val)) := fun e => by
    rw [head_apply o _ hsl ho, proj_at, Nat.zero_mul, Nat.zero_add]
  rw [hp, Finset.sum_congr rfl fun e _ => by rw [hp e]]
  exact congrArg (_ * ·) (Proj.ext_of (fun e : Fin 64 => (g (ix2 (0 : Fin 1) e) : EReal)) j hj).symm

theorem bare1_apply (o : ℕ) (hsl) (ho : o + 64 ≤ 4808) (l : Fin 128) :
    (twiceT (ropeT1 (headT o (projT B0 B1 B2 B3 B5) hsl) (angT B4)) (ix3 b t l) : EReal)
      = Proj.bare (hs B0 B1 B2 B3 b t) (ws B5) (cs B4 b t) (sn B4 b t) o (l.val % 64) := by
  have e0 : l.val % 64 / 64 = 0 := by omega
  have e1 : l.val % 64 % 64 = l.val % 64 := by omega
  rw [twice_apply, rope1_apply, cs_eq, sn_eq]
  unfold Proj.bare
  rw [e0, e1]
  refine Proj.rope_congr _ _ _ _ _ (by show l.val % 64 < 64; omega) fun j hj => ?_
  rw [Proj.ext_of _ j hj, head_apply o _ hsl ho, proj_at, Nat.zero_mul, Nat.zero_add]

end Results

/-! ## The parts that are only laid out -/

def dvT (p : FVec Ideal S32x2048x4808 .f32) : FVec Ideal S32x4x8x128x256 .bf16 :=
  truncf .bf16 (transpose S32x4x8x128x256 [0, 3, 1, 4, 2] (shapeCast _ (extractStridedSlice S32x2048x512 ![0, 0, 1024] p slices_S32x2048x4808_S32x2048x512_0_0_1024) shapeCasts_S32x2048x512_S32x8x256x4x128) transposes_S32x8x256x4x128_S32x4x8x128x256_0_3_1_4_2) bitsLt_bf16_f32

def svT (p : FVec Ideal S32x2048x4808 .f32) : FVec Ideal S32x8x64x256 .bf16 :=
  truncf .bf16 (transpose S32x8x64x256 [0, 1, 3, 2] (shapeCast _ (extractStridedSlice S32x2048x64 ![0, 0, 2112] p slices_S32x2048x4808_S32x2048x64_0_0_2112) shapeCasts_S32x2048x64_S32x8x256x64) transposes_S32x8x256x64_S32x8x64x256_0_1_3_2) bitsLt_bf16_f32

def iwT (p : FVec Ideal S32x2048x4808 .f32) : FVec Ideal S32x2048x128 .f32 :=
  concatenate S32x2048x128 2 [⟨S32x2048x8, (extractStridedSlice S32x2048x8 ![0, 0, 2752] p slices_S32x2048x4808_S32x2048x8_0_0_2752)⟩, ⟨S32x2048x120, (broadcastInDim S32x2048x120 ![] bcast_S_S32x2048x120 (constant S_ .f32 0x00000000#32))⟩] concatenates_S32x2048x8_S32x2048x120_S32x2048x128_d2

def gateT (p : FVec Ideal S32x2048x4808 .f32) : FVec Ideal S32x2048x2048 .bf16 :=
  truncf .bf16 (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (extractStridedSlice S32x2048x2048 ![0, 0, 2760] p slices_S32x2048x4808_S32x2048x2048_0_0_2760))))) bitsLt_bf16_f32

theorem dv_apply (p : FVec Ideal S32x2048x4808 .f32) (b : Fin 32) (h : Fin 4) (n : Fin 8) (d : Fin 128) (s : Fin 256) :
    (dvT p (ix5 b h n d s) : EReal) = (p (ix3 b (⟨n.val * 256 + s.val, by omega⟩ : Fin 2048) (⟨1024 + (h.val * 128 + d.val), by omega⟩ : Fin 4808)) : EReal) := by
  pointwise [dvT]

theorem sv_apply (p : FVec Ideal S32x2048x4808 .f32) (b : Fin 32) (n : Fin 8) (d : Fin 64) (s : Fin 256) :
    (svT p (ix4 b n d s) : EReal) = (p (ix3 b (⟨n.val * 256 + s.val, by omega⟩ : Fin 2048) (⟨2112 + d.val, by omega⟩ : Fin 4808)) : EReal) := by
  pointwise [svT]

theorem iw_apply (p : FVec Ideal S32x2048x4808 .f32) (b : Fin 32) (t : Fin 2048) (l : Fin 128) :
    (iwT p (ix3 b t l) : EReal) = if h : l.val < 8 then (p (ix3 b t (⟨2752 + l.val, by omega⟩ : Fin 4808)) : EReal) else 0 := by
  pointwise [iwT]

theorem gate_apply (p : FVec Ideal S32x2048x4808 .f32) (b : Fin 32) (t : Fin 2048) (l : Fin 2048) :
    (gateT p (ix3 b t l) : EReal) = Ideal.logistic (p (ix3 b t (⟨2760 + l.val, by omega⟩ : Fin 4808)) : EReal) := by
  unfold Ideal.logistic
  pointwise [gateT]

end Cert.Reference2Ideal.Parts

end
-- ==== Proof.Holds2.lean ====
module

public import proofs.«01_k».proof.Proof.Equal2
public import proofs.«01_k».proof.Proof.Read2
public import proofs.«01_k».proof.Proof.Tables2
public import proofs.«01_k».proof.Proof.Ref2

@[expose] public section

set_option maxRecDepth 16384
set_option synthInstance.maxSize 4096

/-! What a point's windows hold, from the arguments. -/

noncomputable section

namespace Cert.Equal2

open Idealize.ShloMosaic Idealize.ShloMosaic.TcCoe Idealize.SL Idealize.SL.Sem
open Cert.Kernel2Ideal Cert.Kernel2Ideal.Gen Cert.Kernel2Ideal.Block
open Cert.Reference2Ideal.Parts (hs ws cs sn gs)
open Idealize.ShloMosaic.Pointwise
open Cert.Proj (ext pr hrow)

theorem ld0 (x : Vec Ideal S1x512x1024 .f32) : View.ld x r0_0 = x := by
  funext y
  refine congrArg x (funext fun a => Fin.ext ?_)
  match a with
  | ⟨0, _⟩ =>
    show 0 + 1 * (y 0).val = (y 0).val
    omega
  | ⟨1, _⟩ =>
    show 0 + 1 * (y 1).val = (y 1).val
    omega
  | ⟨2, _⟩ =>
    show 0 + 1 * (y 2).val = (y 2).val
    omega

theorem ld1 (x : Vec Ideal S1x1024 .f32) : View.ld x r0_1 = x := by
  funext y
  refine congrArg x (funext fun a => Fin.ext ?_)
  match a with
  | ⟨0, _⟩ =>
    show 0 + 1 * (y 0).val = (y 0).val
    omega
  | ⟨1, _⟩ =>
    show 0 + 1 * (y 1).val = (y 1).val
    omega

theorem ld2 (x : Vec Ideal S1x1x1024 .f32) : View.ld x r0_2 = x := by
  funext y
  refine congrArg x (funext fun a => Fin.ext ?_)
  match a with
  | ⟨0, _⟩ =>
    show 0 + 1 * (y 0).val = (y 0).val
    omega
  | ⟨1, _⟩ =>
    show 0 + 1 * (y 1).val = (y 1).val
    omega
  | ⟨2, _⟩ =>
    show 0 + 1 * (y 2).val = (y 2).val
    omega

theorem ld3 (x : Vec Ideal S1x512x1 .i32) : View.ld x r0_3 = x := by
  funext y
  refine congrArg x (funext fun a => Fin.ext ?_)
  match a with
  | ⟨0, _⟩ =>
    show 0 + 1 * (y 0).val = (y 0).val
    omega
  | ⟨1, _⟩ =>
    show 0 + 1 * (y 1).val = (y 1).val
    omega
  | ⟨2, _⟩ =>
    show 0 + 1 * (y 2).val = (y 2).val
    omega

theorem ld4 (x : Vec Ideal S1x128 .f32) : View.ld x r0_4 = x := by
  funext y
  refine congrArg x (funext fun a => Fin.ext ?_)
  match a with
  | ⟨0, _⟩ =>
    show 0 + 1 * (y 0).val = (y 0).val
    omega
  | ⟨1, _⟩ =>
    show 0 + 1 * (y 1).val = (y 1).val
    omega

section Terms

variable (x0 : Vec Ideal S1x512x1024 .f32) (x1 : Vec Ideal S1x1x1024 .f32) (x2 : Vec Ideal S1x1x1024 .f32) (x3 : Vec Ideal S1x1024 .f32)
  (x4 : Vec Ideal S1x512x1 .i32) (x5 : Vec Ideal S1x128 .f32) (x6 : Vec Ideal S1x128 .f32) (x7 x8 x9 : Vec Ideal S1x512 .f32) (x10 : Vec Ideal S1x128 .f32)
  (x11 : Vec Ideal S128x128 .bf16) (x12 : Vec Ideal S1024x5120 .bf16) (r : Fin 512)

theorem hid_eq (k : Fin 1024) : (hidT x0 x1 x2 x3 x4 x5 x6 x7 x8 x9 x10 x11 x12 (ix2 r k) : EReal)
    = hrow (fun j => (x0 (ix3 (0 : Fin 1) r j) : EReal)) (fun j => (x3 (ix2 (0 : Fin 1) j) : EReal))
        (fun j => (x1 (ix3 (0 : Fin 1) (0 : Fin 1) j) : EReal)) (fun j => (x2 (ix3 (0 : Fin 1) (0 : Fin 1) j) : EReal)) k := by
  show (k0_pay3 (View.ld x0 r0_0) (View.ld x3 r0_1) (View.ld x1 r0_2) (View.ld x2 r0_2) (ix2 r k) : EReal) = _
  rw [ld0, ld1, ld2, ld2, hid_apply]
  rfl

theorem cos_eq (l : Fin 128) : (cosT x0 x1 x2 x3 x4 x5 x6 x7 x8 x9 x10 x11 x12 (ix2 r l) : EReal)
    = Ideal.cos ((((x4 (ix3 (0 : Fin 1) r (0 : Fin 1)) : BitVec 32).toInt : ℝ) : EReal) * (x5 (ix2 (0 : Fin 1) l) : EReal)) := by
  show (k0_pay5 (View.ld x4 r0_3) (View.ld x5 r0_4) (ix2 r l) : EReal) = _
  rw [ld3, ld4, cos_apply]
  rfl

theorem sin_eq (l : Fin 128) : (sinT x0 x1 x2 x3 x4 x5 x6 x7 x8 x9 x10 x11 x12 (ix2 r l) : EReal)
    = Ideal.sin ((((x4 (ix3 (0 : Fin 1) r (0 : Fin 1)) : BitVec 32).toInt : ℝ) : EReal) * (x5 (ix2 (0 : Fin 1) l) : EReal)) * (x6 (ix2 (0 : Fin 1) l) : EReal) := by
  show (k0_pay7 (k0_pay6 (View.ld x4 r0_3) (View.ld x5 r0_4)) (View.ld x6 r0_4) (ix2 r l) : EReal) = _
  rw [ld3, ld4, ld4, sin_apply]
  rfl

end Terms

section Blocks

variable (m : (ℓ : Loc nD τ sig) → Buf (Elt Ideal) ℓ) (c : Dev nD)
  (A0 : FVec Ideal S32x2048x1024 .f32) (A1 A2 : FVec Ideal S32x1024 .f32) (A3 : FVec Ideal S1x1024 .f32) (A4 : IVec S32x2048 32)
  (A5 : FVec Ideal S1x1024x4808 .f32) (A6 A7 A8 A9 : FVec Ideal S1x64 .f32)

/-- The launch holds these arguments. -/
structure Args : Prop where
  e0 : m ((c : Thread nD τ).loc main_arg0) = A0
  e1 : m ((c : Thread nD τ).loc main_arg1) = A1
  e2 : m ((c : Thread nD τ).loc main_arg2) = A2
  e3 : m ((c : Thread nD τ).loc main_arg3) = A3
  e4 : m ((c : Thread nD τ).loc main_arg4) = A4
  e5 : m ((c : Thread nD τ).loc main_arg5) = A5
  e6 : m ((c : Thread nD τ).loc main_arg6) = A6
  e7 : m ((c : Thread nD τ).loc main_arg7) = A7
  e8 : m ((c : Thread nD τ).loc main_arg8) = A8
  e9 : m ((c : Thread nD τ).loc main_arg9) = A9

/-- The arguments that the squares are taken of are real. -/
structure Reals : Prop where
  h0 : ∀ i, ∃ r : ℝ, (A0 i : EReal) = (r : EReal)
  h1 : ∀ i, ∃ r : ℝ, (A1 i : EReal) = (r : EReal)
  h2 : ∀ i, ∃ r : ℝ, (A2 i : EReal) = (r : EReal)
  h3 : ∀ i, ∃ r : ℝ, (A3 i : EReal) = (r : EReal)
  h5 : ∀ i, ∃ r : ℝ, (A5 i : EReal) = (r : EReal)

variable (E : Args m c A0 A1 A2 A3 A4 A5 A6 A7 A8 A9) (R : Reals A0 A1 A2 A3 A5) (t : Fin cfg0.N) (r : Fin 512)

include E in
theorem hold1 (j : Fin 1024) : ((iblk m c 1 t : Vec Ideal S1x1x1024 .f32) (ix3 (0 : Fin 1) (0 : Fin 1) j) : EReal) = (A1 (ix2 (bOf t) j) : EReal) := by
  rw [read1, V_v0, E.e1]
  pointwise []

include E in
theorem hold2 (j : Fin 1024) : ((iblk m c 2 t : Vec Ideal S1x1x1024 .f32) (ix3 (0 : Fin 1) (0 : Fin 1) j) : EReal) = (A2 (ix2 (bOf t) j) : EReal) := by
  rw [read2, V_v1, E.e2]
  pointwise []

include E in
theorem hold4 : ((iblk m c 4 t : Vec Ideal S1x512x1 .i32) (ix3 (0 : Fin 1) r (0 : Fin 1)) : BitVec 32) = A4 (ix2 (bOf t) (rowOf t r)) := by
  rw [read4, V_v50, E.e4]
  pointwise []

include E R in
/-- What a point's windows hold, beside the reference's sequences. -/
theorem holds : Holds (Hb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r) (hs A0 A1 A2 A3 (bOf t) (rowOf t r)) (Wb (iblk m c 12 t)) (ws A5)
    (Cb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r) (Sb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r) (cs A4 (bOf t) (rowOf t r)) (sn A4 (bOf t) (rowOf t r)) (gmN (iblk m c 11 t)) where
  row := by
    funext k
    refine (hid_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r k).trans ?_
    have h0 : (fun j => ((iblk m c 0 t : Vec Ideal S1x512x1024 .f32) (ix3 (0 : Fin 1) r j) : EReal)) = fun j => (A0 (ix3 (bOf t) (rowOf t r) j) : EReal) :=
      funext fun j => by rw [iblk0, E.e0]
    have h3 : (fun j : Fin 1024 => ((iblk m c 3 t : Vec Ideal S1x1024 .f32) (ix2 (0 : Fin 1) j) : EReal)) = fun j => (A3 (ix2 (0 : Fin 1) j) : EReal) :=
      funext fun j => by rw [read3, V_main_arg3, E.e3]
    have h1 := funext fun j => hold1 m c A0 A1 A2 A3 A4 A5 A6 A7 A8 A9 E t j
    have h2 := funext fun j => hold2 m c A0 A1 A2 A3 A4 A5 A6 A7 A8 A9 E t j
    rw [h0, h1, h2, h3]
  col := fun k n hn => by
    refine (Proj.ext_of (fun n : Fin 5120 => ((iblk m c 12 t : Vec Ideal S1024x5120 .bf16) (ix2 k n) : EReal)) n hn).trans ?_
    rw [read12, V_v49, E.e5]
    exact colsT_apply A5 k ⟨n, hn⟩
  cos := fun l hl => by
    refine (Proj.ext_of (fun l : Fin 128 => (cosT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l) : EReal)) l hl).trans ?_
    refine (cos_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r ⟨l, hl⟩).trans ?_
    rw [hold4 m c A0 A1 A2 A3 A4 A5 A6 A7 A8 A9 E t r, read5, V_v19, lanesT_apply]
    exact (Proj.ext_of (fun i : Fin 32 => Ideal.cos ((((A4 (ix2 (bOf t) (rowOf t r))).toInt : ℝ) : EReal) * Proj.inv i)) (l % 32) (by omega)).symm
  sin := fun l hl => by
    refine (Proj.ext_of (fun l : Fin 128 => (sinT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l) : EReal)) l hl).trans ?_
    refine (sin_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r ⟨l, hl⟩).trans ?_
    rw [hold4 m c A0 A1 A2 A3 A4 A5 A6 A7 A8 A9 E t r, read5, V_v19, lanesT_apply, read6, V_cst_0]
    have h := Proj.ext_of (fun i : Fin 32 => Ideal.sin ((((A4 (ix2 (bOf t) (rowOf t r))).toInt : ℝ) : EReal) * Proj.inv i)) (l % 32) (by omega)
    refine Eq.trans (congrArg (_ * ·) (sgn_apply ⟨l, hl⟩)) ?_
    exact congrArg (· * (if l % 64 < 32 then (-1 : EReal) else 1)) h.symm
  group := fun i j => by
    rw [gmN_val, read11, V_cst]
    exact gm_apply j i
  real := fun n hn => by
    refine Proj.pr_real _ _ n (fun k => ?_) fun k => ?_
    · exact Proj.hrow_real _ _ _ _ k (fun j => R.h0 _) (R.h3 _) (R.h1 _) (R.h2 _)
    · obtain ⟨v, hv⟩ := R.h5 (ix3 (0 : Fin 1) k (⟨n, hn⟩ : Fin 4808))
      exact ⟨v, (Proj.ext_of (fun n : Fin 4808 => (A5 (ix3 (0 : Fin 1) k n) : EReal)) n hn).trans hv⟩

include E in
theorem gain7 (n : ℕ) (hn : n < 512) : Gb (iblk m c 7 t) n = gs A6 (n % 64) := by
  refine (Proj.ext_of (fun l : Fin 512 => ((iblk m c 7 t : Vec Ideal S1x512 .f32) (ix2 (0 : Fin 1) l) : EReal)) n hn).trans ?_
  rw [read7, V_v23, E.e6, tile8T_apply]
  exact (Proj.ext_of (fun e : Fin 64 => (A6 (ix2 (0 : Fin 1) e) : EReal)) (n % 64) (by omega)).symm

include E in
theorem gain8 (n : ℕ) (hn : n < 512) : Gb (iblk m c 8 t) n = gs A7 (n % 64) := by
  refine (Proj.ext_of (fun l : Fin 512 => ((iblk m c 8 t : Vec Ideal S1x512 .f32) (ix2 (0 : Fin 1) l) : EReal)) n hn).trans ?_
  rw [read8, V_v27, E.e7, tile8T_apply]
  exact (Proj.ext_of (fun e : Fin 64 => (A7 (ix2 (0 : Fin 1) e) : EReal)) (n % 64) (by omega)).symm

include E in
theorem gain9 (n : ℕ) (hn : n < 512) : Gb (iblk m c 9 t) n = gs A8 (n % 64) := by
  refine (Proj.ext_of (fun l : Fin 512 => ((iblk m c 9 t : Vec Ideal S1x512 .f32) (ix2 (0 : Fin 1) l) : EReal)) n hn).trans ?_
  rw [read9, V_v31, E.e8, tile8T_apply]
  exact (Proj.ext_of (fun e : Fin 64 => (A8 (ix2 (0 : Fin 1) e) : EReal)) (n % 64) (by omega)).symm

include E in
theorem gain10 (n : ℕ) (hn : n < 128) : Gs (iblk m c 10 t) n = gs A9 (n % 64) := by
  refine (Proj.ext_of (fun l : Fin 128 => ((iblk m c 10 t : Vec Ideal S1x128 .f32) (ix2 (0 : Fin 1) l) : EReal)) n hn).trans ?_
  rw [read10, V_v35, E.e9, tile2T_apply]
  exact (Proj.ext_of (fun e : Fin 64 => (A9 (ix2 (0 : Fin 1) e) : EReal)) (n % 64) (by omega)).symm

end Blocks

end Cert.Equal2

end
-- ==== Proof.Agree2.lean ====
module

public import proofs.«01_k».proof.Proof.Holds2

@[expose] public section

set_option maxRecDepth 16384
set_option synthInstance.maxSize 4096

/-! The ten arrays the input projection's kernel leaves are the reference's ten results. -/

noncomputable section

namespace Cert.Equal2

open Idealize.ShloMosaic Idealize.ShloMosaic.TcCoe Idealize.SL Idealize.SL.Sem
open Cert.Kernel2Ideal Cert.Kernel2Ideal.Gen
open Cert.Kernel2Ideal.Block (bOf rowOf tileOf)
open Cert.Reference2Ideal.Parts hiding A0 A1 A2 A3 A4 A5 A6 A7 A8 A9 proj ang
open Idealize.ShloMosaic.Pointwise

/-- Every row of the arrays is some point's. -/
theorem cover (b : Fin 32) (i : Fin 2048) : ∃ (t : Fin cfg0.N) (r : Fin 512), b = bOf t ∧ i = rowOf t r := by
  have hb := b.isLt
  have hi := i.isLt
  refine ⟨⟨b.val * 4 + i.val / 512, lt_of_lt_of_eq (by omega) N_0.symm⟩, ⟨i.val % 512, by omega⟩, Fin.ext ?_, Fin.ext ?_⟩
  · show b.val = (b.val * 4 + i.val / 512) / 4
    omega
  · show i.val = (b.val * 4 + i.val / 512) % 4 * 512 + i.val % 512
    omega

/-- Every tile of 256 rows is some point's. -/
theorem cover_tile (b : Fin 32) (n : Fin 8) : ∃ (t : Fin cfg0.N) (k : Fin 2), b = bOf t ∧ n = tileOf t k := by
  have hb := b.isLt
  have hn := n.isLt
  refine ⟨⟨b.val * 4 + n.val / 2, lt_of_lt_of_eq (by omega) N_0.symm⟩, ⟨n.val % 2, by omega⟩, Fin.ext ?_, Fin.ext ?_⟩
  · show b.val = (b.val * 4 + n.val / 2) / 4
    omega
  · show n.val = (b.val * 4 + n.val / 2) % 4 * 2 + n.val % 2
    omega

theorem tile_row (t : Fin cfg0.N) (k : Fin 2) (s : Fin 256) (h : (tileOf t k).val * 256 + s.val < 2048) (h' : k.val * 256 + s.val < 512) :
    (⟨(tileOf t k).val * 256 + s.val, h⟩ : Fin 2048) = rowOf t ⟨k.val * 256 + s.val, h'⟩ := by
  refine Fin.ext ?_
  show (t.val % 4 * 2 + k.val) * 256 + s.val = t.val % 4 * 512 + (k.val * 256 + s.val)
  omega

variable (m : (ℓ : Loc nD τ sig) → Buf (Elt Ideal) ℓ) (c : Dev nD)
  (A0 : FVec Ideal S32x2048x1024 .f32) (A1 A2 : FVec Ideal S32x1024 .f32) (A3 : FVec Ideal S1x1024 .f32) (A4 : IVec S32x2048 32)
  (A5 : FVec Ideal S1x1024x4808 .f32) (A6 A7 A8 A9 : FVec Ideal S1x64 .f32)

variable (E : Args m c A0 A1 A2 A3 A4 A5 A6 A7 A8 A9) (R : Reals A0 A1 A2 A3 A5)

include E R in
theorem final13 : ((dats m 0 c).arrAt 13 cfg0.N : Vec Ideal S32x2048x512 .bf16)
    = flatT (scaleT (ropeT8 (normT8 (headsT 0 (projT A0 A1 A2 A3 A5) Reference2Ideal.Gen.slices_S32x2048x4808_S32x2048x512_0_0_0) A6) (angT A4))) := by
  funext j
  idx_vars j
  generalize j0 = b, j1 = i, j2 = l
  obtain ⟨t, r, rfl, rfl⟩ := cover b i
  refine (Block.arr13 m c t r l).trans ?_
  refine (Block.out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (congrArg (· * Proj.eighth) (gain_part _ _ _ _ _ _ _ _ _ (holds m c A0 A1 A2 A3 A4 A5 A6 A7 A8 A9 E R t r) 0 0 l.val l.isLt part0 _ (gs A6) fun n hn => gain7 m c A0 A1 A2 A3 A4 A5 A6 A7 A8 A9 E t n hn)).trans ?_
  exact (scaled_apply A0 A1 A2 A3 A4 A5 A6 (bOf t) (rowOf t r) 0 _ (by decide) l).symm

include E R in
theorem final14 : ((dats m 0 c).arrAt 14 cfg0.N : Vec Ideal S32x2048x512 .bf16)
    = flatT (ropeT8 (normT8 (headsT 512 (projT A0 A1 A2 A3 A5) Reference2Ideal.Gen.slices_S32x2048x4808_S32x2048x512_0_0_512) A7) (angT A4)) := by
  funext j
  idx_vars j
  generalize j0 = b, j1 = i, j2 = l
  obtain ⟨t, r, rfl, rfl⟩ := cover b i
  refine (Block.arr14 m c t r l).trans ?_
  refine (Block.out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (gain_part _ _ _ _ _ _ _ _ _ (holds m c A0 A1 A2 A3 A4 A5 A6 A7 A8 A9 E R t r) 512 512 l.val l.isLt part512 _ (gs A7) fun n hn => gain8 m c A0 A1 A2 A3 A4 A5 A6 A7 A8 A9 E t n hn).trans ?_
  exact (normed_apply A0 A1 A2 A3 A4 A5 A7 (bOf t) (rowOf t r) 512 _ (by decide) l).symm

include E R in
theorem final15 : ((dats m 0 c).arrAt 15 cfg0.N : Vec Ideal S32x4x8x128x256 .bf16)
    = dvT (projT A0 A1 A2 A3 A5) := by
  funext j
  idx_vars j
  generalize j0 = b, j1 = h, j2 = n, j3 = d, j4 = s
  obtain ⟨t, k, rfl, rfl⟩ := cover_tile b n
  refine (Block.arr15 m c t h k d s).trans ?_
  refine (Block.out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h k d s).trans ?_
  refine (pr_dv _ _ _ _ _ _ _ _ _ (holds m c A0 A1 A2 A3 A4 A5 A6 A7 A8 A9 E R t _) _ (by omega)).trans ?_
  refine ((dv_apply (projT A0 A1 A2 A3 A5) (bOf t) h (tileOf t k) d s).trans ?_).symm
  rw [tile_row, proj_at]

include E R in
theorem final16 : ((dats m 0 c).arrAt 16 cfg0.N : Vec Ideal S32x2048x512 .bf16)
    = flatT (scaleT (ropeT8 (normT8 (headsT 1536 (projT A0 A1 A2 A3 A5) Reference2Ideal.Gen.slices_S32x2048x4808_S32x2048x512_0_0_1536) A8) (angT A4))) := by
  funext j
  idx_vars j
  generalize j0 = b, j1 = i, j2 = l
  obtain ⟨t, r, rfl, rfl⟩ := cover b i
  refine (Block.arr16 m c t r l).trans ?_
  refine (Block.out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (congrArg (· * Proj.eighth) (gain_part _ _ _ _ _ _ _ _ _ (holds m c A0 A1 A2 A3 A4 A5 A6 A7 A8 A9 E R t r) 1536 1536 l.val l.isLt part1536 _ (gs A8) fun n hn => gain9 m c A0 A1 A2 A3 A4 A5 A6 A7 A8 A9 E t n hn)).trans ?_
  exact (scaled_apply A0 A1 A2 A3 A4 A5 A8 (bOf t) (rowOf t r) 1536 _ (by decide) l).symm

include E R in
theorem final17 : ((dats m 0 c).arrAt 17 cfg0.N : Vec Ideal S32x2048x512 .bf16)
    = flatT (ropeT8 (headsT 2176 (projT A0 A1 A2 A3 A5) Reference2Ideal.Gen.slices_S32x2048x4808_S32x2048x512_0_0_2176) (angT A4)) := by
  funext j
  idx_vars j
  generalize j0 = b, j1 = i, j2 = l
  obtain ⟨t, r, rfl, rfl⟩ := cover b i
  refine (Block.arr17 m c t r l).trans ?_
  refine (Block.out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (bare_part _ _ _ _ _ _ _ _ _ (holds m c A0 A1 A2 A3 A4 A5 A6 A7 A8 A9 E R t r) 2048 2176 l.val l.isLt part2048).trans ?_
  exact (bare_apply A0 A1 A2 A3 A4 A5 (bOf t) (rowOf t r) 2176 _ (by decide) l).symm

include E R in
theorem final18 : ((dats m 0 c).arrAt 18 cfg0.N : Vec Ideal S32x2048x128 .bf16)
    = twiceT (ropeT1 (normT1 (headT 2048 (projT A0 A1 A2 A3 A5) Reference2Ideal.Gen.slices_S32x2048x4808_S32x2048x64_0_0_2048) A9) (angT A4)) := by
  funext j
  idx_vars j
  generalize j0 = b, j1 = i, j2 = l
  obtain ⟨t, r, rfl, rfl⟩ := cover b i
  refine (Block.arr18 m c t r l).trans ?_
  refine (Block.out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (gain_twice _ _ _ _ _ _ _ _ _ (holds m c A0 A1 A2 A3 A4 A5 A6 A7 A8 A9 E R t r) 2560 2048 l.val l.isLt twice2560 _ (gs A9) fun n hn => gain10 m c A0 A1 A2 A3 A4 A5 A6 A7 A8 A9 E t n hn).trans ?_
  exact (normed1_apply A0 A1 A2 A3 A4 A5 A9 (bOf t) (rowOf t r) 2048 _ (by decide) l).symm

include E R in
theorem final19 : ((dats m 0 c).arrAt 19 cfg0.N : Vec Ideal S32x2048x128 .bf16)
    = twiceT (ropeT1 (headT 2688 (projT A0 A1 A2 A3 A5) Reference2Ideal.Gen.slices_S32x2048x4808_S32x2048x64_0_0_2688) (angT A4)) := by
  funext j
  idx_vars j
  generalize j0 = b, j1 = i, j2 = l
  obtain ⟨t, r, rfl, rfl⟩ := cover b i
  refine (Block.arr19 m c t r l).trans ?_
  refine (Block.out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (bare_twice _ _ _ _ _ _ _ _ _ (holds m c A0 A1 A2 A3 A4 A5 A6 A7 A8 A9 E R t r) 2688 2688 l.val l.isLt twice2688).trans ?_
  exact (bare1_apply A0 A1 A2 A3 A4 A5 (bOf t) (rowOf t r) 2688 _ (by decide) l).symm

include E R in
theorem final20 : ((dats m 0 c).arrAt 20 cfg0.N : Vec Ideal S32x8x64x256 .bf16)
    = svT (projT A0 A1 A2 A3 A5) := by
  funext j
  idx_vars j
  generalize j0 = b, j1 = n, j2 = d, j3 = s
  obtain ⟨t, k, rfl, rfl⟩ := cover_tile b n
  refine (Block.arr20 m c t k d s).trans ?_
  refine (Block.out20_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) k d s).trans ?_
  refine (pr_sv _ _ _ _ _ _ _ _ _ (holds m c A0 A1 A2 A3 A4 A5 A6 A7 A8 A9 E R t _) _ (by omega)).trans ?_
  refine ((sv_apply (projT A0 A1 A2 A3 A5) (bOf t) (tileOf t k) d s).trans ?_).symm
  rw [tile_row, proj_at]

include E R in
theorem final21 : ((dats m 0 c).arrAt 21 cfg0.N : Vec Ideal S32x2048x128 .f32)
    = iwT (projT A0 A1 A2 A3 A5) := by
  funext j
  idx_vars j
  generalize j0 = b, j1 = i, j2 = l
  obtain ⟨t, r, rfl, rfl⟩ := cover b i
  refine (Block.arr21 m c t r l).trans ?_
  refine (Block.out21_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (pr_iw _ _ _ _ _ _ _ _ _ (holds m c A0 A1 A2 A3 A4 A5 A6 A7 A8 A9 E R t r) l.val l.isLt).trans ?_
  refine ((iw_apply (projT A0 A1 A2 A3 A5) (bOf t) (rowOf t r) l).trans ?_).symm
  by_cases h : l.val < 8
  · rw [dif_pos h, if_pos h, proj_at]
  · rw [dif_neg h, if_neg h]

include E R in
theorem final22 : ((dats m 0 c).arrAt 22 cfg0.N : Vec Ideal S32x2048x2048 .bf16)
    = gateT (projT A0 A1 A2 A3 A5) := by
  funext j
  idx_vars j
  generalize j0 = b, j1 = i, j2 = l
  obtain ⟨t, r, rfl, rfl⟩ := cover b i
  refine (Block.arr22 m c t r l).trans ?_
  refine (Block.out22_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
  refine (congrArg Ideal.logistic (pr_gate _ _ _ _ _ _ _ _ _ (holds m c A0 A1 A2 A3 A4 A5 A6 A7 A8 A9 E R t r) l.val l.isLt)).trans ?_
  refine ((gate_apply (projT A0 A1 A2 A3 A5) (bOf t) (rowOf t r) l).trans ?_).symm
  rw [proj_at]

end Cert.Equal2

end
-- ==== Proof.Run2.lean ====
module

public import proofs.«01_k».proof.Proof.Frame2Ideal
public import Idealize.ShloMosaic.PureOps.Ideal

@[expose] public section

set_option maxRecDepth 16384
set_option synthInstance.maxSize 4096

/-! The run of the input projection's kernel, each array it leaves named, the arguments kept. -/

noncomputable section

namespace Cert.Kernel2Ideal.Block

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 2000000 in
theorem run : θ_run defs (onTc (τ := τ) (main (F := Ideal))) ⟨m, fun _ => 0, ρ⟩ fun r => ∀ c : Dev nD,
      r.2.mem ((c : Thread nD τ).loc main_v51_0) = (dats m 0 c).arrAt 13 cfg0.N
      ∧ r.2.mem ((c : Thread nD τ).loc main_v51_1) = (dats m 0 c).arrAt 14 cfg0.N
      ∧ r.2.mem ((c : Thread nD τ).loc main_v51_2) = (dats m 0 c).arrAt 15 cfg0.N
      ∧ r.2.mem ((c : Thread nD τ).loc main_v51_3) = (dats m 0 c).arrAt 16 cfg0.N
      ∧ r.2.mem ((c : Thread nD τ).loc main_v51_4) = (dats m 0 c).arrAt 17 cfg0.N
      ∧ r.2.mem ((c : Thread nD τ).loc main_v51_5) = (dats m 0 c).arrAt 18 cfg0.N
      ∧ r.2.mem ((c : Thread nD τ).loc main_v51_6) = (dats m 0 c).arrAt 19 cfg0.N
      ∧ r.2.mem ((c : Thread nD τ).loc main_v51_7) = (dats m 0 c).arrAt 20 cfg0.N
      ∧ r.2.mem ((c : Thread nD τ).loc main_v51_8) = (dats m 0 c).arrAt 21 cfg0.N
      ∧ r.2.mem ((c : Thread nD τ).loc main_v51_9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 13, (h c).1 14, (h c).1 15, (h c).1 16, (h c).1 17, (h c).1 18, (h c).1 19, (h c).1 20, (h c).1 21, (h c).1 22, kept0 m r h c, kept1 m r h c, kept2 m r h c, kept3 m r h c, kept4 m r h c, kept5 m r h c, kept6 m r h c, kept7 m r h c, kept8 m r h c, kept9 m r h c⟩)
    (run_main m ρ)

end Cert.Kernel2Ideal.Block

end
-- ==== Proof.RefRun2.lean ====
module

public import proofs.«01_k».proof.Proof.Ref2

@[expose] public section

set_option maxRecDepth 16384
set_option synthInstance.maxSize 4096

/-! The run of the input projection's reference, each result as a function of the arguments. -/

noncomputable section

namespace Cert.Reference2Ideal.Parts

open Idealize.ShloMosaic Idealize.ShloMosaic.TcCoe Idealize.SL Idealize.SL.Sem
open Cert.Reference2Ideal Cert.Reference2Ideal.Gen Cert.Reference2Ideal.Value Idealize.ShloMosaic.StableHlo

/-- Result `main_v212`. -/
def fin212 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x512 .bf16 :=
  flatT (scaleT (ropeT8 (normT8 (headsT 0 (projT A0 A1 A2 A3 A5) slices_S32x2048x4808_S32x2048x512_0_0_0) A6) (angT A4)))

/-- Result `main_v213`. -/
def fin213 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x512 .bf16 :=
  flatT (ropeT8 (normT8 (headsT 512 (projT A0 A1 A2 A3 A5) slices_S32x2048x4808_S32x2048x512_0_0_512) A7) (angT A4))

/-- Result `main_v214`. -/
def fin214 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x4x8x128x256 .bf16 :=
  dvT (projT A0 A1 A2 A3 A5)

/-- Result `main_v215`. -/
def fin215 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x512 .bf16 :=
  flatT (scaleT (ropeT8 (normT8 (headsT 1536 (projT A0 A1 A2 A3 A5) slices_S32x2048x4808_S32x2048x512_0_0_1536) A8) (angT A4)))

/-- Result `main_v216`. -/
def fin216 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x512 .bf16 :=
  flatT (ropeT8 (headsT 2176 (projT A0 A1 A2 A3 A5) slices_S32x2048x4808_S32x2048x512_0_0_2176) (angT A4))

/-- Result `main_v218`. -/
def fin218 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x128 .bf16 :=
  twiceT (ropeT1 (normT1 (headT 2048 (projT A0 A1 A2 A3 A5) slices_S32x2048x4808_S32x2048x64_0_0_2048) A9) (angT A4))

/-- Result `main_v220`. -/
def fin220 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x128 .bf16 :=
  twiceT (ropeT1 (headT 2688 (projT A0 A1 A2 A3 A5) slices_S32x2048x4808_S32x2048x64_0_0_2688) (angT A4))

/-- Result `main_v221`. -/
def fin221 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x8x64x256 .bf16 :=
  svT (projT A0 A1 A2 A3 A5)

/-- Result `main_v211`. -/
def fin211 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x128 .f32 :=
  iwT (projT A0 A1 A2 A3 A5)

/-- Result `main_v228`. -/
def fin228 (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) : FVec Ideal S32x2048x2048 .bf16 :=
  gateT (projT A0 A1 A2 A3 A5)

section Results

variable (V0 : Valuation τ sig (Elt Ideal))

theorem res212 : flatT (scaleT (ropeT8 (res_main_v66 V0) (res_main_v15 V0)))
    = fin212 (A0 V0) (A1 V0) (A2 V0) (A3 V0) (A4 V0) (A5 V0) (A6 V0) (A7 V0) (A8 V0) (A9 V0) := by
  rw [v66_eq, ang_eq]
  rfl

theorem res213 : flatT (ropeT8 (res_main_v99 V0) (res_main_v15 V0))
    = fin213 (A0 V0) (A1 V0) (A2 V0) (A3 V0) (A4 V0) (A5 V0) (A6 V0) (A7 V0) (A8 V0) (A9 V0) := by
  rw [v99_eq, ang_eq]
  rfl

theorem res214 : dvT (res_main_v41 V0)
    = fin214 (A0 V0) (A1 V0) (A2 V0) (A3 V0) (A4 V0) (A5 V0) (A6 V0) (A7 V0) (A8 V0) (A9 V0) := by
  rw [proj_eq]
  rfl

theorem res215 : flatT (scaleT (ropeT8 (res_main_v130 V0) (res_main_v15 V0)))
    = fin215 (A0 V0) (A1 V0) (A2 V0) (A3 V0) (A4 V0) (A5 V0) (A6 V0) (A7 V0) (A8 V0) (A9 V0) := by
  rw [v130_eq, ang_eq]
  rfl

theorem res216 : flatT (ropeT8 (res_main_v176 V0) (res_main_v15 V0))
    = fin216 (A0 V0) (A1 V0) (A2 V0) (A3 V0) (A4 V0) (A5 V0) (A6 V0) (A7 V0) (A8 V0) (A9 V0) := by
  rw [v176_eq, ang_eq]
  rfl

theorem res218 : twiceT (res_main_v175 V0)
    = fin218 (A0 V0) (A1 V0) (A2 V0) (A3 V0) (A4 V0) (A5 V0) (A6 V0) (A7 V0) (A8 V0) (A9 V0) := by
  rw [v175_eq]
  rfl

theorem res220 : twiceT (res_main_v205 V0)
    = fin220 (A0 V0) (A1 V0) (A2 V0) (A3 V0) (A4 V0) (A5 V0) (A6 V0) (A7 V0) (A8 V0) (A9 V0) := by
  rw [v205_eq]
  rfl

theorem res221 : svT (res_main_v41 V0)
    = fin221 (A0 V0) (A1 V0) (A2 V0) (A3 V0) (A4 V0) (A5 V0) (A6 V0) (A7 V0) (A8 V0) (A9 V0) := by
  rw [proj_eq]
  rfl

theorem res211 : iwT (res_main_v41 V0)
    = fin211 (A0 V0) (A1 V0) (A2 V0) (A3 V0) (A4 V0) (A5 V0) (A6 V0) (A7 V0) (A8 V0) (A9 V0) := by
  rw [proj_eq]
  rfl

theorem res228 : gateT (res_main_v41 V0)
    = fin228 (A0 V0) (A1 V0) (A2 V0) (A3 V0) (A4 V0) (A5 V0) (A6 V0) (A7 V0) (A8 V0) (A9 V0) := by
  rw [proj_eq]
  rfl

end Results

variable (m : (ℓ : Loc nD τ sig) → Buf (Elt Ideal) ℓ) (ρ : Dev nD → PrngReg)

set_option maxHeartbeats 4000000 in
theorem run_parts : θ_run defs (onTc (τ := τ) (main (F := Ideal))) ⟨m, fun _ => 0, ρ⟩ fun r => ∀ c : Dev nD,
      r.2.mem ((c.tc : Thread nD τ).loc main_v212) = fin212 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v213) = fin213 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v214) = fin214 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v215) = fin215 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v216) = fin216 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v218) = fin218 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v220) = fin220 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v221) = fin221 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v211) = fin211 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v228) = fin228 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run (F := Ideal) m ρ)
  obtain ⟨h212, h213, h214, h215, h216, h218, h220, h221, h211, h228, hargs⟩ := h c
  exact ⟨h212.trans (res212 (launchContents m c)), h213.trans (res213 (launchContents m c)), h214.trans (res214 (launchContents m c)), h215.trans (res215 (launchContents m c)), h216.trans (res216 (launchContents m c)), h218.trans (res218 (launchContents m c)), h220.trans (res220 (launchContents m c)), h221.trans (res221 (launchContents m c)), h211.trans (res211 (launchContents m c)), h228.trans (res228 (launchContents m c)), hargs⟩

end Cert.Reference2Ideal.Parts

end
-- ==== Proof.Finite2.lean ====
module

public import proofs.«01_k».proof.Pre_finite2
public import proofs.«01_k».proof.Proof.Finite

@[expose] public section

set_option maxRecDepth 16384
set_option synthInstance.maxSize 4096

/-! The input projection's precondition read back: the arrays it names hold real numbers. -/

noncomputable section

namespace Cert.Finite2

open Idealize.ShloMosaic Cert.Pre_finite2
open Cert.Finite (and_one real_of_bit all_of_reduce)

theorem facts : Cert.Pre_finite2.Facts where
  bcast_S_S32x2048x1024 := by decide
  reducesTo_S32x2048x1024_S_d0_1_2 := by decide
  h_S_ := by decide
  bcast_S_S32x1024 := by decide
  reducesTo_S32x1024_S_d0_1 := by decide
  bcast_S_S1x1024 := by decide
  reducesTo_S1x1024_S_d0_1 := by decide
  bcast_S_S1x1024x4808 := by decide
  reducesTo_S1x1024x4808_S_d0_1_2 := by decide

abbrev bitsRows [Facts] (x : FVec Ideal S32x2048x1024 .f32) : IVec S32x2048x1024 1 :=
  cmpf .olt (Host.absf x) (broadcastInDim S32x2048x1024 ![] Facts.bcast_S_S32x2048x1024 (constant S_ .f32 0x7F800000#32))

theorem realRows [Facts] (x : FVec Ideal S32x2048x1024 .f32) (i : S32x2048x1024.Idx) : bitsRows x i = 1#1 → ∃ r : ℝ, (x i : EReal) = (r : EReal) := by
  pointwise []
  exact real_of_bit _

abbrev bitsMods [Facts] (x : FVec Ideal S32x1024 .f32) : IVec S32x1024 1 :=
  cmpf .olt (Host.absf x) (broadcastInDim S32x1024 ![] Facts.bcast_S_S32x1024 (constant S_ .f32 0x7F800000#32))

theorem realMods [Facts] (x : FVec Ideal S32x1024 .f32) (i : S32x1024.Idx) : bitsMods x i = 1#1 → ∃ r : ℝ, (x i : EReal) = (r : EReal) := by
  pointwise []
  exact real_of_bit _

abbrev bitsGain [Facts] (x : FVec Ideal S1x1024 .f32) : IVec S1x1024 1 :=
  cmpf .olt (Host.absf x) (broadcastInDim S1x1024 ![] Facts.bcast_S_S1x1024 (constant S_ .f32 0x7F800000#32))

theorem realGain [Facts] (x : FVec Ideal S1x1024 .f32) (i : S1x1024.Idx) : bitsGain x i = 1#1 → ∃ r : ℝ, (x i : EReal) = (r : EReal) := by
  pointwise []
  exact real_of_bit _

abbrev bitsCols [Facts] (x : FVec Ideal S1x1024x4808 .f32) : IVec S1x1024x4808 1 :=
  cmpf .olt (Host.absf x) (broadcastInDim S1x1024x4808 ![] Facts.bcast_S_S1x1024x4808 (constant S_ .f32 0x7F800000#32))

theorem realCols [Facts] (x : FVec Ideal S1x1024x4808 .f32) (i : S1x1024x4808.Idx) : bitsCols x i = 1#1 → ∃ r : ℝ, (x i : EReal) = (r : EReal) := by
  pointwise []
  exact real_of_bit _

/-- The one entry of the precondition. -/
theorem fn_eq [Facts] (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32) (j : S_.Idx) :
    fn (F := Ideal) A0 A1 A2 A3 A4 A5 A6 A7 A8 A9 j
      = IntOp.andi (IntOp.andi (IntOp.andi (IntOp.andi
          (Host.reduce IntOp.andi (bitsRows A0) (constantI S_ 1 1#1) Facts.reducesTo_S32x2048x1024_S_d0_1_2 Facts.h_S_ j)
          (Host.reduce IntOp.andi (bitsMods A1) (constantI S_ 1 1#1) Facts.reducesTo_S32x1024_S_d0_1 Facts.h_S_ j))
          (Host.reduce IntOp.andi (bitsMods A2) (constantI S_ 1 1#1) Facts.reducesTo_S32x1024_S_d0_1 Facts.h_S_ j))
          (Host.reduce IntOp.andi (bitsGain A3) (constantI S_ 1 1#1) Facts.reducesTo_S1x1024_S_d0_1 Facts.h_S_ j))
          (Host.reduce IntOp.andi (bitsCols A5) (constantI S_ 1 1#1) Facts.reducesTo_S1x1024x4808_S_d0_1_2 Facts.h_S_ j) := rfl

/-- Where the precondition holds, the rows, their two modulations, the norm's gain and the columns hold real numbers. -/
theorem reals [Facts] (A0 : FVec Ideal S32x2048x1024 .f32) (A1 A2 : FVec Ideal S32x1024 .f32) (A3 : FVec Ideal S1x1024 .f32) (A4 : IVec S32x2048 32)
    (A5 : FVec Ideal S1x1024x4808 .f32) (A6 A7 A8 A9 : FVec Ideal S1x64 .f32)
    (h : fn (F := Ideal) A0 A1 A2 A3 A4 A5 A6 A7 A8 A9 = fun _ => 1#1) :
    (∀ i, ∃ r : ℝ, (A0 i : EReal) = (r : EReal)) ∧ (∀ i, ∃ r : ℝ, (A1 i : EReal) = (r : EReal))
      ∧ (∀ i, ∃ r : ℝ, (A2 i : EReal) = (r : EReal)) ∧ (∀ i, ∃ r : ℝ, (A3 i : EReal) = (r : EReal))
      ∧ (∀ i, ∃ r : ℝ, (A5 i : EReal) = (r : EReal)) := by
  have e := congrFun h Idealize.ShloMosaic.ix0
  rw [fn_eq] at e
  simp only [and_one] at e
  obtain ⟨⟨⟨⟨h0, h1⟩, h2⟩, h3⟩, h5⟩ := e
  exact ⟨fun i => realRows A0 i (all_of_reduce _ _ _ _ _ h0 i), fun i => realMods A1 i (all_of_reduce _ _ _ _ _ h1 i),
    fun i => realMods A2 i (all_of_reduce _ _ _ _ _ h2 i), fun i => realGain A3 i (all_of_reduce _ _ _ _ _ h3 i),
    fun i => realCols A5 i (all_of_reduce _ _ _ _ _ h5 i)⟩

end Cert.Finite2

end
-- ==== Proof.Same2.lean ====
module

public import proofs.«01_k».proof.Proof.Agree2
public import proofs.«01_k».proof.Proof.Run2
public import proofs.«01_k».proof.Proof.RefRun2
public import proofs.«01_k».proof.Proof.Finite2

@[expose] public section

set_option maxRecDepth 16384
set_option synthInstance.maxSize 4096

/-! The reference's results, from equal arguments, are the arrays the kernel leaves. -/

noncomputable section

namespace Cert.Equal2

open Idealize.ShloMosaic Idealize.ShloMosaic.TcCoe Idealize.SL Idealize.SL.Sem
open Cert.Kernel2Ideal Cert.Kernel2Ideal.Gen

variable (m : (ℓ : Loc nD τ sig) → Buf (Elt Ideal) ℓ) (c : Dev nD)
  (A0 : FVec Ideal S32x2048x1024 .f32) (A1 A2 : FVec Ideal S32x1024 .f32) (A3 : FVec Ideal S1x1024 .f32) (A4 : IVec S32x2048 32)
  (A5 : FVec Ideal S1x1024x4808 .f32) (A6 A7 A8 A9 : FVec Ideal S1x64 .f32)

theorem reals_of [Cert.Pre_finite2.Facts] (E : Args m c A0 A1 A2 A3 A4 A5 A6 A7 A8 A9)
    (h : Cert.Pre_finite2.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) : Reals A0 A1 A2 A3 A5 := by
  obtain ⟨r0, r1, r2, r3, r5⟩ := Cert.Finite2.reals _ _ _ _ _ _ _ _ _ _ h
  obtain ⟨e0, e1, e2, e3, e4, e5, e6, e7, e8, e9⟩ := E
  subst e0 e1 e2 e3 e5
  exact ⟨r0, r1, r2, r3, r5⟩

variable (E : Args m c A0 A1 A2 A3 A4 A5 A6 A7 A8 A9) (R : Reals A0 A1 A2 A3 A5)

include E R in
theorem same13 : Cert.Reference2Ideal.Parts.fin212 A0 A1 A2 A3 A4 A5 A6 A7 A8 A9 = (dats m 0 c).arrAt 13 cfg0.N := (final13 m c A0 A1 A2 A3 A4 A5 A6 A7 A8 A9 E R).symm

include E R in
theorem same14 : Cert.Reference2Ideal.Parts.fin213 A0 A1 A2 A3 A4 A5 A6 A7 A8 A9 = (dats m 0 c).arrAt 14 cfg0.N := (final14 m c A0 A1 A2 A3 A4 A5 A6 A7 A8 A9 E R).symm

include E R in
theorem same15 : Cert.Reference2Ideal.Parts.fin214 A0 A1 A2 A3 A4 A5 A6 A7 A8 A9 = (dats m 0 c).arrAt 15 cfg0.N := (final15 m c A0 A1 A2 A3 A4 A5 A6 A7 A8 A9 E R).symm

include E R in
theorem same16 : Cert.Reference2Ideal.Parts.fin215 A0 A1 A2 A3 A4 A5 A6 A7 A8 A9 = (dats m 0 c).arrAt 16 cfg0.N := (final16 m c A0 A1 A2 A3 A4 A5 A6 A7 A8 A9 E R).symm

include E R in
theorem same17 : Cert.Reference2Ideal.Parts.fin216 A0 A1 A2 A3 A4 A5 A6 A7 A8 A9 = (dats m 0 c).arrAt 17 cfg0.N := (final17 m c A0 A1 A2 A3 A4 A5 A6 A7 A8 A9 E R).symm

include E R in
theorem same18 : Cert.Reference2Ideal.Parts.fin218 A0 A1 A2 A3 A4 A5 A6 A7 A8 A9 = (dats m 0 c).arrAt 18 cfg0.N := (final18 m c A0 A1 A2 A3 A4 A5 A6 A7 A8 A9 E R).symm

include E R in
theorem same19 : Cert.Reference2Ideal.Parts.fin220 A0 A1 A2 A3 A4 A5 A6 A7 A8 A9 = (dats m 0 c).arrAt 19 cfg0.N := (final19 m c A0 A1 A2 A3 A4 A5 A6 A7 A8 A9 E R).symm

include E R in
theorem same20 : Cert.Reference2Ideal.Parts.fin221 A0 A1 A2 A3 A4 A5 A6 A7 A8 A9 = (dats m 0 c).arrAt 20 cfg0.N := (final20 m c A0 A1 A2 A3 A4 A5 A6 A7 A8 A9 E R).symm

include E R in
theorem same21 : Cert.Reference2Ideal.Parts.fin211 A0 A1 A2 A3 A4 A5 A6 A7 A8 A9 = (dats m 0 c).arrAt 21 cfg0.N := (final21 m c A0 A1 A2 A3 A4 A5 A6 A7 A8 A9 E R).symm

include E R in
theorem same22 : Cert.Reference2Ideal.Parts.fin228 A0 A1 A2 A3 A4 A5 A6 A7 A8 A9 = (dats m 0 c).arrAt 22 cfg0.N := (final22 m c A0 A1 A2 A3 A4 A5 A6 A7 A8 A9 E R).symm

end Cert.Equal2

end
-- ==== Proof.Ada3.lean ====
module

public import proofs.«01_k».proof.Proof.Gen.Kernel3Ideal.Value
public import proofs.«01_k».proof.Proof.Gen.Reference3Ideal.Run
public import Idealize.ShloMosaic.Lib.Pointwise
public import Idealize.ShloMosaic.Lib.KernelVsHost
public import Idealize.ShloMosaic.Lib.Pipeline.ValueKit

@[expose] public section

set_option maxRecDepth 16384
set_option synthInstance.maxSize 4096

/-! The conditioning's call: the array the kernel leaves, column block by column block, is the reference's product with its bias. -/

noncomputable section

namespace Cert.Kernel3Ideal.Ada

open Idealize.ShloMosaic Idealize.ShloMosaic.TcCoe Idealize.SL Idealize.SL.Sem
open Cert.Kernel3Ideal Cert.Kernel3Ideal.Gen
open Idealize.ShloMosaic.Pointwise
open Idealize.ShloMosaic.Pipeline (Dat)

/-! ## The two sides, entry by entry -/

/-- The reference's result of its three arguments. -/
def refT (A0 : FVec Ideal S32x1024 .f32) (A1 : FVec Ideal S1x1024x6144 .f32) (A2 : FVec Ideal S1x6144 .f32) : FVec Ideal S32x6144 .f32 :=
  addf (Host.dotGeneral Reference3Ideal.dot_S32x1024_S1024x6144_S32x6144_1_0_0_1_n_n none
      (mulf A0 (Host.divf (broadcastInDim S32x1024 ![] Reference3Ideal.Gen.bcast_S_S32x1024 (constant Reference3Ideal.S_ .f32 0x3F800000#32))
        (addf (broadcastInDim S32x1024 ![] Reference3Ideal.Gen.bcast_S_S32x1024 (constant Reference3Ideal.S_ .f32 0x3F800000#32)) (Host.exp (Host.negf A0)))))
      (shapeCast Reference3Ideal.S1024x6144 A1 Reference3Ideal.Gen.shapeCasts_S1x1024x6144_S1024x6144))
    (broadcastInDim S32x6144 ![0, 1] Reference3Ideal.Gen.bcast_S1x6144_S32x6144_0_1
      (broadcastInDim S1x6144 ![1] Reference3Ideal.Gen.bcast_S6144_S1x6144_1 (shapeCast Reference3Ideal.S6144 A2 Reference3Ideal.Gen.shapeCasts_S1x6144_S6144)))

/-- An entry: the row of conditioning, each entry times its logistic, against a column of weights, and the column's bias. -/
def entry (x w : Fin 1024 → EReal) (b : EReal) : EReal :=
  (∑ k : Fin 1024, x k * Ideal.logistic (x k) * w k) + b

theorem ref_apply (A0 : FVec Ideal S32x1024 .f32) (A1 : FVec Ideal S1x1024x6144 .f32) (A2 : FVec Ideal S1x6144 .f32)
    (r : Fin 32) (n : Fin 6144) :
    (refT A0 A1 A2 (ix2 r n) : EReal)
      = entry (fun k => A0 (ix2 r k)) (fun k => A1 (ix3 (0 : Fin 1) k n)) (A2 (ix2 (0 : Fin 1) n)) := by
  unfold entry Ideal.logistic
  pointwise [refT]

theorem block_apply (x0 : Vec Ideal S32x1024 .f32) (x1 : Vec Ideal S1024x1024 .f32) (x2 : Vec Ideal S1x1024 .f32) (r : Fin 32) (l : Fin 1024) :
    (k0_pay1 x0 x1 x2 (ix2 r l) : EReal)
      = entry (fun k => x0 (ix2 r k)) (fun k => x1 (ix2 k l)) (x2 (ix2 (0 : Fin 1) l)) := by
  unfold entry
  pointwise [k0_pay1]

theorem out_eq (x0 : Vec Ideal S32x1024 .f32) (x1 : Vec Ideal S1024x1024 .f32) (x2 : Vec Ideal S1x1024 .f32) :
    out0_3 x0 x1 x2 = k0_pay1 x0 x1 x2 := by
  have z : (![0, 0] : Fin 2 → ℕ) = fun _ => 0 := by
    funext a
    match a with
    | ⟨0, _⟩ => rfl
    | ⟨1, _⟩ => rfl
  unfold out0_3
  refine (View.canon_unit_zero z _ _).trans ?_
  rw [View.ld_unit_zero z, View.ld_unit_zero z, View.ld_unit_zero z]

/-! ## The array and the windows -/

variable (m : (ℓ : Loc nD τ sig) → Buf (Elt Ideal) ℓ) (ρ : Dev nD → PrngReg)

theorem lt6 (t : Fin cfg0.N) : t.val < 6 := lt_of_lt_of_eq t.isLt N_0

theorem co0 (t : Fin cfg0.N) : ((grid0.coords t) 0).val = t.val := by
  have h := lt6 t
  have := Pipeline.Grid.coords_val (G := grid0) t 0 (S := 1) (B := 6) (by decide) (by decide)
  omega

theorem toN (n : ℕ) (h : n < 6) : (BitVec.ofNat 32 n).toNat = n := by
  rw [BitVec.toNat_ofNat]; omega

/-- A point's column in the arrays. -/
def colOf (t : Fin cfg0.N) (l : Fin 1024) : Fin 6144 := ⟨t.val * 1024 + l.val, by have := lt6 t; omega⟩

theorem arr3 (c : Dev nD) (t : Fin cfg0.N) (r : Fin 32) (l : Fin 1024) :
    ((dats m 0 c).arrAt 3 cfg0.N : Vec Ideal S32x6144 .f32) (ix2 r (colOf t l))
      = out0_3 (iblk m c 0 t) (iblk m c 1 t) (iblk m c 2 t) (ix2 r l) := by
  have e := congrFun ((Value.blocks3 m c t (flush0_3 t)).trans (Value.flushed3 m c t)) (ix2 r l)
  rw [View.read_apply] at e
  refine Eq.trans (congrArg ((dats m 0 c).arrAt 3 cfg0.N : Vec Ideal S32x6144 .f32) (funext fun a => Fin.ext ?_)) e
  match a with
  | ⟨0, _⟩ =>
    show r.val = 0 * 32 + 1 * r.val
    omega
  | ⟨1, _⟩ =>
    show t.val * 1024 + l.val = (BitVec.ofNat 32 ((grid0.coords t) 0).val).toNat * 1024 + 1 * l.val
    rw [co0, toN _ (lt6 t)]; omega

theorem iblk0 (c : Dev nD) (t : Fin cfg0.N) (r : Fin 32) (k : Fin 1024) :
    (iblk m c 0 t : Vec Ideal S32x1024 .f32) (ix2 r k) = (m ((c : Thread nD τ).loc main_arg0) : Vec Ideal S32x1024 .f32) (ix2 r k) := by
  unfold iblk
  rw [View.read_apply]
  show V m c main_arg0 _ = _
  rw [V_main_arg0]
  refine congrArg (m ((c : Thread nD τ).loc main_arg0)) (funext fun a => Fin.ext ?_)
  match a with
  | ⟨0, _⟩ =>
    show 0 * 32 + 1 * r.val = r.val
    omega
  | ⟨1, _⟩ =>
    show 0 * 1024 + 1 * k.val = k.val
    omega

/-- The host's weights and bias, without their leading axis of one. -/
theorem V0 (c : Dev nD) : (V m c main_v0 : Vec Ideal S1024x6144 .f32)
    = shapeCast S1024x6144 (m ((c : Thread nD τ).loc main_arg1) : Vec Ideal S1x1024x6144 .f32) shapeCasts_S1x1024x6144_S1024x6144 := by
  unfold V hostOps0
  after_results
  rfl

theorem V2 (c : Dev nD) : (V m c main_v2 : Vec Ideal S1x6144 .f32)
    = shapeCast S1x6144 (shapeCast S6144 (m ((c : Thread nD τ).loc main_arg2) : Vec Ideal S1x6144 .f32) shapeCasts_S1x6144_S6144)
        shapeCasts_S6144_S1x6144 := by
  unfold V hostOps0
  after_results
  rfl

theorem weights_apply (A : Vec Ideal S1x1024x6144 .f32) (k : Fin 1024) (n : Fin 6144) :
    shapeCast S1024x6144 A shapeCasts_S1x1024x6144_S1024x6144 (ix2 k n) = A (ix3 (0 : Fin 1) k n) := by
  pointwise []

theorem bias_apply (A : Vec Ideal S1x6144 .f32) (n : Fin 6144) :
    shapeCast S1x6144 (shapeCast S6144 A shapeCasts_S1x6144_S6144) shapeCasts_S6144_S1x6144 (ix2 (0 : Fin 1) n) = A (ix2 (0 : Fin 1) n) := by
  pointwise []

theorem read1 (t : Fin cfg0.N) (A : Vec Ideal S1024x6144 .f32) (k : Fin 1024) (l : Fin 1024) :
    (((cfg0.win 1).blk t).view.read (Elt Ideal) A : Vec Ideal S1024x1024 .f32) (ix2 k l) = A (ix2 k (colOf t l)) := by
  rw [View.read_apply]
  refine congrArg A (funext fun a => Fin.ext ?_)
  match a with
  | ⟨0, _⟩ =>
    show 0 * 1024 + 1 * k.val = k.val
    omega
  | ⟨1, _⟩ =>
    show (BitVec.ofNat 32 ((grid0.coords t) 0).val).toNat * 1024 + 1 * l.val = t.val * 1024 + l.val
    rw [co0, toN _ (lt6 t)]; omega

theorem read2 (t : Fin cfg0.N) (A : Vec Ideal S1x6144 .f32) (l : Fin 1024) :
    (((cfg0.win 2).blk t).view.read (Elt Ideal) A : Vec Ideal S1x1024 .f32) (ix2 (0 : Fin 1) l) = A (ix2 (0 : Fin 1) (colOf t l)) := by
  rw [View.read_apply]
  refine congrArg A (funext fun a => Fin.ext ?_)
  match a with
  | ⟨0, _⟩ =>
    show 0 * 1 + 1 * 0 = 0
    omega
  | ⟨1, _⟩ =>
    show (BitVec.ofNat 32 ((grid0.coords t) 0).val).toNat * 1024 + 1 * l.val = t.val * 1024 + l.val
    rw [co0, toN _ (lt6 t)]; omega

theorem iblk1 (c : Dev nD) (t : Fin cfg0.N) (k : Fin 1024) (l : Fin 1024) :
    (iblk m c 1 t : Vec Ideal S1024x1024 .f32) (ix2 k l)
      = (m ((c : Thread nD τ).loc main_arg1) : Vec Ideal S1x1024x6144 .f32) (ix3 (0 : Fin 1) k (colOf t l)) := by
  unfold iblk
  refine (read1 t _ k l).trans ?_
  refine (congrFun (V0 m c) _).trans ?_
  exact weights_apply _ k (colOf t l)

theorem iblk2 (c : Dev nD) (t : Fin cfg0.N) (l : Fin 1024) :
    (iblk m c 2 t : Vec Ideal S1x1024 .f32) (ix2 (0 : Fin 1) l)
      = (m ((c : Thread nD τ).loc main_arg2) : Vec Ideal S1x6144 .f32) (ix2 (0 : Fin 1) (colOf t l)) := by
  unfold iblk
  refine (read2 t _ l).trans ?_
  refine (congrFun (V2 m c) _).trans ?_
  exact bias_apply _ (colOf t l)

/-- Every column is some point's. -/
theorem cover (n : Fin 6144) : ∃ (t : Fin cfg0.N) (l : Fin 1024), n = colOf t l := by
  have hn := n.isLt
  refine ⟨⟨n.val / 1024, lt_of_lt_of_eq (by omega) N_0.symm⟩, ⟨n.val % 1024, by omega⟩, Fin.ext ?_⟩
  show n.val = n.val / 1024 * 1024 + n.val % 1024
  omega

/-- The kernel's array is the reference's result of the same arguments. -/
theorem final (c : Dev nD) : ((dats m 0 c).arrAt 3 cfg0.N : Vec Ideal S32x6144 .f32)
    = refT (m ((c : Thread nD τ).loc main_arg0)) (m ((c : Thread nD τ).loc main_arg1)) (m ((c : Thread nD τ).loc main_arg2)) := by
  funext j
  idx_vars j
  generalize j0 = r, j1 = n
  obtain ⟨t, l, rfl⟩ := cover n
  refine (arr3 m c t r l).trans ?_
  rw [out_eq]
  refine (block_apply _ _ _ r l).trans ?_
  refine Eq.trans ?_ (ref_apply _ _ _ r (colOf t l)).symm
  have e0 : (fun k => (iblk m c 0 t : Vec Ideal S32x1024 .f32) (ix2 r k)) = fun k => (m ((c : Thread nD τ).loc main_arg0) : Vec Ideal S32x1024 .f32) (ix2 r k) :=
    funext fun k => iblk0 m c t r k
  have e1 : (fun k => (iblk m c 1 t : Vec Ideal S1024x1024 .f32) (ix2 k l))
      = fun k => (m ((c : Thread nD τ).loc main_arg1) : Vec Ideal S1x1024x6144 .f32) (ix3 (0 : Fin 1) k (colOf t l)) :=
    funext fun k => iblk1 m c t k l
  rw [e0, e1, iblk2]

end Cert.Kernel3Ideal.Ada

end
-- ==== Proof.Ref4.lean ====
module

public import proofs.«01_k».proof.Proof.Gen.Reference4Ideal.Run
public import proofs.«01_k».proof.Proof.Proj

@[expose] public section

set_option maxRecDepth 16384
set_option synthInstance.maxSize 4096

/-! The merge's reference: its two results as functions of the arguments, and each entry of them. -/

noncomputable section

namespace Cert.Reference4Ideal.Parts

open Idealize.ShloMosaic Idealize.ShloMosaic.TcCoe Idealize.SL Idealize.SL.Sem
open Cert.Reference4Ideal Cert.Reference4Ideal.Gen Cert.Reference4Ideal.Value
open Idealize.ShloMosaic.Pointwise

/-! ## Entries -/

/-- A branch's row of 512 against a column of its projection. -/
def branch (o : Fin 512 → EReal) (w : Fin 512 → Fin 1024 → EReal) (n : Fin 1024) : EReal := ∑ k : Fin 512, o k * w k n

/-- The two branches' projections, each times its gate. -/
def merged (oa ob : Fin 512 → EReal) (wa wb : Fin 512 → Fin 1024 → EReal) (ga gb : Fin 1024 → EReal) (n : Fin 1024) : EReal :=
  ga n * branch oa wa n + gb n * branch ob wb n

/-- The residual stream's row after the merge, projected and gated. -/
def stream (x g : Fin 1024 → EReal) (h : Fin 1024 → EReal) (wo : Fin 1024 → Fin 1024 → EReal) (l : Fin 1024) : EReal :=
  x l + g l * ∑ n : Fin 1024, h n * wo n l

/-! ## The reference's terms -/

section Terms

variable {F : FTy → Type} [FloatOps F]

/-- The new residual stream. -/
def streamT (A0 A1 : FVec F S32x2048x512 .bf16) (A2 : FVec F S32x2048x2048 .bf16) (A3 : FVec F S32x2048x1024 .f32) (A4 : FVec F S32x1024 .f32)
    (A8 A9 : FVec F S1x512x1024 .f32) (A10 : FVec F S1x1024x1024 .f32) : FVec F S32x2048x1024 .f32 :=
  addf A3 (mulf (broadcastInDim S32x2048x1024 ![0, 1, 2] bcast_S32x1x1024_S32x2048x1024_0_1_2 (broadcastInDim S32x1x1024 ![0, 2] bcast_S32x1024_S32x1x1024_0_2 A4)) (Host.dotGeneral dot_S32x2048x1024_S1024x1024_S32x2048x1024_2_0_01_1_n_n none (addf (mulf (shapeCast _ (extractStridedSlice S32x2048x1x1024 ![0, 0, 0, 0] (shapeCast _ (extf .f32 A2 bitsLt_bf16_f32) shapeCasts_S32x2048x2048_S32x2048x2x1024) slices_S32x2048x2x1024_S32x2048x1x1024_0_0_0_0) shapeCasts_S32x2048x1x1024_S32x2048x1024) (Host.dotGeneral dot_S32x2048x512_S512x1024_S32x2048x1024_2_0_01_1_n_n none (extf .f32 A0 bitsLt_bf16_f32) (shapeCast _ A8 shapeCasts_S1x512x1024_S512x1024))) (mulf (shapeCast _ (extractStridedSlice S32x2048x1x1024 ![0, 0, 1, 0] (shapeCast _ (extf .f32 A2 bitsLt_bf16_f32) shapeCasts_S32x2048x2048_S32x2048x2x1024) slices_S32x2048x2x1024_S32x2048x1x1024_0_0_1_0) shapeCasts_S32x2048x1x1024_S32x2048x1024) (Host.dotGeneral dot_S32x2048x512_S512x1024_S32x2048x1024_2_0_01_1_n_n none (extf .f32 A1 bitsLt_bf16_f32) (shapeCast _ A9 shapeCasts_S1x512x1024_S512x1024)))) (shapeCast _ A10 shapeCasts_S1x1024x1024_S1024x1024)))

/-- Its rows after the norm and the modulation. -/
def rowsT (Y : FVec F S32x2048x1024 .f32) (A5 A6 : FVec F S32x1024 .f32) (A7 : FVec F S1x1024 .f32) : FVec F S32x2048x1024 .f32 :=
  addf (mulf (mulf (mulf Y (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf Y Y) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ A7 shapeCasts_S1x1024_S1024)))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 A5)))) (broadcastInDim S32x2048x1024 ![0, 1, 2] bcast_S32x1x1024_S32x2048x1024_0_1_2 (broadcastInDim S32x1x1024 ![0, 2] bcast_S32x1024_S32x1x1024_0_2 A6))

theorem v42_eq (m : (ℓ : Loc nD τ sig) → Buf (Elt F) ℓ) (c : Dev nD) : res_main_v42 m c
    = rowsT (streamT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)))
        (m ((c.tc : Thread nD τ).loc main_arg5)) (m ((c.tc : Thread nD τ).loc main_arg6)) (m ((c.tc : Thread nD τ).loc main_arg7)) := rfl

end Terms

/-- The gates' two halves of a row of 2048. -/
def lo (n : Fin 1024) : Fin 2048 := ⟨n.val, by omega⟩
def hi (n : Fin 1024) : Fin 2048 := ⟨1024 + n.val, by omega⟩

theorem stream_apply (A0 A1 : FVec Ideal S32x2048x512 .bf16) (A2 : FVec Ideal S32x2048x2048 .bf16) (A3 : FVec Ideal S32x2048x1024 .f32)
    (A4 : FVec Ideal S32x1024 .f32) (A8 A9 : FVec Ideal S1x512x1024 .f32) (A10 : FVec Ideal S1x1024x1024 .f32)
    (b : Fin 32) (t : Fin 2048) (l : Fin 1024) :
    (streamT A0 A1 A2 A3 A4 A8 A9 A10 (ix3 b t l) : EReal)
      = stream (fun k => A3 (ix3 b t k)) (fun k => A4 (ix2 b k))
          (merged (fun k => A0 (ix3 b t k)) (fun k => A1 (ix3 b t k)) (fun k n => A8 (ix3 (0 : Fin 1) k n)) (fun k n => A9 (ix3 (0 : Fin 1) k n))
            (fun n => A2 (ix3 b t (lo n))) (fun n => A2 (ix3 b t (hi n))))
          (fun n k => A10 (ix3 (0 : Fin 1) n k)) l := by
  unfold stream merged branch lo hi
  pointwise [streamT]

theorem rows_apply (Y : FVec Ideal S32x2048x1024 .f32) (A5 A6 : FVec Ideal S32x1024 .f32) (A7 : FVec Ideal S1x1024 .f32)
    (b : Fin 32) (t : Fin 2048) (l : Fin 1024) :
    (rowsT Y A5 A6 A7 (ix3 b t l) : EReal)
      = Proj.hrow (fun k => Y (ix3 b t k)) (fun k => A7 (ix2 (0 : Fin 1) k)) (fun k => A5 (ix2 b k)) (fun k => A6 (ix2 b k)) l := by
  unfold Proj.hrow
  pointwise [rowsT]

end Cert.Reference4Ideal.Parts

end
-- ==== Proof.Mix4.lean ====
module

public import proofs.«01_k».proof.Proof.Gen.Kernel4Ideal.Value
public import proofs.«01_k».proof.Proof.Ref4
public import Idealize.ShloMosaic.Lib.WholeRead
public import Idealize.ShloMosaic.Lib.Pointwise
public import Idealize.ShloMosaic.Lib.KernelVsHost
public import Idealize.ShloMosaic.Lib.Pipeline.ValueKit

@[expose] public section

set_option maxRecDepth 16384
set_option synthInstance.maxSize 4096

/-! The merge's call: what its body stores in the two arrays of the residual stream and of its normed rows, and those arrays. -/

noncomputable section

namespace Cert.Kernel4Ideal.Mix

open Idealize.ShloMosaic Idealize.ShloMosaic.TcCoe Idealize.SL Idealize.SL.Sem
open Cert.Kernel4Ideal Cert.Kernel4Ideal.Gen
open Idealize.ShloMosaic.Pointwise
open Idealize.ShloMosaic.Pipeline (Dat)
open Cert.Reference4Ideal.Parts (branch merged stream lo hi streamT rowsT stream_apply rows_apply)

/-! ## Loads -/

section Loads

variable {F : FTy → Type} [FloatOps F]

omit [FloatOps F] in
theorem ld2 {n0 n1 : ℕ} {e : EltTy} {arg : Memref sig .tc .vmem ⟨2, ![n0, n1]⟩ e} (harg : arg.IsWhole) (x : Vec F ⟨2, ![n0, n1]⟩ e)
    (inb : ∀ a, (![0, 0] : Fin 2 → ℕ) a + (![n0, n1] : Fin 2 → ℕ) a ≤ (![n0, n1] : Fin 2 → ℕ) a) :
    View.readAt (Elt F) arg.view (Rect.unit (s := ⟨2, ![n0, n1]⟩) ![0, 0] ![n0, n1] inb).toLoadRect (harg.unread x) = x := by
  funext y
  refine (Memref.IsWhole.readAt_unread harg ..).trans ?_
  refine congrArg x (funext fun a => Fin.ext ?_)
  match a with
  | ⟨0, _⟩ =>
    show 0 + 1 * (y 0).val = (y 0).val
    omega
  | ⟨1, _⟩ =>
    show 0 + 1 * (y 1).val = (y 1).val
    omega

omit [FloatOps F] in
theorem ld3 {n0 n1 n2 : ℕ} {e : EltTy} {arg : Memref sig .tc .vmem ⟨3, ![n0, n1, n2]⟩ e} (harg : arg.IsWhole) (x : Vec F ⟨3, ![n0, n1, n2]⟩ e)
    (inb : ∀ a, (![0, 0, 0] : Fin 3 → ℕ) a + (![n0, n1, n2] : Fin 3 → ℕ) a ≤ (![n0, n1, n2] : Fin 3 → ℕ) a) :
    View.readAt (Elt F) arg.view (Rect.unit (s := ⟨3, ![n0, n1, n2]⟩) ![0, 0, 0] ![n0, n1, n2] inb).toLoadRect (harg.unread x) = x := by
  funext y
  refine (Memref.IsWhole.readAt_unread harg ..).trans ?_
  refine congrArg x (funext fun a => Fin.ext ?_)
  match a with
  | ⟨0, _⟩ =>
    show 0 + 1 * (y 0).val = (y 0).val
    omega
  | ⟨1, _⟩ =>
    show 0 + 1 * (y 1).val = (y 1).val
    omega
  | ⟨2, _⟩ =>
    show 0 + 1 * (y 2).val = (y 2).val
    omega

/-- One half of the gates' block. -/
def half (x : Vec F S1x256x2048 .bf16) (p : Fin 1024 → Fin 2048) : Vec F S1x256x1024 .bf16 := fun y => x (ix3 (0 : Fin 1) (y 1) (p (y 2)))

omit [FloatOps F] in
theorem ldlo {arg : Memref sig .tc .vmem S1x256x2048 .bf16} (harg : arg.IsWhole) (x : Vec F S1x256x2048 .bf16) :
    View.readAt (Elt F) arg.view (Rect.unit (s := S1x256x2048) ![0, 0, 0] S1x256x1024.size inb_S1x256x2048_S1x256x1024_0_0_0).toLoadRect (harg.unread x)
      = half x lo := by
  funext y
  refine (Memref.IsWhole.readAt_unread harg ..).trans ?_
  refine congrArg x (funext fun a => Fin.ext ?_)
  match a with
  | ⟨0, _⟩ =>
    have : (y 0).val < 1 := (y 0).isLt
    show 0 + 1 * (y 0).val = 0
    omega
  | ⟨1, _⟩ =>
    show 0 + 1 * (y 1).val = (y 1).val
    omega
  | ⟨2, _⟩ =>
    show 0 + 1 * (y 2).val = (y 2).val
    omega

omit [FloatOps F] in
theorem ldhi {arg : Memref sig .tc .vmem S1x256x2048 .bf16} (harg : arg.IsWhole) (x : Vec F S1x256x2048 .bf16) :
    View.readAt (Elt F) arg.view (Rect.unit (s := S1x256x2048) ![0, 0, 1024] S1x256x1024.size inb_S1x256x2048_S1x256x1024_0_0_1024).toLoadRect (harg.unread x)
      = half x hi := by
  funext y
  refine (Memref.IsWhole.readAt_unread harg ..).trans ?_
  refine congrArg x (funext fun a => Fin.ext ?_)
  match a with
  | ⟨0, _⟩ =>
    have : (y 0).val < 1 := (y 0).isLt
    show 0 + 1 * (y 0).val = 0
    omega
  | ⟨1, _⟩ =>
    show 0 + 1 * (y 1).val = (y 1).val
    omega
  | ⟨2, _⟩ =>
    show 1024 + 1 * (y 2).val = 1024 + (y 2).val
    omega

/-! ## What the body stores -/

variable (c : Dev nD) (i : grid0.Coords)
  (arg2 : Memref sig .tc .vmem S1x256x512 .bf16) (harg2 : arg2.IsWhole)
  (arg3 : Memref sig .tc .vmem S1x256x512 .bf16) (harg3 : arg3.IsWhole)
  (arg4 : Memref sig .tc .vmem S1x256x2048 .bf16) (harg4 : arg4.IsWhole)
  (arg5 : Memref sig .tc .vmem S1x256x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S512x1024 .bf16) (harg10 : arg10.IsWhole)
  (arg11 : Memref sig .tc .vmem S512x1024 .bf16) (harg11 : arg11.IsWhole)
  (arg12 : Memref sig .tc .vmem S1024x1024 .bf16) (harg12 : arg12.IsWhole)
  (arg13 : Memref sig .tc .vmem S1024x2048 .bf16) (harg13 : arg13.IsWhole)
  (arg14 : Memref sig .tc .vmem S16x128x128 .bf16) (harg14 : arg14.IsWhole)
  (arg15 : Memref sig .tc .vmem S1x256x1024 .f32) (harg15 : arg15.IsWhole)
  (arg16 : Memref sig .tc .vmem S1x256x1024 .f32) (harg16 : arg16.IsWhole)
  (arg17 : Memref sig .tc .vmem S256x128 .i32) (harg17 : arg17.IsWhole)
  (arg18 : Memref sig .tc .vmem S256x128 .f32) (harg18 : arg18.IsWhole)
  (arg19 : Memref sig .tc .vmem S256x2048 .bf16) (harg19 : arg19.IsWhole)
  (x0 : Vec F S1x256x512 .bf16) (x1 : Vec F S1x256x512 .bf16) (x2 : Vec F S1x256x2048 .bf16) (x3 : Vec F S1x256x1024 .f32) (x4 : Vec F S1x1x1024 .f32) (x5 : Vec F S1x1x1024 .f32) (x6 : Vec F S1x1x1024 .f32) (x7 : Vec F S1x1024 .f32) (x8 : Vec F S512x1024 .bf16) (x9 : Vec F S512x1024 .bf16) (x10 : Vec F S1024x1024 .bf16) (x11 : Vec F S1024x2048 .bf16) (x12 : Vec F S16x128x128 .bf16)

/-- The block of the new residual stream, without its leading axis. -/
def blk : FVec F S256x1024 .f32 := k0_pay3 x0 x8 x1 x9 (half x2 lo) (half x2 hi) x3 x4 x10

/-- The pieces of the two outputs. -/
theorem pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12).1 =
    [⟨Rect.unit ![0, 0, 0] S1x256x1024.size inb_S1x256x1024_S1x256x1024_0_0_0, k0_pay4 (blk x0 x1 x2 x3 x4 x8 x9 x10)⟩] := by
  unfold blk
  rw [← ldlo harg4 x2, ← ldhi harg4 x2]
  have w0 := ld3 harg2 x0 inb_S1x256x512_S1x256x512_0_0_0
  have w1 := ld3 harg3 x1 inb_S1x256x512_S1x256x512_0_0_0
  have w3 := ld3 harg5 x3 inb_S1x256x1024_S1x256x1024_0_0_0
  have w4 := ld3 harg6 x4 inb_S1x1x1024_S1x1x1024_0_0_0
  have w8 := ld2 harg10 x8 inb_S512x1024_S512x1024_0_0
  have w9 := ld2 harg11 x9 inb_S512x1024_S512x1024_0_0
  have w10 := ld2 harg12 x10 inb_S1024x1024_S1024x1024_0_0
  conv_rhs => rw [← w0, ← w1, ← w3, ← w4, ← w8, ← w9, ← w10]
  rfl

theorem pieces14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12).2.1 =
    [⟨Rect.unit ![0, 0, 0] S1x256x1024.size inb_S1x256x1024_S1x256x1024_0_0_0, k0_pay6 (blk x0 x1 x2 x3 x4 x8 x9 x10) x7 x5 x6⟩] := by
  unfold blk
  rw [← ldlo harg4 x2, ← ldhi harg4 x2]
  have w0 := ld3 harg2 x0 inb_S1x256x512_S1x256x512_0_0_0
  have w1 := ld3 harg3 x1 inb_S1x256x512_S1x256x512_0_0_0
  have w3 := ld3 harg5 x3 inb_S1x256x1024_S1x256x1024_0_0_0
  have w4 := ld3 harg6 x4 inb_S1x1x1024_S1x1x1024_0_0_0
  have w5 := ld3 harg7 x5 inb_S1x1x1024_S1x1x1024_0_0_0
  have w6 := ld3 harg8 x6 inb_S1x1x1024_S1x1x1024_0_0_0
  have w7 := ld2 harg9 x7 inb_S1x1024_S1x1024_0_0
  have w8 := ld2 harg10 x8 inb_S512x1024_S512x1024_0_0
  have w9 := ld2 harg11 x9 inb_S512x1024_S512x1024_0_0
  have w10 := ld2 harg12 x10 inb_S1024x1024_S1024x1024_0_0
  conv_rhs => rw [← w0, ← w1, ← w3, ← w4, ← w5, ← w6, ← w7, ← w8, ← w9, ← w10]
  rfl

omit [FloatOps F] in
theorem whole_emb (x : S1x256x1024.Idx) :
    x = (Rect.unit (s := S1x256x1024) ![0, 0, 0] S1x256x1024.size inb_S1x256x1024_S1x256x1024_0_0_0).emb x := by
  funext a
  apply Fin.ext
  match a with
  | ⟨0, _⟩ =>
    show (x 0).val = 0 + 1 * (x 0).val
    omega
  | ⟨1, _⟩ =>
    show (x 1).val = 0 + 1 * (x 1).val
    omega
  | ⟨2, _⟩ =>
    show (x 2).val = 0 + 1 * (x 2).val
    omega

theorem out13_eq : (out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12) = k0_pay4 (blk x0 x1 x2 x3 x4 x8 x9 x10) := by
  funext y
  unfold out0_A_13
  refine View.read_writes_apply_of_pieces _ _ _ _ ?_ y (cover0_A_13 ..)
  rw [pieces13]
  intro p hp x
  rw [List.mem_singleton] at hp
  subst hp
  exact congrArg (k0_pay4 (blk x0 x1 x2 x3 x4 x8 x9 x10)) (whole_emb x)

theorem out14_eq : (out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12) = k0_pay6 (blk x0 x1 x2 x3 x4 x8 x9 x10) x7 x5 x6 := by
  funext y
  unfold out0_A_14
  refine View.read_writes_apply_of_pieces _ _ _ _ ?_ y (cover0_A_14 ..)
  rw [pieces14]
  intro p hp x
  rw [List.mem_singleton] at hp
  subst hp
  exact congrArg (k0_pay6 (blk x0 x1 x2 x3 x4 x8 x9 x10) x7 x5 x6) (whole_emb x)

end Loads

section Out

variable {F : FTy → Type} [FloatOps F] (m : (ℓ : Loc nD τ sig) → Buf (Elt F) ℓ)

/-- A point's block of the new residual stream. -/
def pblk (c : Dev nD) (t : Fin cfg0.N) : FVec F S256x1024 .f32 :=
  blk (iblk m c 0 t) (iblk m c 1 t) (iblk m c 2 t) (iblk m c 3 t) (iblk m c 4 t) (iblk m c 8 t) (iblk m c 9 t) (iblk m c 10 t)

theorem outs13 (c : Dev nD) (t : Fin cfg0.N) : (outsAt0 m c t).1 = k0_pay4 (pblk m c t) := by
  unfold outsAt0 pblk
  dsimp only
  rw [out13_eq]

theorem outs14 (c : Dev nD) (t : Fin cfg0.N) : (outsAt0 m c t).2.1 = k0_pay6 (pblk m c t) (iblk m c 7 t) (iblk m c 5 t) (iblk m c 6 t) := by
  unfold outsAt0 pblk
  dsimp only
  rw [out14_eq]

end Out

/-! ## Entries of a block -/

theorem blk_apply (x0 x1 : Vec Ideal S1x256x512 .bf16) (x2 : Vec Ideal S1x256x2048 .bf16) (x3 : Vec Ideal S1x256x1024 .f32)
    (x4 : Vec Ideal S1x1x1024 .f32) (x8 x9 : Vec Ideal S512x1024 .bf16) (x10 : Vec Ideal S1024x1024 .bf16) (r : Fin 256) (l : Fin 1024) :
    (blk x0 x1 x2 x3 x4 x8 x9 x10 (ix2 r l) : EReal)
      = stream (fun k => x3 (ix3 (0 : Fin 1) r k)) (fun k => x4 (ix3 (0 : Fin 1) (0 : Fin 1) k))
          (merged (fun k => x0 (ix3 (0 : Fin 1) r k)) (fun k => x1 (ix3 (0 : Fin 1) r k)) (fun k n => x8 (ix2 k n)) (fun k n => x9 (ix2 k n))
            (fun n => x2 (ix3 (0 : Fin 1) r (lo n))) (fun n => x2 (ix3 (0 : Fin 1) r (hi n))))
          (fun n k => x10 (ix2 n k)) l := by
  unfold stream merged branch
  pointwise [blk, k0_pay3, half]

theorem lead_apply (Y : FVec Ideal S256x1024 .f32) (r : Fin 256) (l : Fin 1024) : (k0_pay4 Y (ix3 (0 : Fin 1) r l) : EReal) = Y (ix2 r l) := by
  pointwise [k0_pay4]

theorem norm_apply (Y : FVec Ideal S256x1024 .f32) (x7 : Vec Ideal S1x1024 .f32) (x5 x6 : Vec Ideal S1x1x1024 .f32) (r : Fin 256) (l : Fin 1024) :
    (k0_pay6 Y x7 x5 x6 (ix3 (0 : Fin 1) r l) : EReal)
      = Proj.hrow (fun k => Y (ix2 r k)) (fun k => x7 (ix2 (0 : Fin 1) k)) (fun k => x5 (ix3 (0 : Fin 1) (0 : Fin 1) k))
          (fun k => x6 (ix3 (0 : Fin 1) (0 : Fin 1) k)) l := by
  unfold Proj.hrow
  pointwise [k0_pay6, k0_pay5]

/-! ## The arrays and the windows -/

variable (m : (ℓ : Loc nD τ sig) → Buf (Elt Ideal) ℓ) (ρ : Dev nD → PrngReg)

theorem lt256 (t : Fin cfg0.N) : t.val < 256 := lt_of_lt_of_eq t.isLt N_0

theorem co0 (t : Fin cfg0.N) : ((grid0.coords t) 0).val = t.val / 8 := by
  have h := lt256 t
  have := Pipeline.Grid.coords_val (G := grid0) t 0 (S := 8) (B := 32) (by decide) (by decide)
  omega

theorem co1 (t : Fin cfg0.N) : ((grid0.coords t) 1).val = t.val % 8 := by
  have := Pipeline.Grid.coords_val (G := grid0) t 1 (S := 1) (B := 8) (by decide) (by decide)
  omega

theorem toN (n : ℕ) (h : n < 256) : (BitVec.ofNat 32 n).toNat = n := by
  rw [BitVec.toNat_ofNat]; omega

theorem n0 (t : Fin cfg0.N) : (BitVec.ofNat 32 ((grid0.coords t) 0).val).toNat = t.val / 8 := by
  have h := lt256 t
  rw [co0, toN _ (by omega)]

theorem n1 (t : Fin cfg0.N) : (BitVec.ofNat 32 ((grid0.coords t) 1).val).toNat = t.val % 8 := by
  rw [co1, toN _ (by omega)]

/-- A point's batch entry and a row of its block. -/
def bOf (t : Fin cfg0.N) : Fin 32 := ⟨t.val / 8, by have h := lt256 t; omega⟩
def rowOf (t : Fin cfg0.N) (r : Fin 256) : Fin 2048 := ⟨t.val % 8 * 256 + r.val, by omega⟩

/-- Every entry's row is in some point's block. -/
theorem cover (b : Fin 32) (n : Fin 2048) : ∃ (t : Fin cfg0.N) (r : Fin 256), b = bOf t ∧ n = rowOf t r := by
  have hb := b.isLt
  have hn := n.isLt
  refine ⟨⟨8 * b.val + n.val / 256, lt_of_lt_of_eq (by omega) N_0.symm⟩, ⟨n.val % 256, by omega⟩, Fin.ext ?_, Fin.ext ?_⟩
  · show b.val = (8 * b.val + n.val / 256) / 8
    omega
  · show n.val = (8 * b.val + n.val / 256) % 8 * 256 + n.val % 256
    omega

theorem ix13 (t : Fin cfg0.N) : win0_13.index t 0 = t.val / 8 ∧ win0_13.index t 1 = t.val % 8 := ⟨n0 t, n1 t⟩

theorem idx_inj13 (t t' : Fin cfg0.N) (h : win0_13.index t = win0_13.index t') : t = t' := by
  have h0 := congrFun h 0
  have h1 := congrFun h 1
  rw [(ix13 t).1, (ix13 t').1] at h0
  rw [(ix13 t).2, (ix13 t').2] at h1
  exact Fin.ext (by omega)

theorem arr13 (c : Dev nD) (t : Fin cfg0.N) (r : Fin 256) (l : Fin 1024) :
    ((dats m 0 c).arrAt 13 cfg0.N : Vec Ideal S32x2048x1024 .f32) (ix3 (bOf t) (rowOf t r) l)
      = (outsAt0 m c t).1 (ix3 (0 : Fin 1) r l) := by
  have e := congrFun (((dats m 0 c).read_blk_arrAt_eq_flushed 13 (fun t t' _ _ hne => (cfg0.win 13).disjoint_blk fun h => hne (idx_inj13 t t' h))
    cfg0.N t t.isLt (flush0_13 t)).trans (Value.flushed13 m c t)) (ix3 (0 : Fin 1) r l)
  rw [View.read_apply] at e
  refine Eq.trans (congrArg ((dats m 0 c).arrAt 13 cfg0.N : Vec Ideal S32x2048x1024 .f32) (funext fun a => Fin.ext ?_)) e
  match a with
  | ⟨0, _⟩ =>
    show t.val / 8 = (BitVec.ofNat 32 ((grid0.coords t) 0).val).toNat * 1 + 1 * 0
    rw [n0]; omega
  | ⟨1, _⟩ =>
    show t.val % 8 * 256 + r.val = (BitVec.ofNat 32 ((grid0.coords t) 1).val).toNat * 256 + 1 * r.val
    rw [n1]; omega
  | ⟨2, _⟩ =>
    show l.val = 0 * 1024 + 1 * l.val
    omega

theorem ix14 (t : Fin cfg0.N) : win0_14.index t 0 = t.val / 8 ∧ win0_14.index t 1 = t.val % 8 := ⟨n0 t, n1 t⟩

theorem idx_inj14 (t t' : Fin cfg0.N) (h : win0_14.index t = win0_14.index t') : t = t' := by
  have h0 := congrFun h 0
  have h1 := congrFun h 1
  rw [(ix14 t).1, (ix14 t').1] at h0
  rw [(ix14 t).2, (ix14 t').2] at h1
  exact Fin.ext (by omega)

theorem arr14 (c : Dev nD) (t : Fin cfg0.N) (r : Fin 256) (l : Fin 1024) :
    ((dats m 0 c).arrAt 14 cfg0.N : Vec Ideal S32x2048x1024 .f32) (ix3 (bOf t) (rowOf t r) l)
      = (outsAt0 m c t).2.1 (ix3 (0 : Fin 1) r l) := by
  have e := congrFun (((dats m 0 c).read_blk_arrAt_eq_flushed 14 (fun t t' _ _ hne => (cfg0.win 14).disjoint_blk fun h => hne (idx_inj14 t t' h))
    cfg0.N t t.isLt (flush0_14 t)).trans (Value.flushed14 m c t)) (ix3 (0 : Fin 1) r l)
  rw [View.read_apply] at e
  refine Eq.trans (congrArg ((dats m 0 c).arrAt 14 cfg0.N : Vec Ideal S32x2048x1024 .f32) (funext fun a => Fin.ext ?_)) e
  match a with
  | ⟨0, _⟩ =>
    show t.val / 8 = (BitVec.ofNat 32 ((grid0.coords t) 0).val).toNat * 1 + 1 * 0
    rw [n0]; omega
  | ⟨1, _⟩ =>
    show t.val % 8 * 256 + r.val = (BitVec.ofNat 32 ((grid0.coords t) 1).val).toNat * 256 + 1 * r.val
    rw [n1]; omega
  | ⟨2, _⟩ =>
    show l.val = 0 * 1024 + 1 * l.val
    omega

theorem iblk0 (c : Dev nD) (t : Fin cfg0.N) (r : Fin 256) (l : Fin 512) :
    (iblk m c 0 t : Vec Ideal S1x256x512 .bf16) (ix3 (0 : Fin 1) r l)
      = (m ((c : Thread nD τ).loc main_arg0) : Vec Ideal S32x2048x512 .bf16) (ix3 (bOf t) (rowOf t r) l) := by
  unfold iblk
  rw [View.read_apply]
  show V m c main_arg0 _ = _
  rw [V_main_arg0]
  refine congrArg (m ((c : Thread nD τ).loc main_arg0)) (funext fun a => Fin.ext ?_)
  match a with
  | ⟨0, _⟩ =>
    show (BitVec.ofNat 32 ((grid0.coords t) 0).val).toNat * 1 + 1 * 0 = t.val / 8
    rw [n0]; omega
  | ⟨1, _⟩ =>
    show (BitVec.ofNat 32 ((grid0.coords t) 1).val).toNat * 256 + 1 * r.val = t.val % 8 * 256 + r.val
    rw [n1]; omega
  | ⟨2, _⟩ =>
    show 0 * 512 + 1 * l.val = l.val
    omega

theorem iblk1 (c : Dev nD) (t : Fin cfg0.N) (r : Fin 256) (l : Fin 512) :
    (iblk m c 1 t : Vec Ideal S1x256x512 .bf16) (ix3 (0 : Fin 1) r l)
      = (m ((c : Thread nD τ).loc main_arg1) : Vec Ideal S32x2048x512 .bf16) (ix3 (bOf t) (rowOf t r) l) := by
  unfold iblk
  rw [View.read_apply]
  show V m c main_arg1 _ = _
  rw [V_main_arg1]
  refine congrArg (m ((c : Thread nD τ).loc main_arg1)) (funext fun a => Fin.ext ?_)
  match a with
  | ⟨0, _⟩ =>
    show (BitVec.ofNat 32 ((grid0.coords t) 0).val).toNat * 1 + 1 * 0 = t.val / 8
    rw [n0]; omega
  | ⟨1, _⟩ =>
    show (BitVec.ofNat 32 ((grid0.coords t) 1).val).toNat * 256 + 1 * r.val = t.val % 8 * 256 + r.val
    rw [n1]; omega
  | ⟨2, _⟩ =>
    show 0 * 512 + 1 * l.val = l.val
    omega

theorem iblk2 (c : Dev nD) (t : Fin cfg0.N) (r : Fin 256) (l : Fin 2048) :
    (iblk m c 2 t : Vec Ideal S1x256x2048 .bf16) (ix3 (0 : Fin 1) r l)
      = (m ((c : Thread nD τ).loc main_arg2) : Vec Ideal S32x2048x2048 .bf16) (ix3 (bOf t) (rowOf t r) l) := by
  unfold iblk
  rw [View.read_apply]
  show V m c main_arg2 _ = _
  rw [V_main_arg2]
  refine congrArg (m ((c : Thread nD τ).loc main_arg2)) (funext fun a => Fin.ext ?_)
  match a with
  | ⟨0, _⟩ =>
    show (BitVec.ofNat 32 ((grid0.coords t) 0).val).toNat * 1 + 1 * 0 = t.val / 8
    rw [n0]; omega
  | ⟨1, _⟩ =>
    show (BitVec.ofNat 32 ((grid0.coords t) 1).val).toNat * 256 + 1 * r.val = t.val % 8 * 256 + r.val
    rw [n1]; omega
  | ⟨2, _⟩ =>
    show 0 * 2048 + 1 * l.val = l.val
    omega

theorem iblk3 (c : Dev nD) (t : Fin cfg0.N) (r : Fin 256) (l : Fin 1024) :
    (iblk m c 3 t : Vec Ideal S1x256x1024 .f32) (ix3 (0 : Fin 1) r l)
      = (m ((c : Thread nD τ).loc main_arg3) : Vec Ideal S32x2048x1024 .f32) (ix3 (bOf t) (rowOf t r) l) := by
  unfold iblk
  rw [View.read_apply]
  show V m c main_arg3 _ = _
  rw [V_main_arg3]
  refine congrArg (m ((c : Thread nD τ).loc main_arg3)) (funext fun a => Fin.ext ?_)
  match a with
  | ⟨0, _⟩ =>
    show (BitVec.ofNat 32 ((grid0.coords t) 0).val).toNat * 1 + 1 * 0 = t.val / 8
    rw [n0]; omega
  | ⟨1, _⟩ =>
    show (BitVec.ofNat 32 ((grid0.coords t) 1).val).toNat * 256 + 1 * r.val = t.val % 8 * 256 + r.val
    rw [n1]; omega
  | ⟨2, _⟩ =>
    show 0 * 1024 + 1 * l.val = l.val
    omega

theorem iblk7 (c : Dev nD) (t : Fin cfg0.N) (l : Fin 1024) :
    (iblk m c 7 t : Vec Ideal S1x1024 .f32) (ix2 (0 : Fin 1) l) = (m ((c : Thread nD τ).loc main_arg7) : Vec Ideal S1x1024 .f32) (ix2 (0 : Fin 1) l) := by
  unfold iblk
  rw [View.read_apply]
  show V m c main_arg7 _ = _
  rw [V_main_arg7]
  refine congrArg (m ((c : Thread nD τ).loc main_arg7)) (funext fun a => Fin.ext ?_)
  match a with
  | ⟨0, _⟩ => rfl
  | ⟨1, _⟩ =>
    show 0 * 1024 + 1 * l.val = l.val
    omega

theorem vec_apply (A : Vec Ideal S32x1024 .f32) (b : Fin 32) (l : Fin 1024) :
    shapeCast S32x1x1024 A shapeCasts_S32x1024_S32x1x1024 (ix3 b (0 : Fin 1) l) = A (ix2 b l) := by
  pointwise []

theorem V0 (c : Dev nD) : (V m c main_v0 : Vec Ideal S32x1x1024 .f32)
    = shapeCast S32x1x1024 (m ((c : Thread nD τ).loc main_arg4) : Vec Ideal S32x1024 .f32) shapeCasts_S32x1024_S32x1x1024 := by
  unfold V hostOps0
  after_results
  rfl

theorem read4 (t : Fin cfg0.N) (A : Vec Ideal S32x1x1024 .f32) (l : Fin 1024) :
    (((cfg0.win 4).blk t).view.read (Elt Ideal) A : Vec Ideal S1x1x1024 .f32) (ix3 (0 : Fin 1) (0 : Fin 1) l) = A (ix3 (bOf t) (0 : Fin 1) l) := by
  rw [View.read_apply]
  refine congrArg A (funext fun a => Fin.ext ?_)
  match a with
  | ⟨0, _⟩ =>
    show (BitVec.ofNat 32 ((grid0.coords t) 0).val).toNat * 1 + 1 * 0 = t.val / 8
    rw [n0]; omega
  | ⟨1, _⟩ => rfl
  | ⟨2, _⟩ =>
    show 0 * 1024 + 1 * l.val = l.val
    omega

theorem iblk4 (c : Dev nD) (t : Fin cfg0.N) (l : Fin 1024) :
    (iblk m c 4 t : Vec Ideal S1x1x1024 .f32) (ix3 (0 : Fin 1) (0 : Fin 1) l)
      = (m ((c : Thread nD τ).loc main_arg4) : Vec Ideal S32x1024 .f32) (ix2 (bOf t) l) := by
  unfold iblk
  refine (read4 t _ l).trans ?_
  refine (congrFun (V0 m c) _).trans ?_
  exact vec_apply _ (bOf t) l

theorem V1 (c : Dev nD) : (V m c main_v1 : Vec Ideal S32x1x1024 .f32)
    = shapeCast S32x1x1024 (m ((c : Thread nD τ).loc main_arg5) : Vec Ideal S32x1024 .f32) shapeCasts_S32x1024_S32x1x1024 := by
  unfold V hostOps0
  after_results
  rfl

theorem read5 (t : Fin cfg0.N) (A : Vec Ideal S32x1x1024 .f32) (l : Fin 1024) :
    (((cfg0.win 5).blk t).view.read (Elt Ideal) A : Vec Ideal S1x1x1024 .f32) (ix3 (0 : Fin 1) (0 : Fin 1) l) = A (ix3 (bOf t) (0 : Fin 1) l) := by
  rw [View.read_apply]
  refine congrArg A (funext fun a => Fin.ext ?_)
  match a with
  | ⟨0, _⟩ =>
    show (BitVec.ofNat 32 ((grid0.coords t) 0).val).toNat * 1 + 1 * 0 = t.val / 8
    rw [n0]; omega
  | ⟨1, _⟩ => rfl
  | ⟨2, _⟩ =>
    show 0 * 1024 + 1 * l.val = l.val
    omega

theorem iblk5 (c : Dev nD) (t : Fin cfg0.N) (l : Fin 1024) :
    (iblk m c 5 t : Vec Ideal S1x1x1024 .f32) (ix3 (0 : Fin 1) (0 : Fin 1) l)
      = (m ((c : Thread nD τ).loc main_arg5) : Vec Ideal S32x1024 .f32) (ix2 (bOf t) l) := by
  unfold iblk
  refine (read5 t _ l).trans ?_
  refine (congrFun (V1 m c) _).trans ?_
  exact vec_apply _ (bOf t) l

theorem V2 (c : Dev nD) : (V m c main_v2 : Vec Ideal S32x1x1024 .f32)
    = shapeCast S32x1x1024 (m ((c : Thread nD τ).loc main_arg6) : Vec Ideal S32x1024 .f32) shapeCasts_S32x1024_S32x1x1024 := by
  unfold V hostOps0
  after_results
  rfl

theorem read6 (t : Fin cfg0.N) (A : Vec Ideal S32x1x1024 .f32) (l : Fin 1024) :
    (((cfg0.win 6).blk t).view.read (Elt Ideal) A : Vec Ideal S1x1x1024 .f32) (ix3 (0 : Fin 1) (0 : Fin 1) l) = A (ix3 (bOf t) (0 : Fin 1) l) := by
  rw [View.read_apply]
  refine congrArg A (funext fun a => Fin.ext ?_)
  match a with
  | ⟨0, _⟩ =>
    show (BitVec.ofNat 32 ((grid0.coords t) 0).val).toNat * 1 + 1 * 0 = t.val / 8
    rw [n0]; omega
  | ⟨1, _⟩ => rfl
  | ⟨2, _⟩ =>
    show 0 * 1024 + 1 * l.val = l.val
    omega

theorem iblk6 (c : Dev nD) (t : Fin cfg0.N) (l : Fin 1024) :
    (iblk m c 6 t : Vec Ideal S1x1x1024 .f32) (ix3 (0 : Fin 1) (0 : Fin 1) l)
      = (m ((c : Thread nD τ).loc main_arg6) : Vec Ideal S32x1024 .f32) (ix2 (bOf t) l) := by
  unfold iblk
  refine (read6 t _ l).trans ?_
  refine (congrFun (V2 m c) _).trans ?_
  exact vec_apply _ (bOf t) l

theorem cast512_apply (A : FVec Ideal S1x512x1024 .f32) (k : Fin 512) (l : Fin 1024) :
    ((truncf .bf16 (shapeCast S512x1024 A shapeCasts_S1x512x1024_S512x1024) bitsLt_bf16_f32 : FVec Ideal S512x1024 .bf16) (ix2 k l) : EReal) = A (ix3 (0 : Fin 1) k l) := by
  pointwise []

theorem V7 (c : Dev nD) : (V m c main_v7 : FVec Ideal S512x1024 .bf16)
    = (truncf .bf16 (shapeCast S512x1024 (m ((c : Thread nD τ).loc main_arg8) : FVec Ideal S1x512x1024 .f32) shapeCasts_S1x512x1024_S512x1024) bitsLt_bf16_f32 : FVec Ideal S512x1024 .bf16) := by
  unfold V hostOps0
  after_results
  rfl

theorem read8 (t : Fin cfg0.N) (A : Vec Ideal S512x1024 .bf16) (k : Fin 512) (l : Fin 1024) :
    (((cfg0.win 8).blk t).view.read (Elt Ideal) A : Vec Ideal S512x1024 .bf16) (ix2 k l) = A (ix2 k l) := by
  rw [View.read_apply]
  refine congrArg A (funext fun a => Fin.ext ?_)
  match a with
  | ⟨0, _⟩ =>
    show 0 * 512 + 1 * k.val = k.val
    omega
  | ⟨1, _⟩ =>
    show 0 * 1024 + 1 * l.val = l.val
    omega

theorem iblk8 (c : Dev nD) (t : Fin cfg0.N) (k : Fin 512) (l : Fin 1024) :
    ((iblk m c 8 t : Vec Ideal S512x1024 .bf16) (ix2 k l) : EReal)
      = (m ((c : Thread nD τ).loc main_arg8) : Vec Ideal S1x512x1024 .f32) (ix3 (0 : Fin 1) k l) := by
  unfold iblk
  refine (read8 t _ k l).trans ?_
  refine (congrFun (V7 m c) _).trans ?_
  exact cast512_apply _ k l

theorem V9 (c : Dev nD) : (V m c main_v9 : FVec Ideal S512x1024 .bf16)
    = (truncf .bf16 (shapeCast S512x1024 (m ((c : Thread nD τ).loc main_arg9) : FVec Ideal S1x512x1024 .f32) shapeCasts_S1x512x1024_S512x1024) bitsLt_bf16_f32 : FVec Ideal S512x1024 .bf16) := by
  unfold V hostOps0
  after_results
  rfl

theorem read9 (t : Fin cfg0.N) (A : Vec Ideal S512x1024 .bf16) (k : Fin 512) (l : Fin 1024) :
    (((cfg0.win 9).blk t).view.read (Elt Ideal) A : Vec Ideal S512x1024 .bf16) (ix2 k l) = A (ix2 k l) := by
  rw [View.read_apply]
  refine congrArg A (funext fun a => Fin.ext ?_)
  match a with
  | ⟨0, _⟩ =>
    show 0 * 512 + 1 * k.val = k.val
    omega
  | ⟨1, _⟩ =>
    show 0 * 1024 + 1 * l.val = l.val
    omega

theorem iblk9 (c : Dev nD) (t : Fin cfg0.N) (k : Fin 512) (l : Fin 1024) :
    ((iblk m c 9 t : Vec Ideal S512x1024 .bf16) (ix2 k l) : EReal)
      = (m ((c : Thread nD τ).loc main_arg9) : Vec Ideal S1x512x1024 .f32) (ix3 (0 : Fin 1) k l) := by
  unfold iblk
  refine (read9 t _ k l).trans ?_
  refine (congrFun (V9 m c) _).trans ?_
  exact cast512_apply _ k l

theorem cast1024_apply (A : FVec Ideal S1x1024x1024 .f32) (k : Fin 1024) (l : Fin 1024) :
    ((truncf .bf16 (shapeCast S1024x1024 A shapeCasts_S1x1024x1024_S1024x1024) bitsLt_bf16_f32 : FVec Ideal S1024x1024 .bf16) (ix2 k l) : EReal) = A (ix3 (0 : Fin 1) k l) := by
  pointwise []

theorem V11 (c : Dev nD) : (V m c main_v11 : FVec Ideal S1024x1024 .bf16)
    = (truncf .bf16 (shapeCast S1024x1024 (m ((c : Thread nD τ).loc main_arg10) : FVec Ideal S1x1024x1024 .f32) shapeCasts_S1x1024x1024_S1024x1024) bitsLt_bf16_f32 : FVec Ideal S1024x1024 .bf16) := by
  unfold V hostOps0
  after_results
  rfl

theorem read10 (t : Fin cfg0.N) (A : Vec Ideal S1024x1024 .bf16) (k : Fin 1024) (l : Fin 1024) :
    (((cfg0.win 10).blk t).view.read (Elt Ideal) A : Vec Ideal S1024x1024 .bf16) (ix2 k l) = A (ix2 k l) := by
  rw [View.read_apply]
  refine congrArg A (funext fun a => Fin.ext ?_)
  match a with
  | ⟨0, _⟩ =>
    show 0 * 1024 + 1 * k.val = k.val
    omega
  | ⟨1, _⟩ =>
    show 0 * 1024 + 1 * l.val = l.val
    omega

theorem iblk10 (c : Dev nD) (t : Fin cfg0.N) (k : Fin 1024) (l : Fin 1024) :
    ((iblk m c 10 t : Vec Ideal S1024x1024 .bf16) (ix2 k l) : EReal)
      = (m ((c : Thread nD τ).loc main_arg10) : Vec Ideal S1x1024x1024 .f32) (ix3 (0 : Fin 1) k l) := by
  unfold iblk
  refine (read10 t _ k l).trans ?_
  refine (congrFun (V11 m c) _).trans ?_
  exact cast1024_apply _ k l

/-! ## The two arrays -/

/-- An entry of a point's block is the reference's. -/
theorem pblk_eq (c : Dev nD) (t : Fin cfg0.N) (r : Fin 256) (l : Fin 1024) :
    (pblk m c t (ix2 r l) : EReal)
      = (streamT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) : FVec Ideal S32x2048x1024 .f32) (ix3 (bOf t) (rowOf t r) l) := by
  unfold pblk
  refine (blk_apply _ _ _ _ _ _ _ _ r l).trans ?_
  refine Eq.trans ?_ (stream_apply _ _ _ _ _ _ _ _ (bOf t) (rowOf t r) l).symm
  simp only [iblk0, iblk1, iblk2, iblk3, iblk4, iblk8, iblk9, iblk10]

theorem final13 (c : Dev nD) : ((dats m 0 c).arrAt 13 cfg0.N : Vec Ideal S32x2048x1024 .f32)
    = (streamT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) : FVec Ideal S32x2048x1024 .f32) := by
  funext j
  idx_vars j
  generalize j0 = b, j1 = n, j2 = l
  obtain ⟨t, r, rfl, rfl⟩ := cover b n
  refine (arr13 m c t r l).trans ?_
  rw [outs13]
  exact (lead_apply _ r l).trans (pblk_eq m c t r l)

theorem final14 (c : Dev nD) : ((dats m 0 c).arrAt 14 cfg0.N : Vec Ideal S32x2048x1024 .f32)
    = rowsT (streamT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) : FVec Ideal S32x2048x1024 .f32)
        (m ((c : Thread nD τ).loc main_arg5)) (m ((c : Thread nD τ).loc main_arg6)) (m ((c : Thread nD τ).loc main_arg7)) := by
  funext j
  idx_vars j
  generalize j0 = b, j1 = n, j2 = l
  obtain ⟨t, r, rfl, rfl⟩ := cover b n
  refine (arr14 m c t r l).trans ?_
  rw [outs14]
  refine (norm_apply _ _ _ _ r l).trans ?_
  refine Eq.trans ?_ (rows_apply _ _ _ _ (bOf t) (rowOf t r) l).symm
  simp only [iblk5, iblk6, iblk7, pblk_eq]

end Cert.Kernel4Ideal.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Frame2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Frame2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Agree
public import proofs.«01_k».proof.Proof.Same2
public import proofs.«01_k».proof.Proof.Ada3
public import proofs.«01_k».proof.Proof.Mix4
public import Idealize.ShloMosaic.Adequacy
public import Idealize.ShloMosaic.Init

@[expose] public section

set_option maxRecDepth 16384

noncomputable section

namespace Cert.Proof

open Idealize.ShloMosaic Idealize.SL.Sem

instance : Cert.Pre_finite.Facts := Cert.Finite.facts

theorem frame_reference : Cert.quiescent_ReferenceIdeal := fun m g _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m g)

theorem frame_reference_finite : Cert.quiescent_ReferenceIdeal_pre_finite := fun m g _ => frame_reference m g trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m g m' g' hpre hagree
  refine ⟨fun c => Cert.KernelIdeal.Body.result m c, ?_, ?_⟩
  · exact (θ_run Cert.KernelIdeal.defs _ _).mono (fun _ h c => ⟨(h c).1.trans (Cert.KernelIdeal.Body.final m c), (h c).2⟩)
      (Cert.KernelIdeal.Value.run_blocks (F := Ideal) m g)
  refine (θ_run Cert.ReferenceIdeal.defs _ _).mono (fun _ h c => ⟨(h c).1.trans ?_, (h c).2⟩)
    (Cert.ReferenceIdeal.Value.run (F := Ideal) m' g')
  obtain ⟨e0, e1, e2, e3, e4, e5, e6, e7⟩ := hagree c
  refine (Cert.ReferenceIdeal.Row.out_eq m' c).trans ?_
  rw [e0, e1, e2, e3, e4, e5, e6, e7]
  exact (Cert.Equal.agree m m' c _ _ _ _ _ _ _ _ rfl rfl rfl rfl rfl rfl rfl rfl (hpre c)).symm

instance : Cert.Pre_finite2.Facts := Cert.Finite2.facts

theorem frame_reference2 : Cert.quiescent_Reference2Ideal := fun m g _ =>
  (θ_run (Cert.Reference2Ideal.defs (F := Ideal)) _ _).mono (fun r h => ⟨fun c => (h c).2.2.2.2.2.2.2.2.2.2,
      Idealize.ShloMosaic.sem_eq_zero_of_no_sems (by decide) r.2⟩)
    (Cert.Reference2Ideal.Parts.run_parts m g)

theorem frame_reference2_finite : Cert.quiescent_Reference2Ideal_pre_finite2 := fun m g _ => frame_reference2 m g trivial

set_option maxHeartbeats 8000000 in
theorem algebraic2 : Cert.algebraic_Kernel2Ideal_Reference2Ideal_pre_finite2 := by
  intro m g m' g' hpre hagree
  refine ⟨fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, fun c => (Cert.Kernel2Ideal.Gen.dats m 0 c).arrAt 21 Cert.Kernel2Ideal.cfg0.N, fun c => (Cert.Kernel2Ideal.Gen.dats m 0 c).arrAt 22 Cert.Kernel2Ideal.cfg0.N, Cert.Kernel2Ideal.Block.run m g, ?_⟩
  refine (θ_run Cert.Reference2Ideal.defs _ _).mono (fun r h c => ?_) (Cert.Reference2Ideal.Parts.run_parts m' g')
  obtain ⟨e0, e1, e2, e3, e4, e5, e6, e7, e8, e9⟩ := hagree c
  have E : Cert.Equal2.Args m c _ _ _ _ _ _ _ _ _ _ := ⟨e0.symm, e1.symm, e2.symm, e3.symm, e4.symm, e5.symm, e6.symm, e7.symm, e8.symm, e9.symm⟩
  have R := Cert.Equal2.reals_of m c _ _ _ _ _ _ _ _ _ _ E (hpre c)
  exact ⟨(h c).1.trans (Cert.Equal2.same13 m c _ _ _ _ _ _ _ _ _ _ E R),
    (h c).2.1.trans (Cert.Equal2.same14 m c _ _ _ _ _ _ _ _ _ _ E R),
    (h c).2.2.1.trans (Cert.Equal2.same15 m c _ _ _ _ _ _ _ _ _ _ E R),
    (h c).2.2.2.1.trans (Cert.Equal2.same16 m c _ _ _ _ _ _ _ _ _ _ E R),
    (h c).2.2.2.2.1.trans (Cert.Equal2.same17 m c _ _ _ _ _ _ _ _ _ _ E R),
    (h c).2.2.2.2.2.1.trans (Cert.Equal2.same18 m c _ _ _ _ _ _ _ _ _ _ E R),
    (h c).2.2.2.2.2.2.1.trans (Cert.Equal2.same19 m c _ _ _ _ _ _ _ _ _ _ E R),
    (h c).2.2.2.2.2.2.2.1.trans (Cert.Equal2.same20 m c _ _ _ _ _ _ _ _ _ _ E R),
    (h c).2.2.2.2.2.2.2.2.1.trans (Cert.Equal2.same21 m c _ _ _ _ _ _ _ _ _ _ E R),
    (h c).2.2.2.2.2.2.2.2.2.1.trans (Cert.Equal2.same22 m c _ _ _ _ _ _ _ _ _ _ E R),
    (h c).2.2.2.2.2.2.2.2.2.2⟩

theorem frame_reference3 : Cert.quiescent_Reference3Ideal := fun m g _ =>
  (θ_run (Cert.Reference3Ideal.defs (F := Ideal)) _ _).mono (fun r h => ⟨fun c => (h c).2,
      Idealize.ShloMosaic.sem_eq_zero_of_no_sems (by decide) r.2⟩)
    (Cert.Reference3Ideal.Value.run (F := Ideal) m g)

theorem algebraic3 : Cert.algebraic_Kernel3Ideal_Reference3Ideal := by
  intro m g m' g' _ hagree
  refine ⟨fun c => (Cert.Kernel3Ideal.Gen.dats m 0 c).arrAt 3 Cert.Kernel3Ideal.cfg0.N, Cert.Kernel3Ideal.Value.run_blocks (F := Ideal) m g, ?_⟩
  refine (θ_run Cert.Reference3Ideal.defs _ _).mono (fun r h c => ⟨(h c).1.trans ?_, (h c).2⟩)
    (Cert.Reference3Ideal.Value.run (F := Ideal) m' g')
  obtain ⟨e0, e1, e2⟩ := hagree c
  rw [e0, e1, e2]
  exact (Cert.Kernel3Ideal.Ada.final m c).symm

theorem frame_reference4 : Cert.quiescent_Reference4Ideal := fun m g _ =>
  (θ_run (Cert.Reference4Ideal.defs (F := Ideal)) _ _).mono (fun r h => ⟨fun c => (h c).2.2,
      Idealize.ShloMosaic.sem_eq_zero_of_no_sems (by decide) r.2⟩)
    (Cert.Reference4Ideal.Value.run (F := Ideal) m g)

theorem algebraic4 : Cert.algebraic_Kernel4Ideal_Reference4Ideal := by
  intro m g m' g' _ hagree
  refine ⟨fun c => (Cert.Kernel4Ideal.Gen.dats m 0 c).arrAt 13 Cert.Kernel4Ideal.cfg0.N,
    fun c => (Cert.Kernel4Ideal.Gen.dats m 0 c).arrAt 14 Cert.Kernel4Ideal.cfg0.N,
    (θ_run Cert.Kernel4Ideal.defs _ _).mono (fun r h c => ⟨(h c).1, (h c).2.1, (h c).2.2.2.2⟩)
      (Cert.Kernel4Ideal.Value.run_blocks (F := Ideal) m g), ?_⟩
  refine (θ_run Cert.Reference4Ideal.defs _ _).mono (fun r h c => ⟨(h c).1.trans ?_, (h c).2.1.trans ?_, (h c).2.2⟩)
    (Cert.Reference4Ideal.Value.run (F := Ideal) m' g')
  · obtain ⟨e0, e1, e2, e3, e4, e5, e6, e7, e8, e9, e10, e11, e12⟩ := hagree c
    rw [e0, e1, e2, e3, e4, e8, e9, e10]
    exact (Cert.Kernel4Ideal.Mix.final13 m c).symm
  · obtain ⟨e0, e1, e2, e3, e4, e5, e6, e7, e8, e9, e10, e11, e12⟩ := hagree c
    refine (Cert.Reference4Ideal.Parts.v42_eq m' c).trans ?_
    rw [e0, e1, e2, e3, e4, e5, e6, e7, e8, e9, e10]
    exact (Cert.Kernel4Ideal.Mix.final14 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Finite.facts, Cert.Finite2.facts,
  fun m g _ => Cert.Kernel.Gen.frame m g,
  fun m g _ => Cert.KernelIdeal.Gen.frame m g,
  fun m g _ => Cert.KernelIdeal.Gen.frame m g,
  frame_reference, frame_reference_finite,
  fun m g _ => Cert.Kernel2.Gen.frame m g,
  fun m g _ => Cert.Kernel2Ideal.Gen.frame m g,
  fun m g _ => Cert.Kernel2Ideal.Gen.frame m g,
  frame_reference2, frame_reference2_finite,
  fun m g _ => Cert.Kernel3.Gen.frame m g,
  fun m g _ => Cert.Kernel3Ideal.Gen.frame m g,
  frame_reference3,
  fun m g _ => Cert.Kernel4.Gen.frame m g,
  fun m g _ => Cert.Kernel4Ideal.Gen.frame m g,
  frame_reference4,
  preserves, algebraic, trivial, algebraic2, trivial, algebraic3, trivial, algebraic4⟩

end Cert.Proof

end
